-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S_ : Shape := ⟨0, ![]⟩
abbrev S4096x8192 : Shape := ⟨2, ![4096, 8192]⟩
abbrev S4x1024x8192 : Shape := ⟨3, ![4, 1024, 8192]⟩
abbrev S1x1024x8192 : Shape := ⟨3, ![1, 1024, 8192]⟩
abbrev S1024x4096 : Shape := ⟨2, ![1024, 4096]⟩
abbrev S2 : Shape := ⟨1, ![2]⟩
abbrev S1 : Shape := ⟨1, ![1]⟩
abbrev S8x128 : Shape := ⟨2, ![8, 128]⟩
abbrev S4x8x128 : Shape := ⟨3, ![4, 8, 128]⟩
abbrev S3 : Shape := ⟨1, ![3]⟩
abbrev S1x8x128 : Shape := ⟨3, ![1, 8, 128]⟩
abbrev S256x8192 : Shape := ⟨2, ![256, 8192]⟩

abbrev nBuf : Space → Nat
  | .hbm => 297
  | .vmem => 6
  | .smem => 0
  | _ => 0

abbrev hbmTy0_0 (i : Nat) : BufTy := match i % 128 with
  | 0 => ⟨S4096x1024, .f32⟩
  | 1 => ⟨S1024x8192, .f32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S4096x8192, .f32⟩
  | 9 => ⟨S4x1024x8192, .f32⟩
  | 10 => ⟨S4x1024x8192, .bf16⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i1⟩
  | 24 => ⟨S_, .i32⟩
  | 25 => ⟨S_, .i1⟩
  | 26 => ⟨S_, .i1⟩
  | 27 => ⟨S_, .i1⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S1x1024x8192, .bf16⟩
  | 38 => ⟨S1024x8192, .bf16⟩
  | 39 => ⟨S1024x4096, .bf16⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i1⟩
  | 53 => ⟨S_, .i32⟩
  | 54 => ⟨S_, .i1⟩
  | 55 => ⟨S_, .i1⟩
  | 56 => ⟨S_, .i1⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S1x1024x8192, .bf16⟩
  | 67 => ⟨S1024x8192, .bf16⟩
  | 68 => ⟨S1024x4096, .bf16⟩
  | 69 => ⟨S1024x4096, .bf16⟩
  | 70 => ⟨S1024x4096, .bf16⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i1⟩
  | 86 => ⟨S_, .i32⟩
  | 87 => ⟨S_, .i1⟩
  | 88 => ⟨S_, .i1⟩
  | 89 => ⟨S_, .i1⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S1x1024x8192, .bf16⟩
  | 100 => ⟨S1024x8192, .bf16⟩
  | 101 => ⟨S1024x4096, .bf16⟩
  | 102 => ⟨S1024x4096, .bf16⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i1⟩
  | 118 => ⟨S_, .i32⟩
  | 119 => ⟨S_, .i1⟩
  | 120 => ⟨S_, .i1⟩
  | 121 => ⟨S_, .i1⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S4096x1024, .f32⟩

abbrev hbmTy0_1 (i : Nat) : BufTy := match i % 128 with
  | 0 => ⟨S_, .i32⟩
  | 1 => ⟨S_, .i32⟩
  | 2 => ⟨S_, .i32⟩
  | 3 => ⟨S1x1024x8192, .bf16⟩
  | 4 => ⟨S1024x8192, .bf16⟩
  | 5 => ⟨S1024x4096, .bf16⟩
  | 6 => ⟨S1024x4096, .bf16⟩
  | 7 => ⟨S1024x4096, .bf16⟩
  | 8 => ⟨S1024x4096, .bf16⟩
  | 9 => ⟨S1024x4096, .bf16⟩
  | 10 => ⟨S1024x4096, .bf16⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i1⟩
  | 26 => ⟨S_, .i32⟩
  | 27 => ⟨S_, .i1⟩
  | 28 => ⟨S_, .i1⟩
  | 29 => ⟨S_, .i1⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S1x1024x8192, .bf16⟩
  | 40 => ⟨S1024x8192, .bf16⟩
  | 41 => ⟨S1024x4096, .bf16⟩
  | 42 => ⟨S1024x4096, .bf16⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i1⟩
  | 58 => ⟨S_, .i32⟩
  | 59 => ⟨S_, .i1⟩
  | 60 => ⟨S_, .i1⟩
  | 61 => ⟨S_, .i1⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S1x1024x8192, .bf16⟩
  | 72 => ⟨S1024x8192, .bf16⟩
  | 73 => ⟨S1024x4096, .bf16⟩
  | 74 => ⟨S1024x4096, .bf16⟩
  | 75 => ⟨S1024x4096, .bf16⟩
  | 76 => ⟨S1024x4096, .bf16⟩
  | 77 => ⟨S1024x4096, .bf16⟩
  | 78 => ⟨S1024x4096, .bf16⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i1⟩
  | 94 => ⟨S_, .i32⟩
  | 95 => ⟨S_, .i1⟩
  | 96 => ⟨S_, .i1⟩
  | 97 => ⟨S_, .i1⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S1x1024x8192, .bf16⟩
  | 108 => ⟨S1024x8192, .bf16⟩
  | 109 => ⟨S1024x4096, .bf16⟩
  | 110 => ⟨S1024x4096, .bf16⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i1⟩
  | 126 => ⟨S_, .i32⟩
  | 127 => ⟨S_, .i1⟩
  | _ => ⟨S4096x1024, .f32⟩

abbrev hbmTy0_2 (i : Nat) : BufTy := match i % 128 with
  | 0 => ⟨S_, .i1⟩
  | 1 => ⟨S_, .i1⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S1x1024x8192, .bf16⟩
  | 12 => ⟨S1024x8192, .bf16⟩
  | 13 => ⟨S1024x4096, .bf16⟩
  | 14 => ⟨S1024x4096, .bf16⟩
  | 15 => ⟨S1024x4096, .bf16⟩
  | 16 => ⟨S1024x4096, .bf16⟩
  | 17 => ⟨S1024x8192, .bf16⟩
  | 18 => ⟨S1024x8192, .f32⟩
  | 19 => ⟨S_, .f32⟩
  | 20 => ⟨S1024x8192, .f32⟩
  | 21 => ⟨S1024x8192, .f32⟩
  | 22 => ⟨S_, .f32⟩
  | 23 => ⟨S_, .f32⟩
  | 24 => ⟨S8x128, .f32⟩
  | 25 => ⟨S8x128, .f32⟩
  | 26 => ⟨S4x8x128, .f32⟩
  | 27 => ⟨S4x8x128, .f32⟩
  | 28 => ⟨S_, .f32⟩
  | 29 => ⟨S_, .f32⟩
  | 30 => ⟨S_, .f32⟩
  | 31 => ⟨S_, .f32⟩
  | 32 => ⟨S1024x8192, .f32⟩
  | 33 => ⟨S1024x8192, .f32⟩
  | 34 => ⟨S1024x8192, .fp8e4m3⟩
  | 35 => ⟨S1024x8192, .fp8e4m3⟩
  | 36 => ⟨S4x1024x8192, .fp8e4m3⟩
  | 37 => ⟨S4096x8192, .fp8e4m3⟩
  | 38 => ⟨S4096x8192, .f32⟩
  | 39 => ⟨S4096x8192, .f32⟩
  | 40 => ⟨S4096x8192, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | .local _ .vmem, ⟨0, _⟩ => ⟨S4x8x128, .f32⟩
  | .local _ .vmem, ⟨1, _⟩ => ⟨S4x8x128, .f32⟩
  | .local _ .vmem, ⟨2, _⟩ => ⟨S256x8192, .fp8e4m3⟩
  | .local _ .vmem, ⟨3, _⟩ => ⟨S256x8192, .fp8e4m3⟩
  | .local _ .vmem, ⟨4, _⟩ => ⟨S256x8192, .f32⟩
  | .local _ .vmem, ⟨5, _⟩ => ⟨S256x8192, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 5 32 bufScoped semScoped dmaSemScoped tileCredit tileCredit_eq_zero tileCredit_pos).withBarriers [(0, 0), (1, 1), (2, 2), (3, 3), (4, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_c_2 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_c_1 : Ref sig .tc := ⟨.hbm, 20, rfl⟩
abbrev main_call0_v4 : Ref sig .tc := ⟨.hbm, 21, rfl⟩
abbrev main_call0_c_2 : Ref sig .tc := ⟨.hbm, 22, rfl⟩
abbrev main_call0_v5 : Ref sig .tc := ⟨.hbm, 23, rfl⟩
abbrev main_call0_c_3 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_v9 : Ref sig .tc := ⟨.hbm, 29, rfl⟩
abbrev main_call1_c : Ref sig .tc := ⟨.hbm, 30, rfl⟩
abbrev main_call1_v0 : Ref sig .tc := ⟨.hbm, 31, rfl⟩
abbrev main_call1_c_0 : Ref sig .tc := ⟨.hbm, 32, rfl⟩
abbrev main_call1_v1 : Ref sig .tc := ⟨.hbm, 33, rfl⟩
abbrev main_call1_v2 : Ref sig .tc := ⟨.hbm, 34, rfl⟩
abbrev main_call1_c_1 : Ref sig .tc := ⟨.hbm, 35, rfl⟩
abbrev main_call1_c_2 : Ref sig .tc := ⟨.hbm, 36, rfl⟩
abbrev main_call1_v3 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_c_4 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_c_1 : Ref sig .tc := ⟨.hbm, 49, rfl⟩
abbrev main_call2_v4 : Ref sig .tc := ⟨.hbm, 50, rfl⟩
abbrev main_call2_c_2 : Ref sig .tc := ⟨.hbm, 51, rfl⟩
abbrev main_call2_v5 : Ref sig .tc := ⟨.hbm, 52, rfl⟩
abbrev main_call2_c_3 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_v13 : Ref sig .tc := ⟨.hbm, 58, rfl⟩
abbrev main_call3_c : Ref sig .tc := ⟨.hbm, 59, rfl⟩
abbrev main_call3_v0 : Ref sig .tc := ⟨.hbm, 60, rfl⟩
abbrev main_call3_c_0 : Ref sig .tc := ⟨.hbm, 61, rfl⟩
abbrev main_call3_v1 : Ref sig .tc := ⟨.hbm, 62, rfl⟩
abbrev main_call3_v2 : Ref sig .tc := ⟨.hbm, 63, rfl⟩
abbrev main_call3_c_1 : Ref sig .tc := ⟨.hbm, 64, rfl⟩
abbrev main_call3_c_2 : Ref sig .tc := ⟨.hbm, 65, rfl⟩
abbrev main_call3_v3 : Ref sig .tc := ⟨.hbm, 66, rfl⟩
abbrev main_v14 : Ref sig .tc := ⟨.hbm, 67, rfl⟩
abbrev main_v15 : Ref sig .tc := ⟨.hbm, 68, rfl⟩
abbrev main_v16_0 : Ref sig .tc := ⟨.hbm, 69, rfl⟩
abbrev main_v16_1 : Ref sig .tc := ⟨.hbm, 70, rfl⟩
abbrev main_c_5 : Ref sig .tc := ⟨.hbm, 71, rfl⟩
abbrev main_v17 : Ref sig .tc := ⟨.hbm, 72, rfl⟩
abbrev main_c_6 : Ref sig .tc := ⟨.hbm, 73, rfl⟩
abbrev main_v18 : Ref sig .tc := ⟨.hbm, 74, rfl⟩
abbrev main_c_7 : Ref sig .tc := ⟨.hbm, 75, rfl⟩
abbrev main_call4_v0 : Ref sig .tc := ⟨.hbm, 76, rfl⟩
abbrev main_call4_c : Ref sig .tc := ⟨.hbm, 77, rfl⟩
abbrev main_call4_v1 : Ref sig .tc := ⟨.hbm, 78, rfl⟩
abbrev main_call4_c_0 : Ref sig .tc := ⟨.hbm, 79, rfl⟩
abbrev main_call4_v2 : Ref sig .tc := ⟨.hbm, 80, rfl⟩
abbrev main_call4_v3 : Ref sig .tc := ⟨.hbm, 81, rfl⟩
abbrev main_call4_c_1 : Ref sig .tc := ⟨.hbm, 82, rfl⟩
abbrev main_call4_v4 : Ref sig .tc := ⟨.hbm, 83, rfl⟩
abbrev main_call4_c_2 : Ref sig .tc := ⟨.hbm, 84, rfl⟩
abbrev main_call4_v5 : Ref sig .tc := ⟨.hbm, 85, rfl⟩
abbrev main_call4_c_3 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_v19 : Ref sig .tc := ⟨.hbm, 91, rfl⟩
abbrev main_call5_c : Ref sig .tc := ⟨.hbm, 92, rfl⟩
abbrev main_call5_v0 : Ref sig .tc := ⟨.hbm, 93, rfl⟩
abbrev main_call5_c_0 : Ref sig .tc := ⟨.hbm, 94, rfl⟩
abbrev main_call5_v1 : Ref sig .tc := ⟨.hbm, 95, rfl⟩
abbrev main_call5_v2 : Ref sig .tc := ⟨.hbm, 96, rfl⟩
abbrev main_call5_c_1 : Ref sig .tc := ⟨.hbm, 97, rfl⟩
abbrev main_call5_c_2 : Ref sig .tc := ⟨.hbm, 98, rfl⟩
abbrev main_call5_v3 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_c_8 : Ref sig .tc := ⟨.hbm, 103, rfl⟩
abbrev main_v23 : Ref sig .tc := ⟨.hbm, 104, rfl⟩
abbrev main_c_9 : Ref sig .tc := ⟨.hbm, 105, rfl⟩
abbrev main_v24 : Ref sig .tc := ⟨.hbm, 106, rfl⟩
abbrev main_c_10 : Ref sig .tc := ⟨.hbm, 107, rfl⟩
abbrev main_call6_v0 : Ref sig .tc := ⟨.hbm, 108, rfl⟩
abbrev main_call6_c : Ref sig .tc := ⟨.hbm, 109, rfl⟩
abbrev main_call6_v1 : Ref sig .tc := ⟨.hbm, 110, rfl⟩
abbrev main_call6_c_0 : Ref sig .tc := ⟨.hbm, 111, rfl⟩
abbrev main_call6_v2 : Ref sig .tc := ⟨.hbm, 112, rfl⟩
abbrev main_call6_v3 : Ref sig .tc := ⟨.hbm, 113, rfl⟩
abbrev main_call6_c_1 : Ref sig .tc := ⟨.hbm, 114, rfl⟩
abbrev main_call6_v4 : Ref sig .tc := ⟨.hbm, 115, rfl⟩
abbrev main_call6_c_2 : Ref sig .tc := ⟨.hbm, 116, rfl⟩
abbrev main_call6_v5 : Ref sig .tc := ⟨.hbm, 117, rfl⟩
abbrev main_call6_c_3 : Ref sig .tc := ⟨.hbm, 118, rfl⟩
abbrev main_call6_v6 : Ref sig .tc := ⟨.hbm, 119, rfl⟩
abbrev main_call6_v7 : Ref sig .tc := ⟨.hbm, 120, rfl⟩
abbrev main_call6_v8 : Ref sig .tc := ⟨.hbm, 121, rfl⟩
abbrev main_call6_v9 : Ref sig .tc := ⟨.hbm, 122, rfl⟩
abbrev main_v25 : Ref sig .tc := ⟨.hbm, 123, rfl⟩
abbrev main_call7_c : Ref sig .tc := ⟨.hbm, 124, rfl⟩
abbrev main_call7_v0 : Ref sig .tc := ⟨.hbm, 125, rfl⟩
abbrev main_call7_c_0 : Ref sig .tc := ⟨.hbm, 126, rfl⟩
abbrev main_call7_v1 : Ref sig .tc := ⟨.hbm, 127, rfl⟩
abbrev main_call7_v2 : Ref sig .tc := ⟨.hbm, 128, rfl⟩
abbrev main_call7_c_1 : Ref sig .tc := ⟨.hbm, 129, rfl⟩
abbrev main_call7_c_2 : Ref sig .tc := ⟨.hbm, 130, rfl⟩
abbrev main_call7_v3 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_v29_0 : Ref sig .tc := ⟨.hbm, 135, rfl⟩
abbrev main_v29_1 : Ref sig .tc := ⟨.hbm, 136, rfl⟩
abbrev main_v30_0 : Ref sig .tc := ⟨.hbm, 137, rfl⟩
abbrev main_v30_1 : Ref sig .tc := ⟨.hbm, 138, rfl⟩
abbrev main_c_11 : Ref sig .tc := ⟨.hbm, 139, rfl⟩
abbrev main_v31 : Ref sig .tc := ⟨.hbm, 140, rfl⟩
abbrev main_c_12 : Ref sig .tc := ⟨.hbm, 141, rfl⟩
abbrev main_v32 : Ref sig .tc := ⟨.hbm, 142, rfl⟩
abbrev main_c_13 : Ref sig .tc := ⟨.hbm, 143, rfl⟩
abbrev main_call8_v0 : Ref sig .tc := ⟨.hbm, 144, rfl⟩
abbrev main_call8_c : Ref sig .tc := ⟨.hbm, 145, rfl⟩
abbrev main_call8_v1 : Ref sig .tc := ⟨.hbm, 146, rfl⟩
abbrev main_call8_c_0 : Ref sig .tc := ⟨.hbm, 147, rfl⟩
abbrev main_call8_v2 : Ref sig .tc := ⟨.hbm, 148, rfl⟩
abbrev main_call8_v3 : Ref sig .tc := ⟨.hbm, 149, rfl⟩
abbrev main_call8_c_1 : Ref sig .tc := ⟨.hbm, 150, rfl⟩
abbrev main_call8_v4 : Ref sig .tc := ⟨.hbm, 151, rfl⟩
abbrev main_call8_c_2 : Ref sig .tc := ⟨.hbm, 152, rfl⟩
abbrev main_call8_v5 : Ref sig .tc := ⟨.hbm, 153, rfl⟩
abbrev main_call8_c_3 : Ref sig .tc := ⟨.hbm, 154, rfl⟩
abbrev main_call8_v6 : Ref sig .tc := ⟨.hbm, 155, rfl⟩
abbrev main_call8_v7 : Ref sig .tc := ⟨.hbm, 156, rfl⟩
abbrev main_call8_v8 : Ref sig .tc := ⟨.hbm, 157, rfl⟩
abbrev main_call8_v9 : Ref sig .tc := ⟨.hbm, 158, rfl⟩
abbrev main_v33 : Ref sig .tc := ⟨.hbm, 159, rfl⟩
abbrev main_call9_c : Ref sig .tc := ⟨.hbm, 160, rfl⟩
abbrev main_call9_v0 : Ref sig .tc := ⟨.hbm, 161, rfl⟩
abbrev main_call9_c_0 : Ref sig .tc := ⟨.hbm, 162, rfl⟩
abbrev main_call9_v1 : Ref sig .tc := ⟨.hbm, 163, rfl⟩
abbrev main_call9_v2 : Ref sig .tc := ⟨.hbm, 164, rfl⟩
abbrev main_call9_c_1 : Ref sig .tc := ⟨.hbm, 165, rfl⟩
abbrev main_call9_c_2 : Ref sig .tc := ⟨.hbm, 166, rfl⟩
abbrev main_call9_v3 : Ref sig .tc := ⟨.hbm, 167, rfl⟩
abbrev main_v34 : Ref sig .tc := ⟨.hbm, 168, rfl⟩
abbrev main_v35 : Ref sig .tc := ⟨.hbm, 169, rfl⟩
abbrev main_v36 : Ref sig .tc := ⟨.hbm, 170, rfl⟩
abbrev main_c_14 : Ref sig .tc := ⟨.hbm, 171, rfl⟩
abbrev main_v37 : Ref sig .tc := ⟨.hbm, 172, rfl⟩
abbrev main_c_15 : Ref sig .tc := ⟨.hbm, 173, rfl⟩
abbrev main_v38 : Ref sig .tc := ⟨.hbm, 174, rfl⟩
abbrev main_c_16 : Ref sig .tc := ⟨.hbm, 175, rfl⟩
abbrev main_call10_v0 : Ref sig .tc := ⟨.hbm, 176, rfl⟩
abbrev main_call10_c : Ref sig .tc := ⟨.hbm, 177, rfl⟩
abbrev main_call10_v1 : Ref sig .tc := ⟨.hbm, 178, rfl⟩
abbrev main_call10_c_0 : Ref sig .tc := ⟨.hbm, 179, rfl⟩
abbrev main_call10_v2 : Ref sig .tc := ⟨.hbm, 180, rfl⟩
abbrev main_call10_v3 : Ref sig .tc := ⟨.hbm, 181, rfl⟩
abbrev main_call10_c_1 : Ref sig .tc := ⟨.hbm, 182, rfl⟩
abbrev main_call10_v4 : Ref sig .tc := ⟨.hbm, 183, rfl⟩
abbrev main_call10_c_2 : Ref sig .tc := ⟨.hbm, 184, rfl⟩
abbrev main_call10_v5 : Ref sig .tc := ⟨.hbm, 185, rfl⟩
abbrev main_call10_c_3 : Ref sig .tc := ⟨.hbm, 186, rfl⟩
abbrev main_call10_v6 : Ref sig .tc := ⟨.hbm, 187, rfl⟩
abbrev main_call10_v7 : Ref sig .tc := ⟨.hbm, 188, rfl⟩
abbrev main_call10_v8 : Ref sig .tc := ⟨.hbm, 189, rfl⟩
abbrev main_call10_v9 : Ref sig .tc := ⟨.hbm, 190, rfl⟩
abbrev main_v39 : Ref sig .tc := ⟨.hbm, 191, rfl⟩
abbrev main_call11_c : Ref sig .tc := ⟨.hbm, 192, rfl⟩
abbrev main_call11_v0 : Ref sig .tc := ⟨.hbm, 193, rfl⟩
abbrev main_call11_c_0 : Ref sig .tc := ⟨.hbm, 194, rfl⟩
abbrev main_call11_v1 : Ref sig .tc := ⟨.hbm, 195, rfl⟩
abbrev main_call11_v2 : Ref sig .tc := ⟨.hbm, 196, rfl⟩
abbrev main_call11_c_1 : Ref sig .tc := ⟨.hbm, 197, rfl⟩
abbrev main_call11_c_2 : Ref sig .tc := ⟨.hbm, 198, rfl⟩
abbrev main_call11_v3 : Ref sig .tc := ⟨.hbm, 199, rfl⟩
abbrev main_v40 : Ref sig .tc := ⟨.hbm, 200, rfl⟩
abbrev main_v41 : Ref sig .tc := ⟨.hbm, 201, rfl⟩
abbrev main_v42 : Ref sig .tc := ⟨.hbm, 202, rfl⟩
abbrev main_v43_0 : Ref sig .tc := ⟨.hbm, 203, rfl⟩
abbrev main_v43_1 : Ref sig .tc := ⟨.hbm, 204, rfl⟩
abbrev main_v44_0 : Ref sig .tc := ⟨.hbm, 205, rfl⟩
abbrev main_v44_1 : Ref sig .tc := ⟨.hbm, 206, rfl⟩
abbrev main_c_17 : Ref sig .tc := ⟨.hbm, 207, rfl⟩
abbrev main_v45 : Ref sig .tc := ⟨.hbm, 208, rfl⟩
abbrev main_c_18 : Ref sig .tc := ⟨.hbm, 209, rfl⟩
abbrev main_v46 : Ref sig .tc := ⟨.hbm, 210, rfl⟩
abbrev main_c_19 : Ref sig .tc := ⟨.hbm, 211, rfl⟩
abbrev main_call12_v0 : Ref sig .tc := ⟨.hbm, 212, rfl⟩
abbrev main_call12_c : Ref sig .tc := ⟨.hbm, 213, rfl⟩
abbrev main_call12_v1 : Ref sig .tc := ⟨.hbm, 214, rfl⟩
abbrev main_call12_c_0 : Ref sig .tc := ⟨.hbm, 215, rfl⟩
abbrev main_call12_v2 : Ref sig .tc := ⟨.hbm, 216, rfl⟩
abbrev main_call12_v3 : Ref sig .tc := ⟨.hbm, 217, rfl⟩
abbrev main_call12_c_1 : Ref sig .tc := ⟨.hbm, 218, rfl⟩
abbrev main_call12_v4 : Ref sig .tc := ⟨.hbm, 219, rfl⟩
abbrev main_call12_c_2 : Ref sig .tc := ⟨.hbm, 220, rfl⟩
abbrev main_call12_v5 : Ref sig .tc := ⟨.hbm, 221, rfl⟩
abbrev main_call12_c_3 : Ref sig .tc := ⟨.hbm, 222, rfl⟩
abbrev main_call12_v6 : Ref sig .tc := ⟨.hbm, 223, rfl⟩
abbrev main_call12_v7 : Ref sig .tc := ⟨.hbm, 224, rfl⟩
abbrev main_call12_v8 : Ref sig .tc := ⟨.hbm, 225, rfl⟩
abbrev main_call12_v9 : Ref sig .tc := ⟨.hbm, 226, rfl⟩
abbrev main_v47 : Ref sig .tc := ⟨.hbm, 227, rfl⟩
abbrev main_call13_c : Ref sig .tc := ⟨.hbm, 228, rfl⟩
abbrev main_call13_v0 : Ref sig .tc := ⟨.hbm, 229, rfl⟩
abbrev main_call13_c_0 : Ref sig .tc := ⟨.hbm, 230, rfl⟩
abbrev main_call13_v1 : Ref sig .tc := ⟨.hbm, 231, rfl⟩
abbrev main_call13_v2 : Ref sig .tc := ⟨.hbm, 232, rfl⟩
abbrev main_call13_c_1 : Ref sig .tc := ⟨.hbm, 233, rfl⟩
abbrev main_call13_c_2 : Ref sig .tc := ⟨.hbm, 234, rfl⟩
abbrev main_call13_v3 : Ref sig .tc := ⟨.hbm, 235, rfl⟩
abbrev main_v48 : Ref sig .tc := ⟨.hbm, 236, rfl⟩
abbrev main_v49 : Ref sig .tc := ⟨.hbm, 237, rfl⟩
abbrev main_v50 : Ref sig .tc := ⟨.hbm, 238, rfl⟩
abbrev main_c_20 : Ref sig .tc := ⟨.hbm, 239, rfl⟩
abbrev main_v51 : Ref sig .tc := ⟨.hbm, 240, rfl⟩
abbrev main_c_21 : Ref sig .tc := ⟨.hbm, 241, rfl⟩
abbrev main_v52 : Ref sig .tc := ⟨.hbm, 242, rfl⟩
abbrev main_c_22 : Ref sig .tc := ⟨.hbm, 243, rfl⟩
abbrev main_call14_v0 : Ref sig .tc := ⟨.hbm, 244, rfl⟩
abbrev main_call14_c : Ref sig .tc := ⟨.hbm, 245, rfl⟩
abbrev main_call14_v1 : Ref sig .tc := ⟨.hbm, 246, rfl⟩
abbrev main_call14_c_0 : Ref sig .tc := ⟨.hbm, 247, rfl⟩
abbrev main_call14_v2 : Ref sig .tc := ⟨.hbm, 248, rfl⟩
abbrev main_call14_v3 : Ref sig .tc := ⟨.hbm, 249, rfl⟩
abbrev main_call14_c_1 : Ref sig .tc := ⟨.hbm, 250, rfl⟩
abbrev main_call14_v4 : Ref sig .tc := ⟨.hbm, 251, rfl⟩
abbrev main_call14_c_2 : Ref sig .tc := ⟨.hbm, 252, rfl⟩
abbrev main_call14_v5 : Ref sig .tc := ⟨.hbm, 253, rfl⟩
abbrev main_call14_c_3 : Ref sig .tc := ⟨.hbm, 254, rfl⟩
abbrev main_call14_v6 : Ref sig .tc := ⟨.hbm, 255, rfl⟩
abbrev main_call14_v7 : Ref sig .tc := ⟨.hbm, 256, rfl⟩
abbrev main_call14_v8 : Ref sig .tc := ⟨.hbm, 257, rfl⟩
abbrev main_call14_v9 : Ref sig .tc := ⟨.hbm, 258, rfl⟩
abbrev main_v53 : Ref sig .tc := ⟨.hbm, 259, rfl⟩
abbrev main_call15_c : Ref sig .tc := ⟨.hbm, 260, rfl⟩
abbrev main_call15_v0 : Ref sig .tc := ⟨.hbm, 261, rfl⟩
abbrev main_call15_c_0 : Ref sig .tc := ⟨.hbm, 262, rfl⟩
abbrev main_call15_v1 : Ref sig .tc := ⟨.hbm, 263, rfl⟩
abbrev main_call15_v2 : Ref sig .tc := ⟨.hbm, 264, rfl⟩
abbrev main_call15_c_1 : Ref sig .tc := ⟨.hbm, 265, rfl⟩
abbrev main_call15_c_2 : Ref sig .tc := ⟨.hbm, 266, rfl⟩
abbrev main_call15_v3 : Ref sig .tc := ⟨.hbm, 267, rfl⟩
abbrev main_v54 : Ref sig .tc := ⟨.hbm, 268, rfl⟩
abbrev main_v55 : Ref sig .tc := ⟨.hbm, 269, rfl⟩
abbrev main_v56 : Ref sig .tc := ⟨.hbm, 270, rfl⟩
abbrev main_v57_0 : Ref sig .tc := ⟨.hbm, 271, rfl⟩
abbrev main_v57_1 : Ref sig .tc := ⟨.hbm, 272, rfl⟩
abbrev main_v58 : Ref sig .tc := ⟨.hbm, 273, rfl⟩
abbrev main_v59 : Ref sig .tc := ⟨.hbm, 274, rfl⟩
abbrev main_cst : Ref sig .tc := ⟨.hbm, 275, rfl⟩
abbrev main_v60 : Ref sig .tc := ⟨.hbm, 276, rfl⟩
abbrev main_v61 : Ref sig .tc := ⟨.hbm, 277, rfl⟩
abbrev main_cst_23 : Ref sig .tc := ⟨.hbm, 278, rfl⟩
abbrev main_v62 : Ref sig .tc := ⟨.hbm, 279, rfl⟩
abbrev main_v63 : Ref sig .tc := ⟨.hbm, 280, rfl⟩
abbrev main_v64 : Ref sig .tc := ⟨.hbm, 281, rfl⟩
abbrev main_v65 : Ref sig .tc := ⟨.hbm, 282, rfl⟩
abbrev main_v66 : Ref sig .tc := ⟨.hbm, 283, rfl⟩
abbrev main_cst_24 : Ref sig .tc := ⟨.hbm, 284, rfl⟩
abbrev main_v67 : Ref sig .tc := ⟨.hbm, 285, rfl⟩
abbrev main_cst_25 : Ref sig .tc := ⟨.hbm, 286, rfl⟩
abbrev main_v68 : Ref sig .tc := ⟨.hbm, 287, rfl⟩
abbrev main_v69 : Ref sig .tc := ⟨.hbm, 288, rfl⟩
abbrev main_v70 : Ref sig .tc := ⟨.hbm, 289, rfl⟩
abbrev main_v71 : Ref sig .tc := ⟨.hbm, 290, rfl⟩
abbrev main_v72 : Ref sig .tc := ⟨.hbm, 291, rfl⟩
abbrev main_v73 : Ref sig .tc := ⟨.hbm, 292, rfl⟩
abbrev main_v74 : Ref sig .tc := ⟨.hbm, 293, rfl⟩
abbrev main_v75 : Ref sig .tc := ⟨.hbm, 294, rfl⟩
abbrev main_v76 : Ref sig .tc := ⟨.hbm, 295, rfl⟩
abbrev main_v77 : Ref sig .tc := ⟨.hbm, 296, rfl⟩
abbrev cc8_stg0_0 : Ref sig .tc := ⟨.vmem, 0, rfl⟩
abbrev cc8_stg1_0 : Ref sig .tc := ⟨.vmem, 1, rfl⟩
abbrev cc11_stg0_0 : Ref sig .tc := ⟨.vmem, 2, rfl⟩
abbrev cc11_stg0_1 : Ref sig .tc := ⟨.vmem, 3, rfl⟩
abbrev cc11_stg1_0 : Ref sig .tc := ⟨.vmem, 4, rfl⟩
abbrev cc11_stg1_1 : Ref sig .tc := ⟨.vmem, 5, rfl⟩
abbrev cc8_sem0_0 : DmaSem sig := 19
abbrev cc8_sem1_0 : DmaSem sig := 20
abbrev cc11_sem0_0 : DmaSem sig := 28
abbrev cc11_sem0_1 : DmaSem sig := 29
abbrev cc11_sem1_0 : DmaSem sig := 30
abbrev cc11_sem1_1 : DmaSem sig := 31
abbrev barrier0 : Sem sig := 0
abbrev barrier1 : Sem sig := 1
abbrev barrier2 : Sem sig := 2
abbrev barrier3 : Sem sig := 3
abbrev barrier4 : Sem sig := 4

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v30 : BitVec 32 := Scalar.muli v13 c1_i32_21
  let v31 : BitVec 32 := Scalar.addi c0_i32_22 v30
  v31.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25 : BitVec 32 := 1#32
  let v36 : BitVec 32 := Scalar.muli v24 c1_i32_25
  let v37 : BitVec 32 := Scalar.addi c0_i32_26 v36
  v37.toNat
abbrev grid1 : Pipeline.Grid := .none

abbrev grid2 : Pipeline.Grid := .none

def k2_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k2_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k2_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v30 : BitVec 32 := Scalar.muli v13 c1_i32_21
  let v31 : BitVec 32 := Scalar.addi c0_i32_22 v30
  v31.toNat
def k2_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25 : BitVec 32 := 1#32
  let v36 : BitVec 32 := Scalar.muli v24 c1_i32_25
  let v37 : BitVec 32 := Scalar.addi c0_i32_26 v36
  v37.toNat
abbrev grid3 : Pipeline.Grid := .none

abbrev grid4 : Pipeline.Grid := .none

def k4_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k4_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k4_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v30 : BitVec 32 := Scalar.muli v13 c1_i32_21
  let v31 : BitVec 32 := Scalar.addi c0_i32_22 v30
  v31.toNat
def k4_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25 : BitVec 32 := 1#32
  let v36 : BitVec 32 := Scalar.muli v24 c1_i32_25
  let v37 : BitVec 32 := Scalar.addi c0_i32_26 v36
  v37.toNat
abbrev grid5 : Pipeline.Grid := .none

abbrev grid6 : Pipeline.Grid := .none

abbrev grid7 : Pipeline.Grid := .none

def k7_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k7_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k7_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k7_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_28 : BitVec 32 := 0#32
  let c0_i32_29 : BitVec 32 := 0#32
  ![v2.toNat, 0, 0]
def k7_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v45 : BitVec 32 := Scalar.addi v2 c1_i32_30
  let c4_i32_31 : BitVec 32 := 4#32
  let c0_i32_32 : BitVec 32 := 0#32
  let v46 : BitVec 1 := Scalar.cmpi .eq c4_i32_31 c0_i32_32
  let c1_i32_33 : BitVec 32 := 1#32
  let v47 : BitVec 32 := Scalar.select v46 c1_i32_33 c4_i32_31
  let v48 : BitVec 32 := Scalar.remsi v45 v47
  let c0_i32_35 : BitVec 32 := 0#32
  let v50 : BitVec 1 := Scalar.cmpi .slt v48 c0_i32_35
  let c0_i32_36 : BitVec 32 := 0#32
  let v51 : BitVec 1 := Scalar.cmpi .slt v47 c0_i32_36
  let v52 : BitVec 1 := Scalar.xori v50 v51
  let c0_i32_34 : BitVec 32 := 0#32
  let v49 : BitVec 1 := Scalar.cmpi .ne v48 c0_i32_34
  let v53 : BitVec 1 := Scalar.andi v52 v49
  let v54 : BitVec 32 := Scalar.addi v48 v47
  let v55 : BitVec 32 := Scalar.select v53 v54 v48
  let c1_i32_39 : BitVec 32 := 1#32
  let v56 : BitVec 32 := Scalar.muli v55 c1_i32_39
  let v57 : BitVec 32 := Scalar.addi c0_i32_40 v56
  v57.toNat
def k7_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v64 : BitVec 32 := Scalar.addi v2 c2_i32_43
  let c4_i32_44 : BitVec 32 := 4#32
  let c0_i32_45 : BitVec 32 := 0#32
  let v65 : BitVec 1 := Scalar.cmpi .eq c4_i32_44 c0_i32_45
  let c1_i32_46 : BitVec 32 := 1#32
  let v66 : BitVec 32 := Scalar.select v65 c1_i32_46 c4_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c1_i32_52 : BitVec 32 := 1#32
  let v75 : BitVec 32 := Scalar.muli v74 c1_i32_52
  let v76 : BitVec 32 := Scalar.addi c0_i32_53 v75
  v76.toNat
def k7_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_56 : BitVec 32 := 3#32
  let v83 : BitVec 32 := Scalar.addi v2 c3_i32_56
  let c4_i32_57 : BitVec 32 := 4#32
  let c0_i32_58 : BitVec 32 := 0#32
  let v84 : BitVec 1 := Scalar.cmpi .eq c4_i32_57 c0_i32_58
  let c1_i32_59 : BitVec 32 := 1#32
  let v85 : BitVec 32 := Scalar.select v84 c1_i32_59 c4_i32_57
  let v86 : BitVec 32 := Scalar.remsi v83 v85
  let c0_i32_61 : BitVec 32 := 0#32
  let v88 : BitVec 1 := Scalar.cmpi .slt v86 c0_i32_61
  let c0_i32_62 : BitVec 32 := 0#32
  let v89 : BitVec 1 := Scalar.cmpi .slt v85 c0_i32_62
  let v90 : BitVec 1 := Scalar.xori v88 v89
  let c0_i32_60 : BitVec 32 := 0#32
  let v87 : BitVec 1 := Scalar.cmpi .ne v86 c0_i32_60
  let v91 : BitVec 1 := Scalar.andi v90 v87
  let v92 : BitVec 32 := Scalar.addi v86 v85
  let v93 : BitVec 32 := Scalar.select v91 v92 v86
  let c1_i32_65 : BitVec 32 := 1#32
  let v94 : BitVec 32 := Scalar.muli v93 c1_i32_65
  let v95 : BitVec 32 := Scalar.addi c0_i32_66 v94
  v95.toNat
def k7_off2 (d0 : Dev nD) (c1_i32_86 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v116 : BitVec 32 := Scalar.subi v2 c1_i32_86
  let c4_i32_87 : BitVec 32 := 4#32
  let c0_i32_88 : BitVec 32 := 0#32
  let v117 : BitVec 1 := Scalar.cmpi .eq c4_i32_87 c0_i32_88
  let c1_i32_89 : BitVec 32 := 1#32
  let v118 : BitVec 32 := Scalar.select v117 c1_i32_89 c4_i32_87
  let v119 : BitVec 32 := Scalar.remsi v116 v118
  let c0_i32_91 : BitVec 32 := 0#32
  let v121 : BitVec 1 := Scalar.cmpi .slt v119 c0_i32_91
  let c0_i32_92 : BitVec 32 := 0#32
  let v122 : BitVec 1 := Scalar.cmpi .slt v118 c0_i32_92
  let v123 : BitVec 1 := Scalar.xori v121 v122
  let c0_i32_90 : BitVec 32 := 0#32
  let v120 : BitVec 1 := Scalar.cmpi .ne v119 c0_i32_90
  let v124 : BitVec 1 := Scalar.andi v123 v120
  let v125 : BitVec 32 := Scalar.addi v119 v118
  let v126 : BitVec 32 := Scalar.select v124 v125 v119
  let c0_i32_97 : BitVec 32 := 0#32
  let c0_i32_98 : BitVec 32 := 0#32
  ![v126.toNat, 0, 0]
abbrev grid8 : Pipeline.Grid := .none

abbrev stage8_0 : Fin 1 → Memref sig .tc .vmem S4x8x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S4x8x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev grid9 : Pipeline.Grid := .none

abbrev grid10 : Pipeline.Grid := .none

def k10_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k10_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k10_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k10_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_28 : BitVec 32 := 0#32
  let c0_i32_29 : BitVec 32 := 0#32
  ![v2.toNat, 0, 0]
def k10_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v45 : BitVec 32 := Scalar.addi v2 c1_i32_30
  let c4_i32_31 : BitVec 32 := 4#32
  let c0_i32_32 : BitVec 32 := 0#32
  let v46 : BitVec 1 := Scalar.cmpi .eq c4_i32_31 c0_i32_32
  let c1_i32_33 : BitVec 32 := 1#32
  let v47 : BitVec 32 := Scalar.select v46 c1_i32_33 c4_i32_31
  let v48 : BitVec 32 := Scalar.remsi v45 v47
  let c0_i32_35 : BitVec 32 := 0#32
  let v50 : BitVec 1 := Scalar.cmpi .slt v48 c0_i32_35
  let c0_i32_36 : BitVec 32 := 0#32
  let v51 : BitVec 1 := Scalar.cmpi .slt v47 c0_i32_36
  let v52 : BitVec 1 := Scalar.xori v50 v51
  let c0_i32_34 : BitVec 32 := 0#32
  let v49 : BitVec 1 := Scalar.cmpi .ne v48 c0_i32_34
  let v53 : BitVec 1 := Scalar.andi v52 v49
  let v54 : BitVec 32 := Scalar.addi v48 v47
  let v55 : BitVec 32 := Scalar.select v53 v54 v48
  let c1_i32_39 : BitVec 32 := 1#32
  let v56 : BitVec 32 := Scalar.muli v55 c1_i32_39
  let v57 : BitVec 32 := Scalar.addi c0_i32_40 v56
  v57.toNat
def k10_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v64 : BitVec 32 := Scalar.addi v2 c2_i32_43
  let c4_i32_44 : BitVec 32 := 4#32
  let c0_i32_45 : BitVec 32 := 0#32
  let v65 : BitVec 1 := Scalar.cmpi .eq c4_i32_44 c0_i32_45
  let c1_i32_46 : BitVec 32 := 1#32
  let v66 : BitVec 32 := Scalar.select v65 c1_i32_46 c4_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c1_i32_52 : BitVec 32 := 1#32
  let v75 : BitVec 32 := Scalar.muli v74 c1_i32_52
  let v76 : BitVec 32 := Scalar.addi c0_i32_53 v75
  v76.toNat
def k10_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_56 : BitVec 32 := 3#32
  let v83 : BitVec 32 := Scalar.addi v2 c3_i32_56
  let c4_i32_57 : BitVec 32 := 4#32
  let c0_i32_58 : BitVec 32 := 0#32
  let v84 : BitVec 1 := Scalar.cmpi .eq c4_i32_57 c0_i32_58
  let c1_i32_59 : BitVec 32 := 1#32
  let v85 : BitVec 32 := Scalar.select v84 c1_i32_59 c4_i32_57
  let v86 : BitVec 32 := Scalar.remsi v83 v85
  let c0_i32_61 : BitVec 32 := 0#32
  let v88 : BitVec 1 := Scalar.cmpi .slt v86 c0_i32_61
  let c0_i32_62 : BitVec 32 := 0#32
  let v89 : BitVec 1 := Scalar.cmpi .slt v85 c0_i32_62
  let v90 : BitVec 1 := Scalar.xori v88 v89
  let c0_i32_60 : BitVec 32 := 0#32
  let v87 : BitVec 1 := Scalar.cmpi .ne v86 c0_i32_60
  let v91 : BitVec 1 := Scalar.andi v90 v87
  let v92 : BitVec 32 := Scalar.addi v86 v85
  let v93 : BitVec 32 := Scalar.select v91 v92 v86
  let c1_i32_65 : BitVec 32 := 1#32
  let v94 : BitVec 32 := Scalar.muli v93 c1_i32_65
  let v95 : BitVec 32 := Scalar.addi c0_i32_66 v94
  v95.toNat
def k10_off2 (d0 : Dev nD) (c1_i32_86 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v116 : BitVec 32 := Scalar.subi v2 c1_i32_86
  let c4_i32_87 : BitVec 32 := 4#32
  let c0_i32_88 : BitVec 32 := 0#32
  let v117 : BitVec 1 := Scalar.cmpi .eq c4_i32_87 c0_i32_88
  let c1_i32_89 : BitVec 32 := 1#32
  let v118 : BitVec 32 := Scalar.select v117 c1_i32_89 c4_i32_87
  let v119 : BitVec 32 := Scalar.remsi v116 v118
  let c0_i32_91 : BitVec 32 := 0#32
  let v121 : BitVec 1 := Scalar.cmpi .slt v119 c0_i32_91
  let c0_i32_92 : BitVec 32 := 0#32
  let v122 : BitVec 1 := Scalar.cmpi .slt v118 c0_i32_92
  let v123 : BitVec 1 := Scalar.xori v121 v122
  let c0_i32_90 : BitVec 32 := 0#32
  let v120 : BitVec 1 := Scalar.cmpi .ne v119 c0_i32_90
  let v124 : BitVec 1 := Scalar.andi v123 v120
  let v125 : BitVec 32 := Scalar.addi v119 v118
  let v126 : BitVec 32 := Scalar.select v124 v125 v119
  let c0_i32_97 : BitVec 32 := 0#32
  let c0_i32_98 : BitVec 32 := 0#32
  ![v126.toNat, 0, 0]
abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S256x8192 .fp8e4m3 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S256x8192 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Hop.lean ====
/-
  One hop of the ring, for any launch of it.

  Every device signals both neighbours, waits for both, copies `a` into `oa` of its right neighbour and `b` into `ob` of
  its left neighbour, waits for its two sources and for its two landings, and returns. A device's signal to its left
  hands over its own `oa` (its left neighbour will write it) together with the fact that its receive cell is open; the
  signal to its right hands over `ob` in the same way. The launch is stated over the memrefs and semaphores it uses, so
  that the three hops of the program are three instances.
-/
module

public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Pipeline.RegionTalk
public import Idealize.ShloMosaic.Lib.Pipeline.TalkSites
public import Idealize.ShloMosaic.Harness.Basic

@[expose] public section

set_option Elab.async false

noncomputable section

namespace Cert.Hop

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv Above Funds mem_L' above_zero)
open Idealize.ShloMosaic.TalkSites (Pay tallyL addL addL_eq Fam mayWait_addL talk_above)

/-- The right neighbour on the ring of four. -/
def rt (c : Dev 4) : Dev 4 := ⟨(c.val + 1) % 4, Nat.mod_lt _ (by decide)⟩
/-- The left neighbour on the ring of four. -/
def lt (c : Dev 4) : Dev 4 := ⟨(c.val + 3) % 4, Nat.mod_lt _ (by decide)⟩
theorem lt_rt (c : Dev 4) : lt (rt c) = c := by revert c; decide
theorem rt_lt (c : Dev 4) : rt (lt c) = c := by revert c; decide
/-- The ring as a permutation of the devices. -/
def ring : Dev 4 ≃ Dev 4 := ⟨rt, lt, lt_rt, rt_lt⟩

/-- The semaphores, memrefs and contents of one hop. `A`, `B` are the sources' contents on every device, `LA`, `LB`
    what the two landing buffers hold afterwards. -/
structure Site (τ : Topo) (sig : RefSig) (Val : EltTy → Type) (S : Shape) (e : EltTy) where
  bar : Sem sig
  s0 : DmaSem sig
  s1 : DmaSem sig
  r0 : DmaSem sig
  r1 : DmaSem sig
  a : Memref sig .tc .hbm S e
  b : Memref sig .tc .hbm S e
  oa : Memref sig .tc .hbm S e
  ob : Memref sig .tc .hbm S e
  A : (c : Dev 4) → Buf Val (a.view.loc (c : Thread 4 τ))
  B : (c : Dev 4) → Buf Val (b.view.loc (c : Thread 4 τ))
  LA : (c : Dev 4) → Buf Val (oa.view.loc (c : Thread 4 τ))
  LB : (c : Dev 4) → Buf Val (ob.view.loc (c : Thread 4 τ))
  hA : ∀ (c : Dev 4) (fd : Buf Val (oa.view.loc ((rt c : Dev 4) : Thread 4 τ))),
    oa.view.write Val fd (a.view.read Val (A c)) Finset.univ = LA (rt c)
  hB : ∀ (c : Dev 4) (fd : Buf Val (ob.view.loc ((lt c : Dev 4) : Thread 4 τ))),
    ob.view.write Val fd (b.view.read Val (B c)) Finset.univ = LB (lt c)
  N : ℕ
  N_pos : 0 < N
  hNa : a.view.dmaCredit = N
  hNb : b.view.dmaCredit = N
  hNoa : oa.view.dmaCredit = N
  hNob : ob.view.dmaCredit = N
  ne01 : s0 ≠ s1
  ne0r0 : s0 ≠ r0
  ne0r1 : s0 ≠ r1
  ne1r0 : s1 ≠ r0
  ne1r1 : s1 ≠ r1
  nerr : r0 ≠ r1

section Gen

variable {τ : Topo} {sig : RefSig} {Val : EltTy → Type} {S : Shape} {e : EltTy} (P : Site τ sig Val S e)

/-- A device's cells of the hop: barrier, the two send cells, the two receive cells. -/
abbrev Site.barC (c : Dev 4) : GSem 4 τ sig := ((c : Thread 4 τ), .reg P.bar)
@[inherit_doc Site.barC] abbrev Site.s0C (c : Dev 4) : GSem 4 τ sig := ((c : Thread 4 τ), .dma P.s0)
@[inherit_doc Site.barC] abbrev Site.s1C (c : Dev 4) : GSem 4 τ sig := ((c : Thread 4 τ), .dma P.s1)
@[inherit_doc Site.barC] abbrev Site.r0C (c : Dev 4) : GSem 4 τ sig := ((c : Thread 4 τ), .dma P.r0)
@[inherit_doc Site.barC] abbrev Site.r1C (c : Dev 4) : GSem 4 τ sig := ((c : Thread 4 τ), .dma P.r1)

/-! ## Dues and the launch's cells -/

/-- What device `c` pays the other devices, the last payment first; `k` is the level of the barrier. -/
def Site.dues (k : ℕ) (c : Dev 4) : List (Pay 4 τ sig) :=
  [(P.r1C (lt c), k + 1, P.N), (P.r0C (rt c), k + 1, P.N), (P.barC (rt c), k, 1), (P.barC (lt c), k, 1)]

theorem Site.dues_mem (k : ℕ) (c : Dev 4) : ∀ x ∈ P.dues k c, x.1.1.2 = .tc ∧ k ≤ x.2.1 ∧ x.2.1 < k + 2 := by
  intro x hx
  simp only [Site.dues, List.mem_cons, List.not_mem_nil, or_false] at hx
  rcases hx with rfl | rfl | rfl | rfl <;> exact ⟨rfl, by dsimp only; omega, by dsimp only; omega⟩

/-- What the other devices pay device `c`. -/
def Site.creds (k : ℕ) (c : Dev 4) : List (Pay 4 τ sig) :=
  [(P.barC c, k, 1), (P.barC c, k, 1), (P.r0C c, k + 1, P.N), (P.r1C c, k + 1, P.N)]

theorem Site.sum_dues (k : ℕ) : (∑ d : Dev 4, tallyL (P.dues k d)) = ∑ d : Dev 4, tallyL (P.creds k d) := by
  simp only [Site.dues, Site.creds, tallyL, Finset.sum_add_distrib, add_zero]
  have e1 : (∑ d : Dev 4, tallyAt (P.r1C (lt d)) (k + 1) P.N : CellTallies 4 τ sig ℕ) = ∑ d : Dev 4, tallyAt (P.r1C d) (k + 1) P.N :=
    Equiv.sum_comp ring.symm fun d => (tallyAt (P.r1C d) (k + 1) P.N : CellTallies 4 τ sig ℕ)
  have e2 : (∑ d : Dev 4, tallyAt (P.r0C (rt d)) (k + 1) P.N : CellTallies 4 τ sig ℕ) = ∑ d : Dev 4, tallyAt (P.r0C d) (k + 1) P.N :=
    Equiv.sum_comp ring fun d => (tallyAt (P.r0C d) (k + 1) P.N : CellTallies 4 τ sig ℕ)
  have e3 : (∑ d : Dev 4, tallyAt (P.barC (rt d)) k 1 : CellTallies 4 τ sig ℕ) = ∑ d : Dev 4, tallyAt (P.barC d) k 1 :=
    Equiv.sum_comp ring fun d => (tallyAt (P.barC d) k 1 : CellTallies 4 τ sig ℕ)
  have e4 : (∑ d : Dev 4, tallyAt (P.barC (lt d)) k 1 : CellTallies 4 τ sig ℕ) = ∑ d : Dev 4, tallyAt (P.barC d) k 1 :=
    Equiv.sum_comp ring.symm fun d => (tallyAt (P.barC d) k 1 : CellTallies 4 τ sig ℕ)
  rw [e1, e2, e3, e4]
  abel

/-- The cells and tokens of the hop, for its launch: a scoped cell is put under its invariant when its kernel starts. -/
def Site.fam : Fam 4 τ sig (Fin 3) 1 where
  bar := .reg P.bar
  dorm _ := {.dma P.s0, .dma P.s1, .dma P.r0, .dma P.r1}
  toks c _ := {(P.barC (lt c), 0, 0), (P.barC (rt c), 0, 1), (P.s0C c, 0, 0), (P.s1C c, 0, 0), (P.r0C (rt c), 0, 0), (P.r1C (lt c), 0, 0)}
  semKey _ := 0
  hsem j _ _ := (Subsingleton.elim _ _)
  hbar _ := by simp
  tokKey x := (if x.1.2 = .reg P.bar then (if x.2.2 = 0 then rt x.1.1.1 else lt x.1.1.1) else if x.1.2 = .dma P.r0 then lt x.1.1.1
    else if x.1.2 = .dma P.r1 then rt x.1.1.1 else x.1.1.1, 0)
  htok c j x hx := by
    obtain rfl : j = 0 := Subsingleton.elim _ _
    simp only [Finset.mem_insert, Finset.mem_singleton] at hx
    rcases hx with rfl | rfl | rfl | rfl | rfl | rfl
    · simp [rt_lt]
    · simp [lt_rt]
    · simp [P.ne0r0, P.ne0r1]
    · simp [P.ne1r0, P.ne1r1]
    · simp [lt_rt]
    · simp [P.nerr.symm, rt_lt]

variable {U : Type} [URA U]

local notation "𝕄" => MT 4 τ sig ℕ Val ℕ U ℕ

/-- A device's share of the launch credit under the hop's dues: two units on its barrier, its two landings. -/
theorem Site.credIn (k : ℕ) (c : Dev 4) : (Pipeline.launchCred (fun d => tallyL (P.dues k d)) c : sProp 𝕄)
    ⊢ iprop(cred (tallyAt (P.barC c) k 2) ∗ cred (tallyAt (P.r0C c) (k + 1) P.N) ∗ cred (tallyAt (P.r1C c) (k + 1) P.N)) := by
  rw [Pipeline.launchCred_of_sum _ (fun d => tallyL (P.creds k d)) (P.sum_dues k) (fun d g hg => by
      obtain ⟨i, hi⟩ := DFunLike.ne_iff.mp hg
      obtain ⟨x, hx, rfl, -⟩ := TalkSites.tallyL_pos (Nat.pos_of_ne_zero hi)
      simp only [Site.creds, List.mem_cons, List.not_mem_nil, or_false] at hx
      rcases hx with rfl | rfl | rfl | rfl <;> rfl) c]
  have e : tallyL (P.creds k c) = (tallyAt (P.barC c) k 2 + (tallyAt (P.r0C c) (k + 1) P.N + tallyAt (P.r1C c) (k + 1) P.N) : CellTallies 4 τ sig ℕ) := by
    simp only [Site.creds, tallyL, add_zero]
    rw [← add_assoc, tallyAt_add]
    rfl
  rw [e]
  refine (cred_add _ _).1.trans (sep_mono .rfl (cred_add _ _).1)

/-! ## The schedule -/

variable (E : Emb (URounds (GSem 4 τ sig) (Fin 3)) (MT 4 τ sig ℕ Val ℕ U ℕ))

/-- What the right neighbour's signal brings: its landing buffer `oa`, and that its receive cell is open. -/
def Site.payBar0 (c : Dev 4) : sProp 𝕄 :=
  iprop((∃ f : Buf Val (P.oa.view.loc ((rt c : Dev 4) : Thread 4 τ)), P.oa.view.loc ((rt c : Dev 4) : Thread 4 τ) ↦[P.oa.view.set]{fullShare} f) ∗ reached E (P.r0C (rt c)) 0)
/-- What the left neighbour's signal brings: its landing buffer `ob`, and that its receive cell is open. -/
def Site.payBar1 (c : Dev 4) : sProp 𝕄 :=
  iprop((∃ f : Buf Val (P.ob.view.loc ((lt c : Dev 4) : Thread 4 τ)), P.ob.view.loc ((lt c : Dev 4) : Thread 4 τ) ↦[P.ob.view.set]{fullShare} f) ∗ reached E (P.r1C (lt c)) 0)

/-- A source or a landing buffer at its named contents. -/
def Site.aPts (c : Dev 4) : sProp 𝕄 := P.a.view.loc (c : Thread 4 τ) ↦[P.a.view.set]{fullShare} P.A c
@[inherit_doc Site.aPts] def Site.bPts (c : Dev 4) : sProp 𝕄 := P.b.view.loc (c : Thread 4 τ) ↦[P.b.view.set]{fullShare} P.B c
@[inherit_doc Site.aPts] def Site.oaPts (c : Dev 4) : sProp 𝕄 := P.oa.view.loc (c : Thread 4 τ) ↦[P.oa.view.set]{fullShare} P.LA c
@[inherit_doc Site.aPts] def Site.obPts (c : Dev 4) : sProp 𝕄 := P.ob.view.loc (c : Thread 4 τ) ↦[P.ob.view.set]{fullShare} P.LB c
/-- A landing buffer at contents not named. -/
def Site.oaAny (c : Dev 4) : sProp 𝕄 :=
  iprop(∃ f : Buf Val (P.oa.view.loc (c : Thread 4 τ)), P.oa.view.loc (c : Thread 4 τ) ↦[P.oa.view.set]{fullShare} f)
@[inherit_doc Site.oaAny] def Site.obAny (c : Dev 4) : sProp 𝕄 :=
  iprop(∃ f : Buf Val (P.ob.view.loc (c : Thread 4 τ)), P.ob.view.loc (c : Thread 4 τ) ↦[P.ob.view.set]{fullShare} f)

/-- One round. A barrier cell has two duties of one unit, every other cell one duty of a whole buffer. -/
def Site.rd : Schedule (GSem 4 τ sig) (Fin 3) 𝕄 where
  duties g r := if r = 0 then (if g.2 = .reg P.bar then {0, 1} else {0}) else ∅
  unitless _ := False
  amount g _ _ := if g.2 = .reg P.bar then 1 else P.N
  payload g _ d :=
    if g.2 = .reg P.bar then (if d = 0 then P.payBar0 E g.1.1 else P.payBar1 E g.1.1)
    else if g.2 = .dma P.s0 then P.aPts g.1.1
    else if g.2 = .dma P.s1 then P.bPts g.1.1
    else if g.2 = .dma P.r0 then P.oaPts g.1.1
    else if g.2 = .dma P.r1 then P.obPts g.1.1
    else iprop(emp)
  amount_pos g _ _ _ := by
    by_cases h : g.2 = .reg P.bar
    · rw [if_pos h]; exact Nat.one_pos
    · rw [if_neg h]; exact P.N_pos

instance rd_storable [E.LandsIn (upEmb : UEmb _ 𝕄)] (g : GSem 4 τ sig) (r : ℕ) (d : Fin 3) :
    BI.Storable (upEmb : UEmb _ 𝕄) ((P.rd E).payload g r d) := by
  show BI.Storable upEmb (if g.2 = .reg P.bar then (if d = 0 then P.payBar0 E g.1.1 else P.payBar1 E g.1.1)
    else if g.2 = .dma P.s0 then P.aPts g.1.1
    else if g.2 = .dma P.s1 then P.bPts g.1.1
    else if g.2 = .dma P.r0 then P.oaPts g.1.1
    else if g.2 = .dma P.r1 then P.obPts g.1.1
    else iprop(emp))
  unfold Site.payBar0 Site.payBar1 Site.aPts Site.bPts Site.oaPts Site.obPts
  (repeat' split) <;> infer_instance

section Tables

variable (c : Dev 4)

theorem duties_bar : (P.rd E).duties (P.barC c) 0 = {0, 1} := by simp [Site.rd]
theorem duties_dma (s : DmaSem sig) : (P.rd E).duties ((c : Thread 4 τ), .dma s) 0 = {0} := by simp [Site.rd]
theorem duties_later (g : GSem 4 τ sig) : ∀ r, 0 + 1 ≤ r → (P.rd E).duties g r = ∅ := fun r hr => by
  dsimp only [Site.rd]; rw [if_neg (by omega)]
theorem amount_bar (d : Fin 3) : (P.rd E).amount (P.barC c) 0 d = 1 := by simp [Site.rd]
theorem amount_dma (s : DmaSem sig) (d : Fin 3) : (P.rd E).amount ((c : Thread 4 τ), .dma s) 0 d = P.N := by simp [Site.rd]
theorem expect_bar : (P.rd E).expect (P.barC c) 0 = 2 := by
  unfold Schedule.expect Schedule.amountOf; rw [duties_bar]; simp [amount_bar]
theorem expect_dma (s : DmaSem sig) : (P.rd E).expect ((c : Thread 4 τ), .dma s) 0 = P.N := by
  unfold Schedule.expect Schedule.amountOf; rw [duties_dma, Finset.sum_singleton, amount_dma]
theorem payload_bar0 : (P.rd E).payload (P.barC c) 0 0 = P.payBar0 E c := by simp [Site.rd]
theorem payload_bar1 : (P.rd E).payload (P.barC c) 0 1 = P.payBar1 E c := by simp [Site.rd]
theorem payload_s0 (d : Fin 3) : (P.rd E).payload (P.s0C c) 0 d = P.aPts c := by simp [Site.rd]
theorem payload_s1 (d : Fin 3) : (P.rd E).payload (P.s1C c) 0 d = P.bPts c := by simp [Site.rd, P.ne01.symm]
theorem payload_r0 (d : Fin 3) : (P.rd E).payload (P.r0C c) 0 d = P.oaPts c := by simp [Site.rd, P.ne0r0.symm, P.ne1r0.symm]
theorem payload_r1 (d : Fin 3) : (P.rd E).payload (P.r1C c) 0 d = P.obPts c := by
  simp [Site.rd, P.ne0r1.symm, P.ne1r1.symm, P.nerr.symm]
theorem rest_bar : bigSep ((P.rd E).duties (P.barC c) 0 \ ∅) (fun d => (P.rd E).payload (P.barC c) 0 d) = iprop(P.payBar0 E c ∗ P.payBar1 E c) := by
  rw [Finset.sdiff_empty, duties_bar, bigSep_insert (by decide), bigSep_singleton, payload_bar0, payload_bar1]
  rfl
theorem rest_dma (s : DmaSem sig) : bigSep ((P.rd E).duties ((c : Thread 4 τ), .dma s) 0 \ ∅) (fun d => (P.rd E).payload ((c : Thread 4 τ), .dma s) 0 d)
    = (P.rd E).payload ((c : Thread 4 τ), .dma s) 0 0 := by
  rw [Finset.sdiff_empty, duties_dma, bigSep_singleton]

end Tables

/-! ## The kernel's body -/

section Run

variable {Λ : Labels}

/-- The body, over the devices it addresses: first the two signals, then the two copies. -/
def Site.prog (hwa : P.a.view.WordExact) (hwb : P.b.view.WordExact) (hwoa : P.oa.view.WordExact) (hwob : P.ob.view.WordExact)
    (d1 d2 d3 d4 : Dev 4 → Dev 4)
    (hca : P.oa.view.ref.isScScratch = false) (hcb : P.ob.view.ref.isScScratch = false)
    (hta : ∀ d : Dev 4, DmaTarget.Typed (nD := 4) (τ := τ) (p := .tc) .hbm (.dma P.r0) (.remote (Dev.tc d) P.oa (.dma P.s0) hca))
    (htb : ∀ d : Dev 4, DmaTarget.Typed (nD := 4) (τ := τ) (p := .tc) .hbm (.dma P.r1) (.remote (Dev.tc d) P.ob (.dma P.s1) hcb)) :
    Prog (TpuEff 4 τ sig Val Λ .tc) PUnit :=
  .op .deviceId fun d =>
  .op (.semSignal (Dev.tc (d1 d)) P.bar 1) fun _ =>
  .op (.semSignal (Dev.tc (d2 d)) P.bar 1) fun _ =>
  .op (.semWait P.bar 2) fun _ =>
  .op (.enqueueDma P.a (.remote (Dev.tc (d3 d)) P.oa (.dma P.s0) hca) (.dma P.r0) hwa hwoa (hta (d3 d))) fun _ =>
  .op (.enqueueDma P.b (.remote (Dev.tc (d4 d)) P.ob (.dma P.s1) hcb) (.dma P.r1) hwb hwob (htb (d4 d))) fun _ =>
  .op (.waitDma2 P.s0 P.oa P.a hwoa hwa) fun _ =>
  .op (.waitDma2 P.s1 P.ob P.b hwob hwb) fun _ =>
  .op (.waitDma2 P.r0 P.a P.oa hwa hwoa) fun _ =>
  .op (.waitDma2 P.r1 P.b P.ob hwb hwob) fun _ => .ret ⟨⟩

/-- What rides from the program's launch to the hop on device `c`. -/
def Site.rides (k : ℕ) (c : Dev 4) : sProp 𝕄 :=
  iprop(Pipeline.launchCred (fun d => tallyL (P.dues k d)) c ∗ P.fam.launched E (P.rd E) (fun _ => Finset.univ) c)

/-- The same, after the scoped cells are put under their invariants: invariants, barrier cells open, own positions, the
    tokens of the duties the device pays, the credit it waits with. -/
def Site.opened (k : ℕ) (c : Dev 4) : sProp 𝕄 :=
  iprop((∃ κ, P.fam.cellInvs E (P.rd E) κ)
    ∗ (bigSep Finset.univ fun n : Dev 4 => reached E (P.barC n) 0)
    ∗ (atPos E (P.barC c) 0 ∅ 0 ∗ atPos E (P.s0C c) 0 ∅ 0 ∗ atPos E (P.s1C c) 0 ∅ 0 ∗ atPos E (P.r0C c) 0 ∅ 0 ∗ atPos E (P.r1C c) 0 ∅ 0)
    ∗ (reached E (P.s0C c) 0 ∗ reached E (P.s1C c) 0 ∗ reached E (P.r0C c) 0 ∗ reached E (P.r1C c) 0)
    ∗ (dutyTok E (P.barC (lt c)) 0 0 ∗ dutyTok E (P.barC (rt c)) 0 1 ∗ dutyTok E (P.s0C c) 0 0 ∗ dutyTok E (P.s1C c) 0 0
      ∗ dutyTok E (P.r0C (rt c)) 0 0 ∗ dutyTok E (P.r1C (lt c)) 0 0)
    ∗ cred (tallyAt (P.barC c) k 2) ∗ cred (tallyAt (P.r0C c) (k + 1) P.N) ∗ cred (tallyAt (P.r1C c) (k + 1) P.N))

theorem inv_bar (κ : GSem 4 τ sig → ℕ) (n : Dev 4) : P.fam.cellInvs E (P.rd E) κ ⊢ cellInv E (P.rd E) (κ (P.barC n)) (P.barC n) :=
  P.fam.cellInvs_bar E (P.rd E) κ n
theorem inv_dma (κ : GSem 4 τ sig → ℕ) (n : Dev 4) {s : DmaSem sig} (h : (SemLoc.dma s : SemLoc sig) ∈ P.fam.dorm 0) :
    P.fam.cellInvs E (P.rd E) κ ⊢ cellInv E (P.rd E) (κ ((n : Thread 4 τ), .dma s)) ((n : Thread 4 τ), .dma s) :=
  P.fam.cellInvs_dorm E (P.rd E) κ n (j := 0) h
theorem mem_s0 : (SemLoc.dma P.s0 : SemLoc sig) ∈ P.fam.dorm 0 := by simp [Site.fam]
theorem mem_s1 : (SemLoc.dma P.s1 : SemLoc sig) ∈ P.fam.dorm 0 := by simp [Site.fam]
theorem mem_r0 : (SemLoc.dma P.r0 : SemLoc sig) ∈ P.fam.dorm 0 := by simp [Site.fam]
theorem mem_r1 : (SemLoc.dma P.r1 : SemLoc sig) ∈ P.fam.dorm 0 := by simp [Site.fam]

/-- A hop's component at the launch of the program. -/
theorem Site.funds [E.LandsIn (upEmb : UEmb _ 𝕄)] (k : ℕ) {Es : Set ℕ} :
    Funds E (fun c => semVal (P.barC c) 0) (fun d => tallyL (P.dues k d)) (launchOf P.fam.S P.fam.Sd P.fam.T) (P.rides E k) Es := by
  have h := TalkSites.pass (O := fun _ => 0) (fun d => tallyL (P.dues k d))
    (P.fam.funds E (P.rd E) (fun _ _ h => h) (fun _ => Finset.univ) (Es := Es))
  simp only [zero_add] at h
  exact h

/-- The hop starts: the scoped counters at zero go under their invariants. -/
theorem Site.enter [E.LandsIn (upEmb : UEmb _ 𝕄)] (k : ℕ) (c : Dev 4) :
    iprop(P.rides E k c ∗ (semVal (P.s0C c) 0 ∗ semVal (P.s1C c) 0 ∗ semVal (P.r0C c) 0 ∗ semVal (P.r1C c) 0))
      ⊢ (|={Set.univ}=> P.opened E k c : sProp 𝕄) := by
  unfold Site.rides Site.opened Fam.launched Fam.barPos
  iintro ⟨⟨Hcr, ⟨⟨%κ, #HI⟩, Hat, #Hr⟩, Hj⟩, Hv0, Hv1, Hv2, Hv3⟩
  ihave Hc := (P.credIn k c) $$ Hcr
  icases Hc with ⟨Hc1, Hc2, Hc3⟩
  ihave Hj' := (show (bigSep Finset.univ fun j => P.fam.rides E (P.rd E) c j) ⊢ (P.fam.rides E (P.rd E) c 0 : sProp 𝕄) from bigSep_elim (Finset.mem_univ 0)) $$ Hj
  unfold Fam.rides
  icases Hj' with ⟨-, Hop, Htk⟩
  ihave Hop' := (show (bigSep (P.fam.dorm 0) fun sm => openTok E ((c.tc : Thread 4 τ), sm))
      ⊢ iprop(openTok E (P.s0C c) ∗ openTok E (P.s1C c) ∗ openTok E (P.r0C c) ∗ openTok E (P.r1C c)) from by
    show (bigSep ({.dma P.s0, .dma P.s1, .dma P.r0, .dma P.r1} : Finset (SemLoc sig)) _) ⊢ _
    rw [bigSep_insert (by simp [P.ne01, P.ne0r0, P.ne0r1]), bigSep_insert (by simp [P.ne1r0, P.ne1r1]), bigSep_insert (by simp [P.nerr]), bigSep_singleton]
    exact .rfl) $$ Hop
  ihave Htk' := (show (bigSep (P.fam.toks c 0) fun x => dutyTok E x.1 x.2.1 x.2.2)
      ⊢ iprop(dutyTok E (P.barC (lt c)) 0 0 ∗ dutyTok E (P.barC (rt c)) 0 1 ∗ dutyTok E (P.s0C c) 0 0 ∗ dutyTok E (P.s1C c) 0 0
      ∗ dutyTok E (P.r0C (rt c)) 0 0 ∗ dutyTok E (P.r1C (lt c)) 0 0) from by
    show (bigSep ({(P.barC (lt c), 0, 0), (P.barC (rt c), 0, 1), (P.s0C c, 0, 0), (P.s1C c, 0, 0), (P.r0C (rt c), 0, 0), (P.r1C (lt c), 0, 0)} : Finset (GSem 4 τ sig × ℕ × Fin 3)) _) ⊢ _
    rw [bigSep_insert (by simp), bigSep_insert (by simp), bigSep_insert (by simp [P.ne01, P.ne0r0, P.ne0r1]), bigSep_insert (by simp [P.ne1r0, P.ne1r1]),
      bigSep_insert (by simp [P.nerr]), bigSep_singleton]
    exact .rfl) $$ Htk
  icases Hop' with ⟨Ho0, Ho1, Ho2, Ho3⟩
  ihave #HIs0 := (inv_dma P E κ c (mem_s0 P)) $$ HI
  ihave #HIs1 := (inv_dma P E κ c (mem_s1 P)) $$ HI
  ihave #HIr0 := (inv_dma P E κ c (mem_r0 P)) $$ HI
  ihave #HIr1 := (inv_dma P E κ c (mem_r1 P)) $$ HI
  imod (Rounds.cell_open E (P.rd E) (g := P.s0C c) (Set.mem_univ _)) $$ [Ho0 Hv0] with ⟨Ha0, Hr0⟩
  · isplitr; · iexact HIs0
    isplitl [Ho0] <;> iassumption
  imod (Rounds.cell_open E (P.rd E) (g := P.s1C c) (Set.mem_univ _)) $$ [Ho1 Hv1] with ⟨Ha1, Hr1⟩
  · isplitr; · iexact HIs1
    isplitl [Ho1] <;> iassumption
  imod (Rounds.cell_open E (P.rd E) (g := P.r0C c) (Set.mem_univ _)) $$ [Ho2 Hv2] with ⟨Ha2, Hr2⟩
  · isplitr; · iexact HIr0
    isplitl [Ho2] <;> iassumption
  imod (Rounds.cell_open E (P.rd E) (g := P.r1C c) (Set.mem_univ _)) $$ [Ho3 Hv3] with ⟨Ha3, Hr3⟩
  · isplitr; · iexact HIr1
    isplitl [Ho3] <;> iassumption
  imodintro
  isplitr; · iexists κ; iexact HI
  isplitr; · iexact Hr
  isplitl [Hat Ha0 Ha1 Ha2 Ha3]
  · isplitl [Hat]; · iexact Hat
    isplitl [Ha0]; · iexact Ha0
    isplitl [Ha1]; · iexact Ha1
    isplitl [Ha2] <;> iassumption
  isplitl [Hr0 Hr1 Hr2 Hr3]
  · isplitl [Hr0]; · iexact Hr0
    isplitl [Hr1]; · iexact Hr1
    isplitl [Hr2] <;> iassumption
  isplitl [Htk']; · iexact Htk'
  isplitl [Hc1]; · iexact Hc1
  isplitl [Hc2] <;> iassumption

/-- Before the body: what `open` made, the sources at their contents, the landing buffers at any, the dues. -/
def Site.pre (NN k : ℕ) (O : Dev 4 → CellTallies 4 τ sig ℕ) (c : Dev 4) (W : Waits sig ℕ) : sProp 𝕄 :=
  iprop(P.opened E k c ∗ levAts (L NN) lv ∗ P.aPts c ∗ P.bPts c ∗ P.oaAny c ∗ P.obAny c
    ∗ owes (c : Thread 4 τ) (addL (O c) (P.dues k c)) W)

/-- After the body: every counter at zero, the sources back, the landing buffers at what landed, the dues paid. -/
def Site.post (O : Dev 4 → CellTallies 4 τ sig ℕ) (c : Dev 4) : sProp 𝕄 :=
  iprop(semVal (P.barC c) 0 ∗ (semVal (P.s0C c) 0 ∗ semVal (P.s1C c) 0 ∗ semVal (P.r0C c) 0 ∗ semVal (P.r1C c) 0)
    ∗ P.aPts c ∗ P.bPts c ∗ P.oaPts c ∗ P.obPts c ∗ ∃ W, owes (c : Thread 4 τ) (O c) W)

set_option maxHeartbeats 1600000 in
/-- The body runs from `pre` to `post`. -/
theorem Site.run [E.LandsIn (upEmb : UEmb _ 𝕄)] (defs : Defs 4 τ sig Val Λ) (𝒱 : Variants) (hr : ∀ c c' : Dev 4, τ.routes (c : Thread 4 τ) (c' : Thread 4 τ) = true)
    (hwa : P.a.view.WordExact) (hwb : P.b.view.WordExact) (hwoa : P.oa.view.WordExact) (hwob : P.ob.view.WordExact)
    (hca : P.oa.view.ref.isScScratch = false) (hcb : P.ob.view.ref.isScScratch = false)
    (hta : ∀ d : Dev 4, DmaTarget.Typed (nD := 4) (τ := τ) (p := .tc) .hbm (.dma P.r0) (.remote (Dev.tc d) P.oa (.dma P.s0) hca))
    (htb : ∀ d : Dev 4, DmaTarget.Typed (nD := 4) (τ := τ) (p := .tc) .hbm (.dma P.r1) (.remote (Dev.tc d) P.ob (.dma P.s1) hcb))
    {NN k : ℕ} (hk : 0 < k) (hN : k + 2 ≤ NN) {O : Dev 4 → CellTallies 4 τ sig ℕ} (hO : Above NN (k + 2) O)
    (c : Dev 4) (W : Waits sig ℕ) (Kt : PUnit → sProp 𝕄) :
    iprop(P.pre E NN k O c W ∗ (P.post O c -∗ Kt ⟨⟩))
      ⊢ wp frame (wpE defs 𝒱 (c : Thread 4 τ) none) Set.univ (P.prog (Λ := Λ) hwa hwb hwoa hwob lt rt rt lt hca hcb hta htb) Kt := by
  have hbw : (levAts (L NN) lv : sProp 𝕄) ⊢ MayWait (c : Thread 4 τ) (.reg P.bar) k (addL (O c) [(P.r1C (lt c), k + 1, P.N), (P.r0C (rt c), k + 1, P.N)]) :=
    mayWait_addL (e := k + 2) (by omega) hN hO c _ _ (by
      intro x hx
      simp only [List.mem_cons, List.not_mem_nil, or_false] at hx
      rcases hx with rfl | rfl <;> exact ⟨rfl, by dsimp only; omega, by dsimp only; omega⟩)
  have hw (s : DmaSem sig) (i : ℕ) (hi : i < k + 2) : (levAts (L NN) lv : sProp 𝕄) ⊢ MayWait (c : Thread 4 τ) (.dma s) i (O c) :=
    mayWait_addL (e := k + 2) hi hN hO c (.dma s) [] (fun x hx => absurd hx (List.not_mem_nil))
  simp only [Site.prog, wp_deviceId]
  unfold Site.pre Site.opened
  iintro ⟨⟨⟨⟨%κ, #HI⟩, #HrB, ⟨HatB, Hat0, Hat1, Hat2, Hat3⟩, ⟨#Hr0, #Hr1, #Hr2, #Hr3⟩, ⟨HtB0, HtB1, Ht0, Ht1, Ht2, Ht3⟩, HcB, Hc0, Hc1⟩,
    #Hlev, Ha, Hb, Hoa, Hob, HO⟩, Hk⟩
  unfold Site.oaAny Site.obAny
  ihave #HIb := (inv_bar P E κ c) $$ HI
  ihave #HIbl := (inv_bar P E κ (lt c)) $$ HI
  ihave #HIbr := (inv_bar P E κ (rt c)) $$ HI
  ihave #HIs0 := (inv_dma P E κ c (mem_s0 P)) $$ HI
  ihave #HIs1 := (inv_dma P E κ c (mem_s1 P)) $$ HI
  ihave #HIr0 := (inv_dma P E κ c (mem_r0 P)) $$ HI
  ihave #HIr1 := (inv_dma P E κ c (mem_r1 P)) $$ HI
  ihave #HIr0' := (inv_dma P E κ (rt c) (mem_r0 P)) $$ HI
  ihave #HIr1' := (inv_dma P E κ (lt c) (mem_r1 P)) $$ HI
  ihave #HrBl := (show (bigSep Finset.univ fun n : Dev 4 => reached E (P.barC n) 0) ⊢ (reached E (P.barC (lt c)) 0 : sProp 𝕄) from bigSep_elim (Finset.mem_univ (lt c))) $$ HrB
  ihave #HrBr := (show (bigSep Finset.univ fun n : Dev 4 => reached E (P.barC n) 0) ⊢ (reached E (P.barC (rt c)) 0 : sProp 𝕄) from bigSep_elim (Finset.mem_univ (rt c))) $$ HrB
  -- the signal to the left hands over the own `oa`
  iapply (Rounds.wp_signal 𝒱 E (P.rd E) (c : Thread 4 τ) none (dst := (lt c : Thread 4 τ)) (sem := P.bar) (r := 0) (d := 0) (κ := κ (P.barC (lt c)))
      (by rw [duties_bar]; decide) (amount_bar P E (lt c) 0) k
      (addL (O c) [(P.r1C (lt c), k + 1, P.N), (P.r0C (rt c), k + 1, P.N), (P.barC (rt c), k, 1)]) rfl (hr _ _))
    $$ [HO HtB0 Hoa]
  · isplitr; · iexact HIbl
    isplitl [HO]; · iexact HO
    isplitl [HtB0]; · iexact HtB0
    isplitl [Hoa]
    · rw [payload_bar0]; unfold Site.payBar0; rw [rt_lt]
      isplitl [Hoa]; · iexact Hoa
      iexact Hr2
    · iexact HrBl
  iintro HO
  -- the signal to the right hands over the own `ob`
  iapply (Rounds.wp_signal 𝒱 E (P.rd E) (c : Thread 4 τ) none (dst := (rt c : Thread 4 τ)) (sem := P.bar) (r := 0) (d := 1) (κ := κ (P.barC (rt c)))
      (by rw [duties_bar]; decide) (amount_bar P E (rt c) 1) k
      (addL (O c) [(P.r1C (lt c), k + 1, P.N), (P.r0C (rt c), k + 1, P.N)]) rfl (hr _ _))
    $$ [HO HtB1 Hob]
  · isplitr; · iexact HIbr
    isplitl [HO]; · iexact HO
    isplitl [HtB1]; · iexact HtB1
    isplitl [Hob]
    · rw [payload_bar1]; unfold Site.payBar1; rw [lt_rt]
      isplitl [Hob]; · iexact Hob
      iexact Hr3
    · iexact HrBr
  iintro HO
  -- the wait for both neighbours brings the buffers that the two copies write
  iapply (Rounds.wp_wait_rest_token 𝒱 E (P.rd E) (c : Thread 4 τ) none (κ := κ (P.barC c))
      (wpE_semWait_eq 𝒱 (c : Thread 4 τ) none Set.univ) (Set.mem_univ _) k
      (O := addL (O c) [(P.r1C (lt c), k + 1, P.N), (P.r0C (rt c), k + 1, P.N)]) (W := W) (R := 0) (m := 0) (T := ∅)
      ((Nat.zero_add 2).trans (expect_bar P E c).symm)) $$ [HcB HO HatB]
  · isplitr; · iexact HIb
    isplitl [HcB]; · iexact HcB
    isplitl [HO]; · iexact HO
    isplitr; · iapply hbw; iexact Hlev
    iexact HatB
  iintro ⟨HO, HatB, -, Hpay⟩
  ihave Hp := (Entails.of_eq (rest_bar P E c)) $$ Hpay
  unfold Site.payBar0 Site.payBar1
  icases Hp with ⟨⟨⟨%f0, Hoa⟩, #Hr2'⟩, ⟨%f1, Hob⟩, #Hr3'⟩
  unfold Site.aPts Site.bPts
  -- the copy to the right
  iapply (Rounds.wp_send_pointsTo 𝒱 E (P.rd E) (c : Thread 4 τ) none (c' := (rt c : Thread 4 τ)) (src := P.a) (dst := P.oa)
      (sS := .dma P.s0) (sem := .dma P.r0) (q := fullShare) (fs := P.A c) (κ₁ := κ (P.s0C c)) (κ₂ := κ (P.r0C (rt c)))
      (r₁ := 0) (r₂ := 0) (d₁ := 0) (d₂ := 0) (fd := f0)
      (by rw [duties_dma]; decide) (by rw [duties_dma]; decide)
      (k + 1) 0 P.N P.hNoa (amount_dma P E c P.s0 0) (amount_dma P E (rt c) P.r0 0)
      (addL (O c) [(P.r1C (lt c), k + 1, P.N)]) rfl (W := insert (SemLoc.reg P.bar, k) W)
      (by rw [payload_s0]; exact BI.Entails.refl _)
      (by rw [payload_r0]; unfold Site.oaPts; rw [P.hA c]) (hr _ _)) $$ [Ha Hoa HO Ht0 Ht2]
  · isplitr; · iexact HIs0
    isplitr; · iexact HIr0'
    isplitl [Ha]; · iexact Ha
    isplitl [Hoa]; · iexact Hoa
    isplitl [HO]; · iexact HO
    isplitl [Ht0]; · iexact Ht0
    isplitr; · iexact Hr0
    isplitl [Ht2]; · iexact Ht2
    iexact Hr2'
  iintro ⟨HcS0, HO⟩
  -- the copy to the left
  iapply (Rounds.wp_send_pointsTo 𝒱 E (P.rd E) (c : Thread 4 τ) none (c' := (lt c : Thread 4 τ)) (src := P.b) (dst := P.ob)
      (sS := .dma P.s1) (sem := .dma P.r1) (q := fullShare) (fs := P.B c) (κ₁ := κ (P.s1C c)) (κ₂ := κ (P.r1C (lt c)))
      (r₁ := 0) (r₂ := 0) (d₁ := 0) (d₂ := 0) (fd := f1)
      (by rw [duties_dma]; decide) (by rw [duties_dma]; decide)
      (k + 1) 0 P.N P.hNob (amount_dma P E c P.s1 0) (amount_dma P E (lt c) P.r1 0)
      (O c) rfl (W := insert (SemLoc.reg P.bar, k) W)
      (by rw [payload_s1]; exact BI.Entails.refl _)
      (by rw [payload_r1]; unfold Site.obPts; rw [P.hB c]) (hr _ _)) $$ [Hb Hob HO Ht1 Ht3]
  · isplitr; · iexact HIs1
    isplitr; · iexact HIr1'
    isplitl [Hb]; · iexact Hb
    isplitl [Hob]; · iexact Hob
    isplitl [HO]; · iexact HO
    isplitl [Ht1]; · iexact Ht1
    isplitr; · iexact Hr1
    isplitl [Ht3]; · iexact Ht3
    iexact Hr3'
  iintro ⟨HcS1, HO⟩
  -- the sources come back
  rw [← P.hNoa]
  iapply (Rounds.wp_wait_rest_token 𝒱 E (P.rd E) (c : Thread 4 τ) none (κ := κ (P.s0C c))
      (wpE_waitDma2_eq 𝒱 (c : Thread 4 τ) none Set.univ) (Set.mem_univ _) 0 (O := O c) (W := insert (SemLoc.reg P.bar, k) W) (R := 0) (m := 0) (T := ∅)
      ((Nat.zero_add _).trans (P.hNa.trans (expect_dma P E c P.s0).symm))) $$ [HcS0 HO Hat0]
  · isplitr; · iexact HIs0
    isplitl [HcS0]; · rw [P.hNa, P.hNoa]; iexact HcS0
    isplitl [HO]; · iexact HO
    isplitr; · iapply (hw _ 0 (by omega)); iexact Hlev
    iexact Hat0
  iintro ⟨HO, Hat0, -, Hpay⟩
  ihave Ha := (Entails.of_eq ((rest_dma P E c P.s0).trans (payload_s0 P E c 0))) $$ Hpay
  iapply (Rounds.wp_wait_rest_token 𝒱 E (P.rd E) (c : Thread 4 τ) none (κ := κ (P.s1C c))
      (wpE_waitDma2_eq 𝒱 (c : Thread 4 τ) none Set.univ) (Set.mem_univ _) 0 (O := O c) (W := insert (SemLoc.dma P.s0, 0) (insert (SemLoc.reg P.bar, k) W)) (R := 0) (m := 0) (T := ∅)
      ((Nat.zero_add _).trans (P.hNb.trans (expect_dma P E c P.s1).symm))) $$ [HcS1 HO Hat1]
  · isplitr; · iexact HIs1
    isplitl [HcS1]; · rw [P.hNb, P.hNoa]; iexact HcS1
    isplitl [HO]; · iexact HO
    isplitr; · iapply (hw _ 0 (by omega)); iexact Hlev
    iexact Hat1
  iintro ⟨HO, Hat1, -, Hpay⟩
  ihave Hb := (Entails.of_eq ((rest_dma P E c P.s1).trans (payload_s1 P E c 0))) $$ Hpay
  -- the landings
  iapply (Rounds.wp_wait_rest_token 𝒱 E (P.rd E) (c : Thread 4 τ) none (κ := κ (P.r0C c))
      (wpE_waitDma2_eq 𝒱 (c : Thread 4 τ) none Set.univ) (Set.mem_univ _) (k + 1) (O := O c)
      (W := insert (SemLoc.dma P.s1, 0) (insert (SemLoc.dma P.s0, 0) (insert (SemLoc.reg P.bar, k) W))) (R := 0) (m := 0) (T := ∅)
      ((Nat.zero_add _).trans (P.hNoa.trans (expect_dma P E c P.r0).symm))) $$ [Hc0 HO Hat2]
  · isplitr; · iexact HIr0
    isplitl [Hc0]; · iexact Hc0
    isplitl [HO]; · iexact HO
    isplitr; · iapply (hw _ (k + 1) (by omega)); iexact Hlev
    iexact Hat2
  iintro ⟨HO, Hat2, -, Hpay⟩
  ihave Hoa := (Entails.of_eq ((rest_dma P E c P.r0).trans (payload_r0 P E c 0))) $$ Hpay
  iapply (Rounds.wp_wait_rest_token 𝒱 E (P.rd E) (c : Thread 4 τ) none (κ := κ (P.r1C c))
      (wpE_waitDma2_eq 𝒱 (c : Thread 4 τ) none Set.univ) (Set.mem_univ _) (k + 1) (O := O c)
      (W := insert (SemLoc.dma P.r0, k + 1) (insert (SemLoc.dma P.s1, 0) (insert (SemLoc.dma P.s0, 0) (insert (SemLoc.reg P.bar, k) W)))) (R := 0) (m := 0) (T := ∅)
      ((Nat.zero_add _).trans (P.hNob.trans (expect_dma P E c P.r1).symm))) $$ [Hc1 HO Hat3]
  · isplitr; · iexact HIr1
    isplitl [Hc1]; · rw [P.hNob, P.hNoa]; iexact Hc1
    isplitl [HO]; · iexact HO
    isplitr; · iapply (hw _ (k + 1) (by omega)); iexact Hlev
    iexact Hat3
  iintro ⟨HO, Hat3, -, Hpay⟩
  ihave Hob := (Entails.of_eq ((rest_dma P E c P.r1).trans (payload_r1 P E c 0))) $$ Hpay
  -- every cell is closed, its counter at zero
  rw [wp_ret]
  imod (Rounds.cell_close E (P.rd E) (g := P.barC c) (κ := κ (P.barC c)) (Set.mem_univ _) id (duties_later P E _)) $$ [HatB] with HvB
  · isplitr; · iexact HIb
    iexact HatB
  imod (Rounds.cell_close E (P.rd E) (g := P.s0C c) (κ := κ (P.s0C c)) (Set.mem_univ _) id (duties_later P E _)) $$ [Hat0] with Hv0
  · isplitr; · iexact HIs0
    iexact Hat0
  imod (Rounds.cell_close E (P.rd E) (g := P.s1C c) (κ := κ (P.s1C c)) (Set.mem_univ _) id (duties_later P E _)) $$ [Hat1] with Hv1
  · isplitr; · iexact HIs1
    iexact Hat1
  imod (Rounds.cell_close E (P.rd E) (g := P.r0C c) (κ := κ (P.r0C c)) (Set.mem_univ _) id (duties_later P E _)) $$ [Hat2] with Hv2
  · isplitr; · iexact HIr0
    iexact Hat2
  imod (Rounds.cell_close E (P.rd E) (g := P.r1C c) (κ := κ (P.r1C c)) (Set.mem_univ _) id (duties_later P E _)) $$ [Hat3] with Hv3
  · isplitr; · iexact HIr1
    iexact Hat3
  imodintro
  iapply Hk
  unfold Site.post
  isplitl [HvB]; · iexact HvB
  isplitl [Hv0 Hv1 Hv2 Hv3]
  · isplitl [Hv0]; · iexact Hv0
    isplitl [Hv1]; · iexact Hv1
    isplitl [Hv2] <;> iassumption
  isplitl [Ha]; · iexact Ha
  isplitl [Hb]; · iexact Hb
  isplitl [Hoa]; · iexact Hoa
  isplitl [Hob]; · iexact Hob
  iexists _; iexact HO

end Run

end Gen

end Cert.Hop

end
-- ==== Proof.Push.lean ====
/-
  One all-to-all push of a block, for any launch of it.

  Every device signals the three others, waits for the three of them, copies its source into its own slice of its own
  buffer and into its own slice of the three others' buffers, then waits for the local copy, for the three sends and for
  the three landings. A device's signal to `p` hands over slice `p` of its own buffer, which `p` will write, together with
  the fact that the receive cell `p` will credit is open. The launch is stated over the memrefs and semaphores it uses, so
  that the two pushes of the program are two instances.
-/
module

public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Pipeline.RegionTalk
public import Idealize.ShloMosaic.Lib.Pipeline.TalkSites
public import Idealize.ShloMosaic.Harness.Basic

@[expose] public section

set_option Elab.async false

noncomputable section

namespace Cert.Push

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv Above Funds mem_L' above_zero)
open Idealize.ShloMosaic.TalkSites (Pay tallyL addL addL_eq Fam mayWait_addL talk_above)

/-- The device `i + 1` places ahead on the ring of four: the target of send `i`. -/
def fw (i : Fin 3) (c : Dev 4) : Dev 4 := ⟨(c.val + 1 + i.val) % 4, Nat.mod_lt _ (by decide)⟩
/-- The device `i + 1` places behind: the sender of landing `i`. -/
def fr (i : Fin 3) (c : Dev 4) : Dev 4 := ⟨(c.val + 3 - i.val) % 4, Nat.mod_lt _ (by decide)⟩
/-- The send that reaches the device `i + 1` places behind. -/
def rev (i : Fin 3) : Fin 3 := ⟨2 - i.val, by omega⟩
theorem fr_fw (i : Fin 3) (c : Dev 4) : fr i (fw i c) = c := by revert i c; decide
theorem fw_fr (i : Fin 3) (c : Dev 4) : fw i (fr i c) = c := by revert i c; decide
theorem fr0 (c : Dev 4) : fr 0 c = fw 2 c := by revert c; decide
theorem fr1 (c : Dev 4) : fr 1 c = fw 1 c := by revert c; decide
theorem fr2 (c : Dev 4) : fr 2 c = fw 0 c := by revert c; decide
/-- A shift of the ring as a permutation of the devices. -/
def shift (i : Fin 3) : Dev 4 ≃ Dev 4 := ⟨fw i, fr i, fr_fw i, fw_fr i⟩

/-- The four devices, from one of them on. -/
theorem devs_fw (c : Dev 4) : (Finset.univ : Finset (Dev 4)) = {c, fw 0 c, fw 1 c, fw 2 c} := by revert c; decide
theorem devs_fr (c : Dev 4) : (Finset.univ : Finset (Dev 4)) = {c, fr 0 c, fr 1 c, fr 2 c} := by revert c; decide

/-- What one push is made of: its semaphores, its source, the slice of the output that each device writes, the memrefs
    named in the three waits for a landing, the source's contents, and what the output holds on a slice afterwards. -/
structure Site (τ : Topo) (sig : RefSig) (Val : EltTy → Type) (S : Shape) (e : EltTy) where
  bar : Sem sig
  ls : DmaSem sig
  s : Fin 3 → DmaSem sig
  r : Fin 3 → DmaSem sig
  src : Memref sig .tc .hbm S e
  sl : Dev 4 → Memref sig .tc .hbm S e
  wsl : Fin 3 → Dev 4 → Memref sig .tc .hbm S e
  X : (c : Dev 4) → Buf Val (src.view.loc (c : Thread 4 τ))
  Lnd : (q c : Dev 4) → Buf Val ((sl q).view.loc (c : Thread 4 τ))
  hL : ∀ (q c : Dev 4) (fd : Buf Val ((sl q).view.loc (c : Thread 4 τ))), ∀ i ∈ (sl q).view.set,
    (sl q).view.write Val fd (src.view.read Val (X q)) Finset.univ i = Lnd q c i
  N : ℕ
  N_pos : 0 < N
  hNsrc : src.view.dmaCredit = N
  hNsl : ∀ q, (sl q).view.dmaCredit = N
  hNw : ∀ i q, (wsl i q).view.dmaCredit = N
  nels : ∀ i, ls ≠ s i
  nelr : ∀ i, ls ≠ r i
  nesr : ∀ i j, s i ≠ r j
  ness : Function.Injective s
  nerr : Function.Injective r

section Gen

variable {τ : Topo} {sig : RefSig} {Val : EltTy → Type} {S : Shape} {e : EltTy} (P : Site τ sig Val S e)

/-- A device's cells of the push: barrier, local copy, sends, landings. -/
abbrev Site.barC (c : Dev 4) : GSem 4 τ sig := ((c : Thread 4 τ), .reg P.bar)
@[inherit_doc Site.barC] abbrev Site.lsC (c : Dev 4) : GSem 4 τ sig := ((c : Thread 4 τ), .dma P.ls)
@[inherit_doc Site.barC] abbrev Site.sC (i : Fin 3) (c : Dev 4) : GSem 4 τ sig := ((c : Thread 4 τ), .dma (P.s i))
@[inherit_doc Site.barC] abbrev Site.rC (i : Fin 3) (c : Dev 4) : GSem 4 τ sig := ((c : Thread 4 τ), .dma (P.r i))

/-! ## Dues and the launch's cells -/

/-- What device `c` pays the other devices, the last payment first; `k` is the level of the barrier. -/
def Site.dues (k : ℕ) (c : Dev 4) : List (Pay 4 τ sig) :=
  [(P.rC 2 (fw 2 c), k + 1, P.N), (P.rC 1 (fw 1 c), k + 1, P.N), (P.rC 0 (fw 0 c), k + 1, P.N),
    (P.barC (fw 2 c), k, 1), (P.barC (fw 1 c), k, 1), (P.barC (fw 0 c), k, 1)]

theorem Site.dues_mem (k : ℕ) (c : Dev 4) : ∀ x ∈ P.dues k c, x.1.1.2 = .tc ∧ k ≤ x.2.1 ∧ x.2.1 < k + 2 := by
  intro x hx
  simp only [Site.dues, List.mem_cons, List.not_mem_nil, or_false] at hx
  rcases hx with rfl | rfl | rfl | rfl | rfl | rfl <;> exact ⟨rfl, by dsimp only; omega, by dsimp only; omega⟩

/-- What the other devices pay device `c`. -/
def Site.creds (k : ℕ) (c : Dev 4) : List (Pay 4 τ sig) :=
  [(P.barC c, k, 1), (P.barC c, k, 1), (P.barC c, k, 1), (P.rC 0 c, k + 1, P.N), (P.rC 1 c, k + 1, P.N), (P.rC 2 c, k + 1, P.N)]

theorem Site.sum_dues (k : ℕ) : (∑ d : Dev 4, tallyL (P.dues k d)) = ∑ d : Dev 4, tallyL (P.creds k d) := by
  simp only [Site.dues, Site.creds, tallyL, Finset.sum_add_distrib, add_zero]
  have e1 (i : Fin 3) : (∑ d : Dev 4, tallyAt (P.rC i (fw i d)) (k + 1) P.N : CellTallies 4 τ sig ℕ) = ∑ d : Dev 4, tallyAt (P.rC i d) (k + 1) P.N :=
    Equiv.sum_comp (shift i) fun d => (tallyAt (P.rC i d) (k + 1) P.N : CellTallies 4 τ sig ℕ)
  have e2 (i : Fin 3) : (∑ d : Dev 4, tallyAt (P.barC (fw i d)) k 1 : CellTallies 4 τ sig ℕ) = ∑ d : Dev 4, tallyAt (P.barC d) k 1 :=
    Equiv.sum_comp (shift i) fun d => (tallyAt (P.barC d) k 1 : CellTallies 4 τ sig ℕ)
  rw [e1, e1, e1, e2, e2, e2]
  abel

/-- The cells and tokens of the push, for its launch: a scoped cell is put under its invariant when its kernel starts. -/
def Site.fam : Fam 4 τ sig (Fin 3) 1 where
  bar := .reg P.bar
  dorm _ := {.dma P.ls, .dma (P.s 0), .dma (P.s 1), .dma (P.s 2), .dma (P.r 0), .dma (P.r 1), .dma (P.r 2)}
  toks c _ := {(P.barC (fw 0 c), 0, 0), (P.barC (fw 1 c), 0, 1), (P.barC (fw 2 c), 0, 2), (P.lsC c, 0, 0), (P.sC 0 c, 0, 0), (P.sC 1 c, 0, 0), (P.sC 2 c, 0, 0),
    (P.rC 0 (fw 0 c), 0, 0), (P.rC 1 (fw 1 c), 0, 0), (P.rC 2 (fw 2 c), 0, 0)}
  semKey _ := 0
  hsem j _ _ := (Subsingleton.elim _ _)
  hbar _ := by simp
  tokKey x := (if x.1.2 = .reg P.bar then fr x.2.2 x.1.1.1 else if x.1.2 = .dma (P.r 0) then fr 0 x.1.1.1
    else if x.1.2 = .dma (P.r 1) then fr 1 x.1.1.1 else if x.1.2 = .dma (P.r 2) then fr 2 x.1.1.1 else x.1.1.1, 0)
  htok c j x hx := by
    obtain rfl : j = 0 := Subsingleton.elim _ _
    simp only [Finset.mem_insert, Finset.mem_singleton] at hx
    rcases hx with rfl | rfl | rfl | rfl | rfl | rfl | rfl | rfl | rfl | rfl <;>
      simp [fr_fw, P.nelr, P.nesr, P.nerr.eq_iff]

variable {U : Type} [URA U]

local notation "𝕄" => MT 4 τ sig ℕ Val ℕ U ℕ

/-- A device's share of the launch credit under the push's dues: three units on its barrier, its three landings. -/
theorem Site.credIn (k : ℕ) (c : Dev 4) : (Pipeline.launchCred (fun d => tallyL (P.dues k d)) c : sProp 𝕄)
    ⊢ iprop(cred (tallyAt (P.barC c) k 3) ∗ cred (tallyAt (P.rC 0 c) (k + 1) P.N) ∗ cred (tallyAt (P.rC 1 c) (k + 1) P.N)
      ∗ cred (tallyAt (P.rC 2 c) (k + 1) P.N)) := by
  rw [Pipeline.launchCred_of_sum _ (fun d => tallyL (P.creds k d)) (P.sum_dues k) (fun d g hg => by
      obtain ⟨i, hi⟩ := DFunLike.ne_iff.mp hg
      obtain ⟨x, hx, rfl, -⟩ := TalkSites.tallyL_pos (Nat.pos_of_ne_zero hi)
      simp only [Site.creds, List.mem_cons, List.not_mem_nil, or_false] at hx
      rcases hx with rfl | rfl | rfl | rfl | rfl | rfl <;> rfl) c]
  have e : tallyL (P.creds k c) = (tallyAt (P.barC c) k 3 + (tallyAt (P.rC 0 c) (k + 1) P.N + (tallyAt (P.rC 1 c) (k + 1) P.N
      + tallyAt (P.rC 2 c) (k + 1) P.N)) : CellTallies 4 τ sig ℕ) := by
    simp only [Site.creds, tallyL, add_zero]
    rw [← add_assoc, tallyAt_add, ← add_assoc, tallyAt_add]
    rfl
  rw [e]
  exact (cred_add _ _).1.trans (sep_mono .rfl ((cred_add _ _).1.trans (sep_mono .rfl (cred_add _ _).1)))

/-! ## The schedule -/

variable (E : Emb (URounds (GSem 4 τ sig) (Fin 3)) (MT 4 τ sig ℕ Val ℕ U ℕ))

/-- Slice `q` of device `c`'s output at contents not named. -/
def Site.slAny (q c : Dev 4) : sProp 𝕄 :=
  iprop(∃ f : Buf Val ((P.sl q).view.loc (c : Thread 4 τ)), (P.sl q).view.loc (c : Thread 4 τ) ↦[(P.sl q).view.set]{fullShare} f)
/-- Slice `q` of device `c`'s output after the push. -/
def Site.slPts (q c : Dev 4) : sProp 𝕄 := (P.sl q).view.loc (c : Thread 4 τ) ↦[(P.sl q).view.set]{fullShare} P.Lnd q c
/-- A share of the source. -/
def Site.srcPts (q : PosShare TreeShare) (c : Dev 4) : sProp 𝕄 := P.src.view.loc (c : Thread 4 τ) ↦[P.src.view.set]{q} P.X c

/-- What the signal of the device `i + 1` places behind brings: its slice of the waiting device, and that its receive
    cell is open. -/
def Site.payBar (i : Fin 3) (c : Dev 4) : sProp 𝕄 :=
  iprop(P.slAny c (fr i c) ∗ reached E (P.rC (rev i) (fr i c)) 0)

/-- The share of the source that the local copy reads; the other three are the sends'. -/
abbrev shL : PosShare TreeShare := (fullShare : PosShare TreeShare).left.left
@[inherit_doc shL] abbrev shS (i : Fin 3) : PosShare TreeShare :=
  if i = 0 then (fullShare : PosShare TreeShare).left.right else if i = 1 then (fullShare : PosShare TreeShare).right.left
  else (fullShare : PosShare TreeShare).right.right

/-- The source in four shares. -/
theorem Site.src_split (c : Dev 4) : (P.srcPts fullShare c : sProp 𝕄)
    ⊣⊢ iprop((P.srcPts shL c ∗ P.srcPts (shS 0) c) ∗ P.srcPts (shS 1) c ∗ P.srcPts (shS 2) c) := by
  unfold Site.srcPts
  refine (pointsTo_share (PosShare.mem_left_op_right _)).trans ?_
  have h1 := pointsTo_share (nD := 4) (Ix := ℕ) (Name := ℕ) (U := U) (Lvl := ℕ) (Val := Val) (ℓ := P.src.view.loc (c : Thread 4 τ)) (I := P.src.view.set) (f := P.X c)
    (PosShare.mem_left_op_right (fullShare : PosShare TreeShare).left)
  have h2 := pointsTo_share (nD := 4) (Ix := ℕ) (Name := ℕ) (U := U) (Lvl := ℕ) (Val := Val) (ℓ := P.src.view.loc (c : Thread 4 τ)) (I := P.src.view.set) (f := P.X c)
    (PosShare.mem_left_op_right (fullShare : PosShare TreeShare).right)
  exact ⟨BIClass.sep_mono h1.1 h2.1, BIClass.sep_mono h1.2 h2.2⟩

/-- One round. A barrier cell has three duties of one unit, every other cell one duty of a whole block. -/
def Site.rd : Schedule (GSem 4 τ sig) (Fin 3) 𝕄 where
  duties g r := if r = 0 then (if g.2 = .reg P.bar then {0, 1, 2} else {0}) else ∅
  unitless _ := False
  amount g _ _ := if g.2 = .reg P.bar then 1 else P.N
  payload g _ d :=
    if g.2 = .reg P.bar then P.payBar E d g.1.1
    else if g.2 = .dma P.ls then iprop(P.slPts g.1.1 g.1.1 ∗ P.srcPts shL g.1.1)
    else if g.2 = .dma (P.s 0) then P.srcPts (shS 0) g.1.1
    else if g.2 = .dma (P.s 1) then P.srcPts (shS 1) g.1.1
    else if g.2 = .dma (P.s 2) then P.srcPts (shS 2) g.1.1
    else if g.2 = .dma (P.r 0) then P.slPts (fr 0 g.1.1) g.1.1
    else if g.2 = .dma (P.r 1) then P.slPts (fr 1 g.1.1) g.1.1
    else if g.2 = .dma (P.r 2) then P.slPts (fr 2 g.1.1) g.1.1
    else iprop(emp)
  amount_pos g _ _ _ := by
    by_cases h : g.2 = .reg P.bar
    · rw [if_pos h]; exact Nat.one_pos
    · rw [if_neg h]; exact P.N_pos

instance rd_storable [E.LandsIn (upEmb : UEmb _ 𝕄)] (g : GSem 4 τ sig) (r : ℕ) (d : Fin 3) :
    BI.Storable (upEmb : UEmb _ 𝕄) ((P.rd E).payload g r d) := by
  show BI.Storable upEmb (if g.2 = .reg P.bar then P.payBar E d g.1.1
    else if g.2 = .dma P.ls then iprop(P.slPts g.1.1 g.1.1 ∗ P.srcPts shL g.1.1)
    else if g.2 = .dma (P.s 0) then P.srcPts (shS 0) g.1.1
    else if g.2 = .dma (P.s 1) then P.srcPts (shS 1) g.1.1
    else if g.2 = .dma (P.s 2) then P.srcPts (shS 2) g.1.1
    else if g.2 = .dma (P.r 0) then P.slPts (fr 0 g.1.1) g.1.1
    else if g.2 = .dma (P.r 1) then P.slPts (fr 1 g.1.1) g.1.1
    else if g.2 = .dma (P.r 2) then P.slPts (fr 2 g.1.1) g.1.1
    else iprop(emp))
  unfold Site.payBar Site.slPts Site.slAny Site.srcPts
  split; · infer_instance
  split; · infer_instance
  split; · infer_instance
  split; · infer_instance
  split; · infer_instance
  split; · infer_instance
  split; · infer_instance
  split <;> infer_instance

section Tables

variable (c : Dev 4)

theorem duties_bar : (P.rd E).duties (P.barC c) 0 = {0, 1, 2} := by simp [Site.rd]
theorem duties_dma (s : DmaSem sig) : (P.rd E).duties ((c : Thread 4 τ), .dma s) 0 = {0} := by simp [Site.rd]
theorem duties_later (g : GSem 4 τ sig) : ∀ r, 0 + 1 ≤ r → (P.rd E).duties g r = ∅ := fun r hr => by
  dsimp only [Site.rd]; rw [if_neg (by omega)]
theorem amount_bar (d : Fin 3) : (P.rd E).amount (P.barC c) 0 d = 1 := by simp [Site.rd]
theorem amount_dma (s : DmaSem sig) (d : Fin 3) : (P.rd E).amount ((c : Thread 4 τ), .dma s) 0 d = P.N := by simp [Site.rd]
theorem expect_bar : (P.rd E).expect (P.barC c) 0 = 3 := by
  unfold Schedule.expect Schedule.amountOf; rw [duties_bar]; simp only [amount_bar]; rfl
theorem expect_dma (s : DmaSem sig) : (P.rd E).expect ((c : Thread 4 τ), .dma s) 0 = P.N := by
  unfold Schedule.expect Schedule.amountOf; rw [duties_dma, Finset.sum_singleton, amount_dma]
theorem payload_bar (i : Fin 3) : (P.rd E).payload (P.barC c) 0 i = P.payBar E i c := by simp [Site.rd]
theorem payload_ls (d : Fin 3) : (P.rd E).payload (P.lsC c) 0 d = iprop(P.slPts c c ∗ P.srcPts shL c) := by simp [Site.rd]
theorem payload_s (i d : Fin 3) : (P.rd E).payload (P.sC i c) 0 d = P.srcPts (shS i) c := by
  match i with
  | 0 => simp [Site.rd, (P.nels _).symm]
  | 1 => simp [Site.rd, (P.nels _).symm, P.ness.eq_iff]
  | 2 => simp [Site.rd, (P.nels _).symm, P.ness.eq_iff]
theorem payload_r (i d : Fin 3) : (P.rd E).payload (P.rC i c) 0 d = P.slPts (fr i c) c := by
  match i with
  | 0 => simp [Site.rd, (P.nelr _).symm, (P.nesr _ _).symm, P.nerr.eq_iff]
  | 1 => simp [Site.rd, (P.nelr _).symm, (P.nesr _ _).symm, P.nerr.eq_iff]
  | 2 => simp [Site.rd, (P.nelr _).symm, (P.nesr _ _).symm, P.nerr.eq_iff]
theorem rest_bar : bigSep ((P.rd E).duties (P.barC c) 0 \ ∅) (fun d => (P.rd E).payload (P.barC c) 0 d)
    = iprop(P.payBar E 0 c ∗ P.payBar E 1 c ∗ P.payBar E 2 c) := by
  rw [Finset.sdiff_empty, duties_bar, bigSep_insert (by decide), bigSep_insert (by decide), bigSep_singleton, payload_bar, payload_bar, payload_bar]
  rfl
theorem rest_dma (s : DmaSem sig) : bigSep ((P.rd E).duties ((c : Thread 4 τ), .dma s) 0 \ ∅) (fun d => (P.rd E).payload ((c : Thread 4 τ), .dma s) 0 d)
    = (P.rd E).payload ((c : Thread 4 τ), .dma s) 0 0 := by
  rw [Finset.sdiff_empty, duties_dma, bigSep_singleton]

end Tables

/-! ## The kernel's body -/

section Run

variable {Λ : Labels}

/-- The body, over the devices it addresses: the signals, the copies, the waits. -/
def Site.prog (hws : P.src.view.WordExact) (hwl : ∀ d, (P.sl d).view.WordExact) (hww : ∀ i d, (P.wsl i d).view.WordExact)
    (d1 d2 d3 d4 d5 d6 : Dev 4 → Dev 4) (hc : ∀ d, (P.sl d).view.ref.isScScratch = false)
    (htl : ∀ d : Dev 4, DmaTarget.Typed (nD := 4) (τ := τ) (p := .tc) .hbm (.dma P.ls) (.here (P.sl d)))
    (htr : ∀ (i : Fin 3) (d t : Dev 4), DmaTarget.Typed (nD := 4) (τ := τ) (p := .tc) .hbm (.dma (P.r i)) (.remote (Dev.tc t) (P.sl d) (.dma (P.s i)) (hc d))) :
    Prog (TpuEff 4 τ sig Val Λ .tc) PUnit :=
  .op .deviceId fun d =>
  .op (.semSignal (Dev.tc (d1 d)) P.bar 1) fun _ =>
  .op (.semSignal (Dev.tc (d2 d)) P.bar 1) fun _ =>
  .op (.semSignal (Dev.tc (d3 d)) P.bar 1) fun _ =>
  .op (.semWait P.bar 3) fun _ =>
  .op (.enqueueDma P.src (.here (P.sl d)) (.dma P.ls) hws (hwl d) (htl d)) fun _ =>
  .op (.enqueueDma P.src (.remote (Dev.tc (d4 d)) (P.sl d) (.dma (P.s 0)) (hc d)) (.dma (P.r 0)) hws (hwl d) (htr 0 d (d4 d))) fun _ =>
  .op (.enqueueDma P.src (.remote (Dev.tc (d5 d)) (P.sl d) (.dma (P.s 1)) (hc d)) (.dma (P.r 1)) hws (hwl d) (htr 1 d (d5 d))) fun _ =>
  .op (.enqueueDma P.src (.remote (Dev.tc (d6 d)) (P.sl d) (.dma (P.s 2)) (hc d)) (.dma (P.r 2)) hws (hwl d) (htr 2 d (d6 d))) fun _ =>
  .op (.waitDma2 P.ls P.src (P.sl d) hws (hwl d)) fun _ =>
  .op (.waitDma2 (P.s 0) (P.sl d) P.src (hwl d) hws) fun _ =>
  .op (.waitDma2 (P.s 1) (P.sl d) P.src (hwl d) hws) fun _ =>
  .op (.waitDma2 (P.s 2) (P.sl d) P.src (hwl d) hws) fun _ =>
  .op (.waitDma2 (P.r 0) P.src (P.wsl 0 d) hws (hww 0 d)) fun _ =>
  .op (.waitDma2 (P.r 1) P.src (P.wsl 1 d) hws (hww 1 d)) fun _ =>
  .op (.waitDma2 (P.r 2) P.src (P.wsl 2 d) hws (hww 2 d)) fun _ => .ret ⟨⟩

/-- What rides from the program's launch to the push on device `c`. -/
def Site.rides (k : ℕ) (c : Dev 4) : sProp 𝕄 :=
  iprop(Pipeline.launchCred (fun d => tallyL (P.dues k d)) c ∗ P.fam.launched E (P.rd E) (fun _ => Finset.univ) c)

/-- The same, after the scoped cells are put under their invariants: invariants, barrier cells open, own positions, the
    tokens of the duties the device pays, the credit it waits with. -/
def Site.opened (k : ℕ) (c : Dev 4) : sProp 𝕄 :=
  iprop((∃ κ, P.fam.cellInvs E (P.rd E) κ)
    ∗ (bigSep Finset.univ fun n : Dev 4 => reached E (P.barC n) 0)
    ∗ (atPos E (P.barC c) 0 ∅ 0 ∗ atPos E (P.lsC c) 0 ∅ 0 ∗ atPos E (P.sC 0 c) 0 ∅ 0 ∗ atPos E (P.sC 1 c) 0 ∅ 0 ∗ atPos E (P.sC 2 c) 0 ∅ 0
      ∗ atPos E (P.rC 0 c) 0 ∅ 0 ∗ atPos E (P.rC 1 c) 0 ∅ 0 ∗ atPos E (P.rC 2 c) 0 ∅ 0)
    ∗ (reached E (P.lsC c) 0 ∗ reached E (P.sC 0 c) 0 ∗ reached E (P.sC 1 c) 0 ∗ reached E (P.sC 2 c) 0
      ∗ reached E (P.rC 0 c) 0 ∗ reached E (P.rC 1 c) 0 ∗ reached E (P.rC 2 c) 0)
    ∗ (dutyTok E (P.barC (fw 0 c)) 0 0 ∗ dutyTok E (P.barC (fw 1 c)) 0 1 ∗ dutyTok E (P.barC (fw 2 c)) 0 2 ∗ dutyTok E (P.lsC c) 0 0
      ∗ dutyTok E (P.sC 0 c) 0 0 ∗ dutyTok E (P.sC 1 c) 0 0 ∗ dutyTok E (P.sC 2 c) 0 0
      ∗ dutyTok E (P.rC 0 (fw 0 c)) 0 0 ∗ dutyTok E (P.rC 1 (fw 1 c)) 0 0 ∗ dutyTok E (P.rC 2 (fw 2 c)) 0 0)
    ∗ cred (tallyAt (P.barC c) k 3) ∗ cred (tallyAt (P.rC 0 c) (k + 1) P.N) ∗ cred (tallyAt (P.rC 1 c) (k + 1) P.N) ∗ cred (tallyAt (P.rC 2 c) (k + 1) P.N))

theorem inv_bar (κ : GSem 4 τ sig → ℕ) (n : Dev 4) : P.fam.cellInvs E (P.rd E) κ ⊢ cellInv E (P.rd E) (κ (P.barC n)) (P.barC n) :=
  P.fam.cellInvs_bar E (P.rd E) κ n
theorem inv_dma (κ : GSem 4 τ sig → ℕ) (n : Dev 4) {s : DmaSem sig} (h : (SemLoc.dma s : SemLoc sig) ∈ P.fam.dorm 0) :
    P.fam.cellInvs E (P.rd E) κ ⊢ cellInv E (P.rd E) (κ ((n : Thread 4 τ), .dma s)) ((n : Thread 4 τ), .dma s) :=
  P.fam.cellInvs_dorm E (P.rd E) κ n (j := 0) h
theorem mem_ls : (SemLoc.dma P.ls : SemLoc sig) ∈ P.fam.dorm 0 := by simp [Site.fam]
theorem mem_s (i : Fin 3) : (SemLoc.dma (P.s i) : SemLoc sig) ∈ P.fam.dorm 0 := by
  match i with
  | 0 => simp [Site.fam]
  | 1 => simp [Site.fam]
  | 2 => simp [Site.fam]
theorem mem_r (i : Fin 3) : (SemLoc.dma (P.r i) : SemLoc sig) ∈ P.fam.dorm 0 := by
  match i with
  | 0 => simp [Site.fam]
  | 1 => simp [Site.fam]
  | 2 => simp [Site.fam]

/-- A separating product over the push's scoped cells, and over the tokens of the duties that device `c` pays. -/
theorem Site.dorm_split (f : SemLoc sig → sProp 𝕄) : bigSep (P.fam.dorm 0) f
    = iprop(f (.dma P.ls) ∗ f (.dma (P.s 0)) ∗ f (.dma (P.s 1)) ∗ f (.dma (P.s 2)) ∗ f (.dma (P.r 0)) ∗ f (.dma (P.r 1)) ∗ f (.dma (P.r 2))) := by
  have e : P.fam.dorm 0 = {.dma P.ls, .dma (P.s 0), .dma (P.s 1), .dma (P.s 2), .dma (P.r 0), .dma (P.r 1), .dma (P.r 2)} := rfl
  rw [e, bigSep_insert (by simp [P.nels, P.nelr]), bigSep_insert (by simp [P.ness.eq_iff, P.nesr]), bigSep_insert (by simp [P.ness.eq_iff, P.nesr]),
    bigSep_insert (by simp [P.nesr]), bigSep_insert (by simp [P.nerr.eq_iff]), bigSep_insert (by simp [P.nerr.eq_iff]), bigSep_singleton]
  rfl
@[inherit_doc Site.dorm_split] theorem Site.toks_split (c : Dev 4) (f : GSem 4 τ sig × ℕ × Fin 3 → sProp 𝕄) : bigSep (P.fam.toks c 0) f
    = iprop(f (P.barC (fw 0 c), 0, 0) ∗ f (P.barC (fw 1 c), 0, 1) ∗ f (P.barC (fw 2 c), 0, 2) ∗ f (P.lsC c, 0, 0)
      ∗ f (P.sC 0 c, 0, 0) ∗ f (P.sC 1 c, 0, 0) ∗ f (P.sC 2 c, 0, 0) ∗ f (P.rC 0 (fw 0 c), 0, 0) ∗ f (P.rC 1 (fw 1 c), 0, 0) ∗ f (P.rC 2 (fw 2 c), 0, 0)) := by
  have e : P.fam.toks c 0 = {(P.barC (fw 0 c), 0, 0), (P.barC (fw 1 c), 0, 1), (P.barC (fw 2 c), 0, 2), (P.lsC c, 0, 0), (P.sC 0 c, 0, 0), (P.sC 1 c, 0, 0), (P.sC 2 c, 0, 0),
    (P.rC 0 (fw 0 c), 0, 0), (P.rC 1 (fw 1 c), 0, 0), (P.rC 2 (fw 2 c), 0, 0)} := rfl
  rw [e, bigSep_insert (by simp), bigSep_insert (by simp), bigSep_insert (by simp), bigSep_insert (by simp [P.nels, P.nelr]),
    bigSep_insert (by simp [P.ness.eq_iff, P.nesr]), bigSep_insert (by simp [P.ness.eq_iff, P.nesr]), bigSep_insert (by simp [P.nesr]),
    bigSep_insert (by simp [P.nerr.eq_iff]), bigSep_insert (by simp [P.nerr.eq_iff]), bigSep_singleton]
  rfl

/-- The push's component at the launch of the program. -/
theorem Site.funds [E.LandsIn (upEmb : UEmb _ 𝕄)] (k : ℕ) {Es : Set ℕ} :
    Funds E (fun c => semVal (P.barC c) 0) (fun d => tallyL (P.dues k d)) (launchOf P.fam.S P.fam.Sd P.fam.T) (P.rides E k) Es := by
  have h := TalkSites.pass (O := fun _ => 0) (fun d => tallyL (P.dues k d))
    (P.fam.funds E (P.rd E) (fun _ _ h => h) (fun _ => Finset.univ) (Es := Es))
  simp only [zero_add] at h
  exact h

/-- The scoped counters of device `c`, all at zero. -/
def Site.zeros (c : Dev 4) : sProp 𝕄 :=
  iprop(semVal (P.lsC c) 0 ∗ semVal (P.sC 0 c) 0 ∗ semVal (P.sC 1 c) 0 ∗ semVal (P.sC 2 c) 0 ∗ semVal (P.rC 0 c) 0 ∗ semVal (P.rC 1 c) 0 ∗ semVal (P.rC 2 c) 0)

set_option maxHeartbeats 1600000 in
/-- The push starts: the scoped counters at zero go under their invariants. -/
theorem Site.enter [E.LandsIn (upEmb : UEmb _ 𝕄)] (k : ℕ) (c : Dev 4) :
    iprop(P.rides E k c ∗ P.zeros c) ⊢ (|={Set.univ}=> P.opened E k c : sProp 𝕄) := by
  unfold Site.rides Site.opened Site.zeros Fam.launched Fam.barPos
  iintro ⟨⟨Hcr, ⟨⟨%κ, #HI⟩, Hat, #Hr⟩, Hj⟩, HvL, HvS0, HvS1, HvS2, HvR0, HvR1, HvR2⟩
  ihave Hc := (P.credIn k c) $$ Hcr
  ihave Hj' := (show (bigSep Finset.univ fun j => P.fam.rides E (P.rd E) c j) ⊢ (P.fam.rides E (P.rd E) c 0 : sProp 𝕄) from bigSep_elim (Finset.mem_univ 0)) $$ Hj
  unfold Fam.rides
  icases Hj' with ⟨-, Hop, Htk⟩
  ihave Hop := (Entails.of_eq (P.dorm_split fun sm => openTok E ((c.tc : Thread 4 τ), sm))) $$ Hop
  ihave Htk := (Entails.of_eq (P.toks_split c fun x => dutyTok E x.1 x.2.1 x.2.2)) $$ Htk
  icases Hop with ⟨HoL, HoS0, HoS1, HoS2, HoR0, HoR1, HoR2⟩
  ihave #HIL := (inv_dma P E κ c (mem_ls P)) $$ HI
  imod (Rounds.cell_open E (P.rd E) (g := P.lsC c) (Set.mem_univ _)) $$ [HoL HvL] with ⟨HaL, HrL⟩
  · isplitr; · iexact HIL
    isplitl [HoL] <;> iassumption
  ihave #HIS0 := (inv_dma P E κ c (mem_s P 0)) $$ HI
  imod (Rounds.cell_open E (P.rd E) (g := P.sC 0 c) (Set.mem_univ _)) $$ [HoS0 HvS0] with ⟨HaS0, HrS0⟩
  · isplitr; · iexact HIS0
    isplitl [HoS0] <;> iassumption
  ihave #HIS1 := (inv_dma P E κ c (mem_s P 1)) $$ HI
  imod (Rounds.cell_open E (P.rd E) (g := P.sC 1 c) (Set.mem_univ _)) $$ [HoS1 HvS1] with ⟨HaS1, HrS1⟩
  · isplitr; · iexact HIS1
    isplitl [HoS1] <;> iassumption
  ihave #HIS2 := (inv_dma P E κ c (mem_s P 2)) $$ HI
  imod (Rounds.cell_open E (P.rd E) (g := P.sC 2 c) (Set.mem_univ _)) $$ [HoS2 HvS2] with ⟨HaS2, HrS2⟩
  · isplitr; · iexact HIS2
    isplitl [HoS2] <;> iassumption
  ihave #HIR0 := (inv_dma P E κ c (mem_r P 0)) $$ HI
  imod (Rounds.cell_open E (P.rd E) (g := P.rC 0 c) (Set.mem_univ _)) $$ [HoR0 HvR0] with ⟨HaR0, HrR0⟩
  · isplitr; · iexact HIR0
    isplitl [HoR0] <;> iassumption
  ihave #HIR1 := (inv_dma P E κ c (mem_r P 1)) $$ HI
  imod (Rounds.cell_open E (P.rd E) (g := P.rC 1 c) (Set.mem_univ _)) $$ [HoR1 HvR1] with ⟨HaR1, HrR1⟩
  · isplitr; · iexact HIR1
    isplitl [HoR1] <;> iassumption
  ihave #HIR2 := (inv_dma P E κ c (mem_r P 2)) $$ HI
  imod (Rounds.cell_open E (P.rd E) (g := P.rC 2 c) (Set.mem_univ _)) $$ [HoR2 HvR2] with ⟨HaR2, HrR2⟩
  · isplitr; · iexact HIR2
    isplitl [HoR2] <;> iassumption
  imodintro
  isplitr; · iexists κ; iexact HI
  isplitr; · iexact Hr
  isplitl [Hat HaL HaS0 HaS1 HaS2 HaR0 HaR1 HaR2]
  · isplitl [Hat]; · iexact Hat
    isplitl [HaL]; · iexact HaL
    isplitl [HaS0]; · iexact HaS0
    isplitl [HaS1]; · iexact HaS1
    isplitl [HaS2]; · iexact HaS2
    isplitl [HaR0]; · iexact HaR0
    isplitl [HaR1]; · iexact HaR1
    iexact HaR2
  isplitl [HrL HrS0 HrS1 HrS2 HrR0 HrR1 HrR2]
  · isplitl [HrL]; · iexact HrL
    isplitl [HrS0]; · iexact HrS0
    isplitl [HrS1]; · iexact HrS1
    isplitl [HrS2]; · iexact HrS2
    isplitl [HrR0]; · iexact HrR0
    isplitl [HrR1]; · iexact HrR1
    iexact HrR2
  isplitl [Htk]; · iexact Htk
  iexact Hc

/-- Before the body: what `enter` made, the source at its contents, the four slices at any, the dues. -/
def Site.pre (NN k : ℕ) (O : Dev 4 → CellTallies 4 τ sig ℕ) (c : Dev 4) (W : Waits sig ℕ) : sProp 𝕄 :=
  iprop(P.opened E k c ∗ levAts (L NN) lv ∗ P.srcPts fullShare c ∗ (bigSep Finset.univ fun q : Dev 4 => P.slAny q c)
    ∗ owes (c : Thread 4 τ) (addL (O c) (P.dues k c)) W)

/-- After the body: every counter at zero, the source back, the four slices at what landed, the dues paid. -/
def Site.post (O : Dev 4 → CellTallies 4 τ sig ℕ) (c : Dev 4) : sProp 𝕄 :=
  iprop(semVal (P.barC c) 0 ∗ P.zeros c ∗ P.srcPts fullShare c ∗ (bigSep Finset.univ fun q : Dev 4 => P.slPts q c)
    ∗ ∃ W, owes (c : Thread 4 τ) (O c) W)

/-- The slices, from the device's own on. -/
theorem Site.slAny_split (c : Dev 4) : (bigSep Finset.univ fun q : Dev 4 => P.slAny q c)
    = (iprop(P.slAny c c ∗ P.slAny (fw 0 c) c ∗ P.slAny (fw 1 c) c ∗ P.slAny (fw 2 c) c) : sProp 𝕄) := by
  rw [devs_fw c, bigSep_insert (by revert c; decide), bigSep_insert (by revert c; decide), bigSep_insert (by revert c; decide), bigSep_singleton]
  rfl
theorem Site.slPts_split (c : Dev 4) : (bigSep Finset.univ fun q : Dev 4 => P.slPts q c)
    = (iprop(P.slPts c c ∗ P.slPts (fr 0 c) c ∗ P.slPts (fr 1 c) c ∗ P.slPts (fr 2 c) c) : sProp 𝕄) := by
  rw [devs_fr c, bigSep_insert (by revert c; decide), bigSep_insert (by revert c; decide), bigSep_insert (by revert c; decide), bigSep_singleton]
  rfl

/-- A slice rewritten by its owner's block holds what the push leaves there. -/
theorem Site.landed (q c : Dev 4) (fd : Buf Val ((P.sl q).view.loc (c : Thread 4 τ))) :
    ((P.sl q).view.loc (c : Thread 4 τ) ↦[(P.sl q).view.set]{fullShare} ((P.sl q).view.write Val fd (P.src.view.read Val (P.X q)) Finset.univ) : sProp 𝕄)
      ⊢ P.slPts q c := by
  unfold Site.slPts
  rw [pointsTo_congr (fun i hi => P.hL q c fd i hi)]

set_option maxHeartbeats 3200000 in
/-- The body runs from `pre` to `post`. -/
theorem Site.run [E.LandsIn (upEmb : UEmb _ 𝕄)] (defs : Defs 4 τ sig Val Λ) (𝒱 : Variants) (hr : ∀ c c' : Dev 4, τ.routes (c : Thread 4 τ) (c' : Thread 4 τ) = true)
    (hws : P.src.view.WordExact) (hwl : ∀ d, (P.sl d).view.WordExact) (hww : ∀ i d, (P.wsl i d).view.WordExact)
    (hc : ∀ d, (P.sl d).view.ref.isScScratch = false)
    (htl : ∀ d : Dev 4, DmaTarget.Typed (nD := 4) (τ := τ) (p := .tc) .hbm (.dma P.ls) (.here (P.sl d)))
    (htr : ∀ (i : Fin 3) (d t : Dev 4), DmaTarget.Typed (nD := 4) (τ := τ) (p := .tc) .hbm (.dma (P.r i)) (.remote (Dev.tc t) (P.sl d) (.dma (P.s i)) (hc d)))
    {NN k : ℕ} (hk : 0 < k) (hN : k + 2 ≤ NN) {O : Dev 4 → CellTallies 4 τ sig ℕ} (hO : Above NN (k + 2) O)
    (c : Dev 4) (W : Waits sig ℕ) (Kt : PUnit → sProp 𝕄) :
    iprop(P.pre E NN k O c W ∗ (P.post O c -∗ Kt ⟨⟩))
      ⊢ wp frame (wpE defs 𝒱 (c : Thread 4 τ) none) Set.univ
        (P.prog (Λ := Λ) hws hwl hww (fw 0) (fw 1) (fw 2) (fw 0) (fw 1) (fw 2) hc htl htr) Kt := by
  have hbw : (levAts (L NN) lv : sProp 𝕄) ⊢ MayWait (c : Thread 4 τ) (.reg P.bar) k
      (addL (O c) [(P.rC 2 (fw 2 c), k + 1, P.N), (P.rC 1 (fw 1 c), k + 1, P.N), (P.rC 0 (fw 0 c), k + 1, P.N)]) :=
    mayWait_addL (e := k + 2) (by omega) hN hO c _ _ (by
      intro x hx
      simp only [List.mem_cons, List.not_mem_nil, or_false] at hx
      rcases hx with rfl | rfl | rfl <;> exact ⟨rfl, by dsimp only; omega, by dsimp only; omega⟩)
  have hw (s : DmaSem sig) (i : ℕ) (hi : i < k + 2) : (levAts (L NN) lv : sProp 𝕄) ⊢ MayWait (c : Thread 4 τ) (.dma s) i (O c) :=
    mayWait_addL (e := k + 2) hi hN hO c (.dma s) [] (fun x hx => absurd hx (List.not_mem_nil))
  have hwr (s : DmaSem sig) (i : ℕ) (hi : i < k + 2) (O' : CellTallies 4 τ sig ℕ) (hO' : O' = O c) :
      (levAts (L NN) lv : sProp 𝕄) ⊢ MayWait (c : Thread 4 τ) (.dma s) i O' := hO' ▸ hw s i hi
  simp only [Site.prog, wp_deviceId]
  unfold Site.pre Site.opened
  rw [Site.slAny_split]
  iintro ⟨⟨⟨⟨%κ, #HI⟩, #HrB, ⟨HatB, HatL, HatS0, HatS1, HatS2, HatR0, HatR1, HatR2⟩, ⟨#HrL, #HrS0, #HrS1, #HrS2, #HrR0, #HrR1, #HrR2⟩,
    ⟨HtB0, HtB1, HtB2, HtL, HtS0, HtS1, HtS2, HtR0, HtR1, HtR2⟩, HcB, Hc0, Hc1, Hc2⟩,
    #Hlev, Hsrc, ⟨Hown, Hsl0, Hsl1, Hsl2⟩, HO⟩, Hk⟩
  ihave Hs := (P.src_split c).1 $$ Hsrc
  icases Hs with ⟨⟨HxL, Hx0⟩, Hx1, Hx2⟩
  ihave #HIb := (inv_bar P E κ c) $$ HI
  ihave #HIL := (inv_dma P E κ c (mem_ls P)) $$ HI
  ihave #HIS0 := (inv_dma P E κ c (mem_s P 0)) $$ HI
  ihave #HIS1 := (inv_dma P E κ c (mem_s P 1)) $$ HI
  ihave #HIS2 := (inv_dma P E κ c (mem_s P 2)) $$ HI
  ihave #HIR0 := (inv_dma P E κ c (mem_r P 0)) $$ HI
  ihave #HIR1 := (inv_dma P E κ c (mem_r P 1)) $$ HI
  ihave #HIR2 := (inv_dma P E κ c (mem_r P 2)) $$ HI
  ihave #HIb0 := (inv_bar P E κ (fw 0 c)) $$ HI
  ihave #HIRt0 := (inv_dma P E κ (fw 0 c) (mem_r P 0)) $$ HI
  ihave #HrB0 := (show (bigSep Finset.univ fun n : Dev 4 => reached E (P.barC n) 0) ⊢ (reached E (P.barC (fw 0 c)) 0 : sProp 𝕄) from bigSep_elim (Finset.mem_univ (fw 0 c))) $$ HrB
  ihave #HIb1 := (inv_bar P E κ (fw 1 c)) $$ HI
  ihave #HIRt1 := (inv_dma P E κ (fw 1 c) (mem_r P 1)) $$ HI
  ihave #HrB1 := (show (bigSep Finset.univ fun n : Dev 4 => reached E (P.barC n) 0) ⊢ (reached E (P.barC (fw 1 c)) 0 : sProp 𝕄) from bigSep_elim (Finset.mem_univ (fw 1 c))) $$ HrB
  ihave #HIb2 := (inv_bar P E κ (fw 2 c)) $$ HI
  ihave #HIRt2 := (inv_dma P E κ (fw 2 c) (mem_r P 2)) $$ HI
  ihave #HrB2 := (show (bigSep Finset.univ fun n : Dev 4 => reached E (P.barC n) 0) ⊢ (reached E (P.barC (fw 2 c)) 0 : sProp 𝕄) from bigSep_elim (Finset.mem_univ (fw 2 c))) $$ HrB
  -- the signal to device `fw 0 c` hands over its slice
  iapply (Rounds.wp_signal 𝒱 E (P.rd E) (c : Thread 4 τ) none (dst := (fw 0 c : Thread 4 τ)) (sem := P.bar) (r := 0) (d := 0) (κ := κ (P.barC (fw 0 c)))
      (by rw [duties_bar]; decide) (amount_bar P E (fw 0 c) 0) k
      (addL (O c) [(P.rC 2 (fw 2 c), k + 1, P.N), (P.rC 1 (fw 1 c), k + 1, P.N), (P.rC 0 (fw 0 c), k + 1, P.N), (P.barC (fw 2 c), k, 1), (P.barC (fw 1 c), k, 1)]) rfl (hr _ _))
    $$ [HO HtB0 Hsl0]
  · isplitr; · iexact HIb0
    isplitl [HO]; · iexact HO
    isplitl [HtB0]; · iexact HtB0
    isplitl [Hsl0]
    · rw [payload_bar]; unfold Site.payBar; rw [fr_fw]
      isplitl [Hsl0]; · iexact Hsl0
      iexact HrR2
    · iexact HrB0
  iintro HO
  -- the signal to device `fw 1 c` hands over its slice
  iapply (Rounds.wp_signal 𝒱 E (P.rd E) (c : Thread 4 τ) none (dst := (fw 1 c : Thread 4 τ)) (sem := P.bar) (r := 0) (d := 1) (κ := κ (P.barC (fw 1 c)))
      (by rw [duties_bar]; decide) (amount_bar P E (fw 1 c) 1) k
      (addL (O c) [(P.rC 2 (fw 2 c), k + 1, P.N), (P.rC 1 (fw 1 c), k + 1, P.N), (P.rC 0 (fw 0 c), k + 1, P.N), (P.barC (fw 2 c), k, 1)]) rfl (hr _ _))
    $$ [HO HtB1 Hsl1]
  · isplitr; · iexact HIb1
    isplitl [HO]; · iexact HO
    isplitl [HtB1]; · iexact HtB1
    isplitl [Hsl1]
    · rw [payload_bar]; unfold Site.payBar; rw [fr_fw]
      isplitl [Hsl1]; · iexact Hsl1
      iexact HrR1
    · iexact HrB1
  iintro HO
  -- the signal to device `fw 2 c` hands over its slice
  iapply (Rounds.wp_signal 𝒱 E (P.rd E) (c : Thread 4 τ) none (dst := (fw 2 c : Thread 4 τ)) (sem := P.bar) (r := 0) (d := 2) (κ := κ (P.barC (fw 2 c)))
      (by rw [duties_bar]; decide) (amount_bar P E (fw 2 c) 2) k
      (addL (O c) [(P.rC 2 (fw 2 c), k + 1, P.N), (P.rC 1 (fw 1 c), k + 1, P.N), (P.rC 0 (fw 0 c), k + 1, P.N)]) rfl (hr _ _))
    $$ [HO HtB2 Hsl2]
  · isplitr; · iexact HIb2
    isplitl [HO]; · iexact HO
    isplitl [HtB2]; · iexact HtB2
    isplitl [Hsl2]
    · rw [payload_bar]; unfold Site.payBar; rw [fr_fw]
      isplitl [Hsl2]; · iexact Hsl2
      iexact HrR0
    · iexact HrB2
  iintro HO
  -- the wait for the three others brings the slices that the sends write
  iapply (Rounds.wp_wait_rest_token 𝒱 E (P.rd E) (c : Thread 4 τ) none (κ := κ (P.barC c))
      (wpE_semWait_eq 𝒱 (c : Thread 4 τ) none Set.univ) (Set.mem_univ _) k
      (O := addL (O c) [(P.rC 2 (fw 2 c), k + 1, P.N), (P.rC 1 (fw 1 c), k + 1, P.N), (P.rC 0 (fw 0 c), k + 1, P.N)]) (W := W) (R := 0) (m := 0) (T := ∅)
      ((Nat.zero_add 3).trans (expect_bar P E c).symm)) $$ [HcB HO HatB]
  · isplitr; · iexact HIb
    isplitl [HcB]; · iexact HcB
    isplitl [HO]; · iexact HO
    isplitr; · iapply hbw; iexact Hlev
    iexact HatB
  iintro ⟨HO, HatB, -, Hpay⟩
  ihave Hp := (Entails.of_eq (rest_bar P E c)) $$ Hpay
  unfold Site.payBar
  rw [fr0, fr1, fr2]
  unfold Site.slAny Site.srcPts
  icases Hp with ⟨⟨⟨%f2, Ht2⟩, #Hrt2⟩, ⟨⟨%f1, Ht1⟩, #Hrt1⟩, ⟨%f0, Ht0⟩, #Hrt0⟩
  icases Hown with ⟨%fo, Hown⟩
  -- the local copy
  iapply (Rounds.wp_copy_pointsTo 𝒱 E (P.rd E) (c : Thread 4 τ) none (src := P.src) (dst := P.sl c) (sem := .dma P.ls) (q := shL) (fs := P.X c) (fd := fo)
      (r := 0) (d := 0) (κ := κ (P.lsC c)) (by rw [duties_dma]; decide) 0 P.N (P.hNsl c) (amount_dma P E c P.ls 0)
      (by rw [payload_ls]; exact sep_mono (P.landed c c fo) .rfl)) $$ [HxL Hown HtL]
  · isplitr; · iexact HIL
    isplitl [HxL]; · iexact HxL
    isplitl [Hown]; · iexact Hown
    isplitl [HtL]; · iexact HtL
    iexact HrL
  iintro HcL
  -- send 0
  iapply (Rounds.wp_send_pointsTo 𝒱 E (P.rd E) (c : Thread 4 τ) none (c' := (fw 0 c : Thread 4 τ)) (src := P.src) (dst := P.sl c)
      (sS := .dma (P.s 0)) (sem := .dma (P.r 0)) (q := shS 0) (fs := P.X c) (κ₁ := κ (P.sC 0 c)) (κ₂ := κ (P.rC 0 (fw 0 c)))
      (r₁ := 0) (r₂ := 0) (d₁ := 0) (d₂ := 0) (fd := f0)
      (by rw [duties_dma]; decide) (by rw [duties_dma]; decide)
      (k + 1) 0 P.N (P.hNsl c) (amount_dma P E c (P.s 0) 0) (amount_dma P E (fw 0 c) (P.r 0) 0)
      (addL (O c) [(P.rC 2 (fw 2 c), k + 1, P.N), (P.rC 1 (fw 1 c), k + 1, P.N)]) rfl (W := insert (SemLoc.reg P.bar, k) W)
      (by rw [payload_s]; exact BI.Entails.refl _)
      (by rw [payload_r, fr_fw]; exact P.landed c (fw 0 c) f0) (hr _ _)) $$ [Hx0 Ht0 HO HtS0 HtR0]
  · isplitr; · iexact HIS0
    isplitr; · iexact HIRt0
    isplitl [Hx0]; · iexact Hx0
    isplitl [Ht0]; · iexact Ht0
    isplitl [HO]; · iexact HO
    isplitl [HtS0]; · iexact HtS0
    isplitr; · iexact HrS0
    isplitl [HtR0]; · iexact HtR0
    iexact Hrt0
  iintro ⟨HcS0, HO⟩
  -- send 1
  iapply (Rounds.wp_send_pointsTo 𝒱 E (P.rd E) (c : Thread 4 τ) none (c' := (fw 1 c : Thread 4 τ)) (src := P.src) (dst := P.sl c)
      (sS := .dma (P.s 1)) (sem := .dma (P.r 1)) (q := shS 1) (fs := P.X c) (κ₁ := κ (P.sC 1 c)) (κ₂ := κ (P.rC 1 (fw 1 c)))
      (r₁ := 0) (r₂ := 0) (d₁ := 0) (d₂ := 0) (fd := f1)
      (by rw [duties_dma]; decide) (by rw [duties_dma]; decide)
      (k + 1) 0 P.N (P.hNsl c) (amount_dma P E c (P.s 1) 0) (amount_dma P E (fw 1 c) (P.r 1) 0)
      (addL (O c) [(P.rC 2 (fw 2 c), k + 1, P.N)]) rfl (W := insert (SemLoc.reg P.bar, k) W)
      (by rw [payload_s]; exact BI.Entails.refl _)
      (by rw [payload_r, fr_fw]; exact P.landed c (fw 1 c) f1) (hr _ _)) $$ [Hx1 Ht1 HO HtS1 HtR1]
  · isplitr; · iexact HIS1
    isplitr; · iexact HIRt1
    isplitl [Hx1]; · iexact Hx1
    isplitl [Ht1]; · iexact Ht1
    isplitl [HO]; · iexact HO
    isplitl [HtS1]; · iexact HtS1
    isplitr; · iexact HrS1
    isplitl [HtR1]; · iexact HtR1
    iexact Hrt1
  iintro ⟨HcS1, HO⟩
  -- send 2
  iapply (Rounds.wp_send_pointsTo 𝒱 E (P.rd E) (c : Thread 4 τ) none (c' := (fw 2 c : Thread 4 τ)) (src := P.src) (dst := P.sl c)
      (sS := .dma (P.s 2)) (sem := .dma (P.r 2)) (q := shS 2) (fs := P.X c) (κ₁ := κ (P.sC 2 c)) (κ₂ := κ (P.rC 2 (fw 2 c)))
      (r₁ := 0) (r₂ := 0) (d₁ := 0) (d₂ := 0) (fd := f2)
      (by rw [duties_dma]; decide) (by rw [duties_dma]; decide)
      (k + 1) 0 P.N (P.hNsl c) (amount_dma P E c (P.s 2) 0) (amount_dma P E (fw 2 c) (P.r 2) 0)
      (O c) rfl (W := insert (SemLoc.reg P.bar, k) W)
      (by rw [payload_s]; exact BI.Entails.refl _)
      (by rw [payload_r, fr_fw]; exact P.landed c (fw 2 c) f2) (hr _ _)) $$ [Hx2 Ht2 HO HtS2 HtR2]
  · isplitr; · iexact HIS2
    isplitr; · iexact HIRt2
    isplitl [Hx2]; · iexact Hx2
    isplitl [Ht2]; · iexact Ht2
    isplitl [HO]; · iexact HO
    isplitl [HtS2]; · iexact HtS2
    isplitr; · iexact HrS2
    isplitl [HtR2]; · iexact HtR2
    iexact Hrt2
  iintro ⟨HcS2, HO⟩
  -- the waits
  iapply (Rounds.wp_wait_rest_token 𝒱 E (P.rd E) (c : Thread 4 τ) none (κ := κ (P.lsC c))
      (wpE_waitDma2_eq 𝒱 (c : Thread 4 τ) none Set.univ) (Set.mem_univ _) 0 (O := O c) (R := 0) (m := 0) (T := ∅)
      ((Nat.zero_add _).trans ((P.hNsl c).trans (expect_dma P E c P.ls).symm))) $$ [HcL HO HatL]
  · isplitr; · iexact HIL
    isplitl [HcL]; · rw [P.hNsl c]; iexact HcL
    isplitl [HO]; · iexact HO
    isplitr; · iapply (hw _ 0 (by omega)); iexact Hlev
    iexact HatL
  iintro ⟨HO, HatL, -, Hpay⟩
  ihave HgL := (Entails.of_eq ((rest_dma P E c P.ls).trans (payload_ls P E c 0))) $$ Hpay
  iapply (Rounds.wp_wait_rest_token 𝒱 E (P.rd E) (c : Thread 4 τ) none (κ := κ (P.sC 0 c))
      (wpE_waitDma2_eq 𝒱 (c : Thread 4 τ) none Set.univ) (Set.mem_univ _) 0 (O := O c) (R := 0) (m := 0) (T := ∅)
      ((Nat.zero_add _).trans (P.hNsrc.trans (expect_dma P E c (P.s 0)).symm))) $$ [HcS0 HO HatS0]
  · isplitr; · iexact HIS0
    isplitl [HcS0]; · rw [P.hNsrc]; iexact HcS0
    isplitl [HO]; · iexact HO
    isplitr; · iapply (hw _ 0 (by omega)); iexact Hlev
    iexact HatS0
  iintro ⟨HO, HatS0, -, Hpay⟩
  ihave HgS0 := (Entails.of_eq ((rest_dma P E c (P.s 0)).trans (payload_s P E c 0 0))) $$ Hpay
  iapply (Rounds.wp_wait_rest_token 𝒱 E (P.rd E) (c : Thread 4 τ) none (κ := κ (P.sC 1 c))
      (wpE_waitDma2_eq 𝒱 (c : Thread 4 τ) none Set.univ) (Set.mem_univ _) 0 (O := O c) (R := 0) (m := 0) (T := ∅)
      ((Nat.zero_add _).trans (P.hNsrc.trans (expect_dma P E c (P.s 1)).symm))) $$ [HcS1 HO HatS1]
  · isplitr; · iexact HIS1
    isplitl [HcS1]; · rw [P.hNsrc]; iexact HcS1
    isplitl [HO]; · iexact HO
    isplitr; · iapply (hw _ 0 (by omega)); iexact Hlev
    iexact HatS1
  iintro ⟨HO, HatS1, -, Hpay⟩
  ihave HgS1 := (Entails.of_eq ((rest_dma P E c (P.s 1)).trans (payload_s P E c 1 0))) $$ Hpay
  iapply (Rounds.wp_wait_rest_token 𝒱 E (P.rd E) (c : Thread 4 τ) none (κ := κ (P.sC 2 c))
      (wpE_waitDma2_eq 𝒱 (c : Thread 4 τ) none Set.univ) (Set.mem_univ _) 0 (O := O c) (R := 0) (m := 0) (T := ∅)
      ((Nat.zero_add _).trans (P.hNsrc.trans (expect_dma P E c (P.s 2)).symm))) $$ [HcS2 HO HatS2]
  · isplitr; · iexact HIS2
    isplitl [HcS2]; · rw [P.hNsrc]; iexact HcS2
    isplitl [HO]; · iexact HO
    isplitr; · iapply (hw _ 0 (by omega)); iexact Hlev
    iexact HatS2
  iintro ⟨HO, HatS2, -, Hpay⟩
  ihave HgS2 := (Entails.of_eq ((rest_dma P E c (P.s 2)).trans (payload_s P E c 2 0))) $$ Hpay
  iapply (Rounds.wp_wait_rest_token 𝒱 E (P.rd E) (c : Thread 4 τ) none (κ := κ (P.rC 0 c))
      (wpE_waitDma2_eq 𝒱 (c : Thread 4 τ) none Set.univ) (Set.mem_univ _) (k + 1) (O := O c) (R := 0) (m := 0) (T := ∅)
      ((Nat.zero_add _).trans ((P.hNw 0 c).trans (expect_dma P E c (P.r 0)).symm))) $$ [Hc0 HO HatR0]
  · isplitr; · iexact HIR0
    isplitl [Hc0]; · rw [P.hNw 0 c]; iexact Hc0
    isplitl [HO]; · iexact HO
    isplitr; · iapply (hw _ (k + 1) (by omega)); iexact Hlev
    iexact HatR0
  iintro ⟨HO, HatR0, -, Hpay⟩
  ihave HgR0 := (Entails.of_eq ((rest_dma P E c (P.r 0)).trans (payload_r P E c 0 0))) $$ Hpay
  iapply (Rounds.wp_wait_rest_token 𝒱 E (P.rd E) (c : Thread 4 τ) none (κ := κ (P.rC 1 c))
      (wpE_waitDma2_eq 𝒱 (c : Thread 4 τ) none Set.univ) (Set.mem_univ _) (k + 1) (O := O c) (R := 0) (m := 0) (T := ∅)
      ((Nat.zero_add _).trans ((P.hNw 1 c).trans (expect_dma P E c (P.r 1)).symm))) $$ [Hc1 HO HatR1]
  · isplitr; · iexact HIR1
    isplitl [Hc1]; · rw [P.hNw 1 c]; iexact Hc1
    isplitl [HO]; · iexact HO
    isplitr; · iapply (hw _ (k + 1) (by omega)); iexact Hlev
    iexact HatR1
  iintro ⟨HO, HatR1, -, Hpay⟩
  ihave HgR1 := (Entails.of_eq ((rest_dma P E c (P.r 1)).trans (payload_r P E c 1 0))) $$ Hpay
  iapply (Rounds.wp_wait_rest_token 𝒱 E (P.rd E) (c : Thread 4 τ) none (κ := κ (P.rC 2 c))
      (wpE_waitDma2_eq 𝒱 (c : Thread 4 τ) none Set.univ) (Set.mem_univ _) (k + 1) (O := O c) (R := 0) (m := 0) (T := ∅)
      ((Nat.zero_add _).trans ((P.hNw 2 c).trans (expect_dma P E c (P.r 2)).symm))) $$ [Hc2 HO HatR2]
  · isplitr; · iexact HIR2
    isplitl [Hc2]; · rw [P.hNw 2 c]; iexact Hc2
    isplitl [HO]; · iexact HO
    isplitr; · iapply (hw _ (k + 1) (by omega)); iexact Hlev
    iexact HatR2
  iintro ⟨HO, HatR2, -, Hpay⟩
  ihave HgR2 := (Entails.of_eq ((rest_dma P E c (P.r 2)).trans (payload_r P E c 2 0))) $$ Hpay
  icases HgL with ⟨HgL, HxL⟩
  -- every cell is closed, its counter at zero
  rw [wp_ret]
  imod (Rounds.cell_close E (P.rd E) (g := P.barC c) (κ := κ (P.barC c)) (Set.mem_univ _) id (duties_later P E _)) $$ [HatB] with HvB
  · isplitr; · iexact HIb
    iexact HatB
  imod (Rounds.cell_close E (P.rd E) (g := P.lsC c) (κ := κ (P.lsC c)) (Set.mem_univ _) id (duties_later P E _)) $$ [HatL] with HvL
  · isplitr; · iexact HIL
    iexact HatL
  imod (Rounds.cell_close E (P.rd E) (g := P.sC 0 c) (κ := κ (P.sC 0 c)) (Set.mem_univ _) id (duties_later P E _)) $$ [HatS0] with HvS0
  · isplitr; · iexact HIS0
    iexact HatS0
  imod (Rounds.cell_close E (P.rd E) (g := P.sC 1 c) (κ := κ (P.sC 1 c)) (Set.mem_univ _) id (duties_later P E _)) $$ [HatS1] with HvS1
  · isplitr; · iexact HIS1
    iexact HatS1
  imod (Rounds.cell_close E (P.rd E) (g := P.sC 2 c) (κ := κ (P.sC 2 c)) (Set.mem_univ _) id (duties_later P E _)) $$ [HatS2] with HvS2
  · isplitr; · iexact HIS2
    iexact HatS2
  imod (Rounds.cell_close E (P.rd E) (g := P.rC 0 c) (κ := κ (P.rC 0 c)) (Set.mem_univ _) id (duties_later P E _)) $$ [HatR0] with HvR0
  · isplitr; · iexact HIR0
    iexact HatR0
  imod (Rounds.cell_close E (P.rd E) (g := P.rC 1 c) (κ := κ (P.rC 1 c)) (Set.mem_univ _) id (duties_later P E _)) $$ [HatR1] with HvR1
  · isplitr; · iexact HIR1
    iexact HatR1
  imod (Rounds.cell_close E (P.rd E) (g := P.rC 2 c) (κ := κ (P.rC 2 c)) (Set.mem_univ _) id (duties_later P E _)) $$ [HatR2] with HvR2
  · isplitr; · iexact HIR2
    iexact HatR2
  ihave Hsrc := (P.src_split c).2 $$ [HxL HgS0 HgS1 HgS2]
  · isplitl [HxL HgS0]
    · isplitl [HxL] <;> iassumption
    isplitl [HgS1] <;> iassumption
  imodintro
  iapply Hk
  unfold Site.post Site.zeros
  rw [Site.slPts_split]
  isplitl [HvB]; · iexact HvB
  isplitl [HvL HvS0 HvS1 HvS2 HvR0 HvR1 HvR2]
  · isplitl [HvL]; · iexact HvL
    isplitl [HvS0]; · iexact HvS0
    isplitl [HvS1]; · iexact HvS1
    isplitl [HvS2]; · iexact HvS2
    isplitl [HvR0]; · iexact HvR0
    isplitl [HvR1]; · iexact HvR1
    iexact HvR2
  isplitl [Hsrc]; · iexact Hsrc
  isplitl [HgL HgR0 HgR1 HgR2]
  · isplitl [HgL]; · iexact HgL
    isplitl [HgR0]; · iexact HgR0
    isplitl [HgR1] <;> iassumption
  iexists _; iexact HO

end Run

end Gen

end Cert.Push

end
-- ==== Proof.Rows.lean ====
/-
  A leading row of a rank-3 memref, squeezed to rank 2: which elements it has and where its indices sit.
-/
module

public import Idealize.ShloMosaic.Lib.ValueLayout
public import Idealize.ShloMosaic.Harness.Basic

@[expose] public section

noncomputable section

namespace Cert.Rows

open Idealize.ShloMosaic Idealize.ShloMosaic.ValueIdx

variable {sig : RefSig} {κ : Kind} {e : EltTy} {a b : ℕ}

/-- Four blocks stacked along a new leading axis. -/
def stack {α : Type} (X : Fin 4 → (⟨2, ![a, b]⟩ : Shape).Idx → α) : (⟨3, ![4, a, b]⟩ : Shape).Idx → α :=
  fun i => X (i 0) (ix2 (i 1) (i 2))

/-- Index `(i, j)` of row `q` of a buffer is its index `(q, i, j)`. -/
theorem row_emb (M : Memref sig κ .hbm ⟨3, ![4, a, b]⟩ e) (q : Fin 4) (off : Fin 3 → ℕ) (ho : off = ![q.val, 0, 0])
    (inb : ∀ x, off x + (![1, a, b] : Fin 3 → ℕ) x ≤ (![4, a, b] : Fin 3 → ℕ) x)
    (hq : (⟨3, ![1, a, b]⟩ : Shape).Squeezes ⟨2, ![a, b]⟩) (i : Fin a) (j : Fin b) :
    ((M.slice (Rect.unit (s := ⟨3, ![4, a, b]⟩) off ![1, a, b] inb) (fun _ => rfl)).squeeze ⟨2, ![a, b]⟩ hq).view.emb (ix2 i j)
      = M.view.emb (ix3 q i j) := by
  subst ho
  show M.view.emb ((Rect.unit (s := ⟨3, ![4, a, b]⟩) ![q.val, 0, 0] ![1, a, b] inb).emb (Shape.reshapeEquiv hq.numel_eq (ix2 i j))) = _
  rw [reshapeEquiv_ix2_1ab]
  congr 1
  funext x
  apply Fin.ext
  fin_cases x
  · show q.val + 1 * 0 = q.val; omega
  · show 0 + 1 * i.val = i.val; omega
  · show 0 + 1 * j.val = j.val; omega

/-- Row `q` of a whole buffer is the indices whose leading coordinate is `q`. -/
theorem row_set (M : Memref sig κ .hbm ⟨3, ![4, a, b]⟩ e) (q : Fin 4) (off : Fin 3 → ℕ) (ho : off = ![q.val, 0, 0])
    (inb : ∀ x, off x + (![1, a, b] : Fin 3 → ℕ) x ≤ (![4, a, b] : Fin 3 → ℕ) x)
    (hq : (⟨3, ![1, a, b]⟩ : Shape).Squeezes ⟨2, ![a, b]⟩) :
    ((M.slice (Rect.unit (s := ⟨3, ![4, a, b]⟩) off ![1, a, b] inb) (fun _ => rfl)).squeeze ⟨2, ![a, b]⟩ hq).view.set
      = (Finset.univ.filter fun i : (⟨3, ![4, a, b]⟩ : Shape).Idx => (i 0).val = q.val).map M.view.emb := by
  subst ho
  refine (View.set_reshape (v := M.view.slice _) hq.numel_eq).trans ?_
  rw [View.set_slice]
  congr 1
  ext i
  rw [Rect.mem_set_unit, Finset.mem_filter]
  constructor
  · intro h
    have h0 := h 0
    refine ⟨Finset.mem_univ _, ?_⟩
    simp at h0; omega
  · rintro ⟨-, h⟩ x
    have hx := (i x).isLt
    fin_cases x
    · simp; omega
    · simp at hx ⊢; omega
    · simp at hx ⊢; omega

end Cert.Rows

end
-- ==== Proof.KernelIdeal.Sites.lean ====
/-
  The five launches whose devices talk, as instances of the two protocols: three ring hops and two pushes. Each printed
  body is the protocol's program at the launch's memrefs and semaphores.
-/
module

public import proofs.«01_k».proof.Proof.Gen.KernelIdeal.Skeleton
public import proofs.«01_k».proof.Proof.Gen.KernelIdeal.Points
public import proofs.«01_k».proof.Proof.Hop
public import proofs.«01_k».proof.Proof.Push
public import proofs.«01_k».proof.Proof.Rows

@[expose] public section

set_option Elab.async false
set_option maxRecDepth 4000

noncomputable section

namespace Cert.KernelIdeal.Talk

open Idealize.ShloMosaic Idealize.ShloMosaic.TcCoe Idealize.ShloMosaic.ValueIdx
open Cert.KernelIdeal Cert.KernelIdeal.Gen
open Cert.Hop (rt lt lt_rt rt_lt)
open Cert.Push (fw fr)

variable {F : FTy → Type} [FloatOps F]

/-- What a device's half chunk holds. -/
abbrev Half (F : FTy → Type) [FloatOps F] : Type := S1024x4096.Idx → Elt F .bf16

/-- The first hop. -/
def site0 (A B : Dev 4 → Half F) : Hop.Site τ sig (Elt F) S1024x4096 .bf16 where
  bar := (0 : Sem sig)
  s0 := (0 : DmaSem sig)
  s1 := (1 : DmaSem sig)
  r0 := (2 : DmaSem sig)
  r1 := (3 : DmaSem sig)
  a := Memref.whole main_v11
  b := Memref.whole main_v15
  oa := Memref.whole main_v16_0
  ob := Memref.whole main_v16_1
  A := A
  B := B
  LA := fun c => A (lt c)
  LB := fun c => B (rt c)
  hA := fun c fd => by rw [lt_rt]; exact View.write_whole_univ main_v16_0 fd (A c)
  hB := fun c fd => by rw [rt_lt]; exact View.write_whole_univ main_v16_1 fd (B c)
  N := (Memref.whole main_v11).view.dmaCredit
  N_pos := View.dmaCredit_pos _ (by decide)
  hNa := rfl
  hNb := rfl
  hNoa := rfl
  hNob := rfl
  ne01 := by decide
  ne0r0 := by decide
  ne0r1 := by decide
  ne1r0 := by decide
  ne1r1 := by decide
  nerr := by decide

theorem dev0_1 : (fun d : Dev nD => (⟨k0_dev1 d, k0_dev1_lt d⟩ : Dev nD)) = lt := by decide
theorem dev0_2 : (fun d : Dev nD => (⟨k0_dev2 d, k0_dev2_lt d⟩ : Dev nD)) = rt := by decide
theorem dev0_3 : (fun d : Dev nD => (⟨k0_dev3 d, k0_dev3_lt d⟩ : Dev nD)) = rt := by decide
theorem dev0_4 : (fun d : Dev nD => (⟨k0_dev4 d, k0_dev4_lt d⟩ : Dev nD)) = lt := by decide

/-- Its body is the hop's program. -/
theorem body0_eq (A B : Dev 4 → Half F) (t : Fin cfg0.N) : bodyAt0 (F := F) t = (site0 A B).prog (Memref.isWhole_whole _).wordExact (Memref.isWhole_whole _).wordExact
    (Memref.isWhole_whole _).wordExact (Memref.isWhole_whole _).wordExact lt rt rt lt
    rfl rfl (fun _ => ⟨⟨rfl, Or.inl rfl⟩, trivial⟩) (fun _ => ⟨⟨rfl, Or.inl rfl⟩, trivial⟩) := by
  have h : bodyAt0 (F := F) t = (site0 A B).prog (Memref.isWhole_whole _).wordExact (Memref.isWhole_whole _).wordExact
    (Memref.isWhole_whole _).wordExact (Memref.isWhole_whole _).wordExact
    (fun d => ⟨k0_dev1 d, k0_dev1_lt d⟩) (fun d => ⟨k0_dev2 d, k0_dev2_lt d⟩) (fun d => ⟨k0_dev3 d, k0_dev3_lt d⟩) (fun d => ⟨k0_dev4 d, k0_dev4_lt d⟩)
    rfl rfl (fun _ => ⟨⟨rfl, Or.inl rfl⟩, trivial⟩) (fun _ => ⟨⟨rfl, Or.inl rfl⟩, trivial⟩) := rfl
  rw [h, dev0_1, dev0_2, dev0_3, dev0_4]

/-- The second hop. -/
def site2 (A B : Dev 4 → Half F) : Hop.Site τ sig (Elt F) S1024x4096 .bf16 where
  bar := (1 : Sem sig)
  s0 := (4 : DmaSem sig)
  s1 := (5 : DmaSem sig)
  r0 := (6 : DmaSem sig)
  r1 := (7 : DmaSem sig)
  a := Memref.whole main_v29_0
  b := Memref.whole main_v29_1
  oa := Memref.whole main_v30_0
  ob := Memref.whole main_v30_1
  A := A
  B := B
  LA := fun c => A (lt c)
  LB := fun c => B (rt c)
  hA := fun c fd => by rw [lt_rt]; exact View.write_whole_univ main_v30_0 fd (A c)
  hB := fun c fd => by rw [rt_lt]; exact View.write_whole_univ main_v30_1 fd (B c)
  N := (Memref.whole main_v29_0).view.dmaCredit
  N_pos := View.dmaCredit_pos _ (by decide)
  hNa := rfl
  hNb := rfl
  hNoa := rfl
  hNob := rfl
  ne01 := by decide
  ne0r0 := by decide
  ne0r1 := by decide
  ne1r0 := by decide
  ne1r1 := by decide
  nerr := by decide

theorem dev2_1 : (fun d : Dev nD => (⟨k2_dev1 d, k2_dev1_lt d⟩ : Dev nD)) = lt := by decide
theorem dev2_2 : (fun d : Dev nD => (⟨k2_dev2 d, k2_dev2_lt d⟩ : Dev nD)) = rt := by decide
theorem dev2_3 : (fun d : Dev nD => (⟨k2_dev3 d, k2_dev3_lt d⟩ : Dev nD)) = rt := by decide
theorem dev2_4 : (fun d : Dev nD => (⟨k2_dev4 d, k2_dev4_lt d⟩ : Dev nD)) = lt := by decide

/-- Its body is the hop's program. -/
theorem body2_eq (A B : Dev 4 → Half F) (t : Fin cfg2.N) : bodyAt2 (F := F) t = (site2 A B).prog (Memref.isWhole_whole _).wordExact (Memref.isWhole_whole _).wordExact
    (Memref.isWhole_whole _).wordExact (Memref.isWhole_whole _).wordExact lt rt rt lt
    rfl rfl (fun _ => ⟨⟨rfl, Or.inl rfl⟩, trivial⟩) (fun _ => ⟨⟨rfl, Or.inl rfl⟩, trivial⟩) := by
  have h : bodyAt2 (F := F) t = (site2 A B).prog (Memref.isWhole_whole _).wordExact (Memref.isWhole_whole _).wordExact
    (Memref.isWhole_whole _).wordExact (Memref.isWhole_whole _).wordExact
    (fun d => ⟨k2_dev1 d, k2_dev1_lt d⟩) (fun d => ⟨k2_dev2 d, k2_dev2_lt d⟩) (fun d => ⟨k2_dev3 d, k2_dev3_lt d⟩) (fun d => ⟨k2_dev4 d, k2_dev4_lt d⟩)
    rfl rfl (fun _ => ⟨⟨rfl, Or.inl rfl⟩, trivial⟩) (fun _ => ⟨⟨rfl, Or.inl rfl⟩, trivial⟩) := rfl
  rw [h, dev2_1, dev2_2, dev2_3, dev2_4]

/-- The third hop. -/
def site4 (A B : Dev 4 → Half F) : Hop.Site τ sig (Elt F) S1024x4096 .bf16 where
  bar := (2 : Sem sig)
  s0 := (8 : DmaSem sig)
  s1 := (9 : DmaSem sig)
  r0 := (10 : DmaSem sig)
  r1 := (11 : DmaSem sig)
  a := Memref.whole main_v43_0
  b := Memref.whole main_v43_1
  oa := Memref.whole main_v44_0
  ob := Memref.whole main_v44_1
  A := A
  B := B
  LA := fun c => A (lt c)
  LB := fun c => B (rt c)
  hA := fun c fd => by rw [lt_rt]; exact View.write_whole_univ main_v44_0 fd (A c)
  hB := fun c fd => by rw [rt_lt]; exact View.write_whole_univ main_v44_1 fd (B c)
  N := (Memref.whole main_v43_0).view.dmaCredit
  N_pos := View.dmaCredit_pos _ (by decide)
  hNa := rfl
  hNb := rfl
  hNoa := rfl
  hNob := rfl
  ne01 := by decide
  ne0r0 := by decide
  ne0r1 := by decide
  ne1r0 := by decide
  ne1r1 := by decide
  nerr := by decide

theorem dev4_1 : (fun d : Dev nD => (⟨k4_dev1 d, k4_dev1_lt d⟩ : Dev nD)) = lt := by decide
theorem dev4_2 : (fun d : Dev nD => (⟨k4_dev2 d, k4_dev2_lt d⟩ : Dev nD)) = rt := by decide
theorem dev4_3 : (fun d : Dev nD => (⟨k4_dev3 d, k4_dev3_lt d⟩ : Dev nD)) = rt := by decide
theorem dev4_4 : (fun d : Dev nD => (⟨k4_dev4 d, k4_dev4_lt d⟩ : Dev nD)) = lt := by decide

/-- Its body is the hop's program. -/
theorem body4_eq (A B : Dev 4 → Half F) (t : Fin cfg4.N) : bodyAt4 (F := F) t = (site4 A B).prog (Memref.isWhole_whole _).wordExact (Memref.isWhole_whole _).wordExact
    (Memref.isWhole_whole _).wordExact (Memref.isWhole_whole _).wordExact lt rt rt lt
    rfl rfl (fun _ => ⟨⟨rfl, Or.inl rfl⟩, trivial⟩) (fun _ => ⟨⟨rfl, Or.inl rfl⟩, trivial⟩) := by
  have h : bodyAt4 (F := F) t = (site4 A B).prog (Memref.isWhole_whole _).wordExact (Memref.isWhole_whole _).wordExact
    (Memref.isWhole_whole _).wordExact (Memref.isWhole_whole _).wordExact
    (fun d => ⟨k4_dev1 d, k4_dev1_lt d⟩) (fun d => ⟨k4_dev2 d, k4_dev2_lt d⟩) (fun d => ⟨k4_dev3 d, k4_dev3_lt d⟩) (fun d => ⟨k4_dev4 d, k4_dev4_lt d⟩)
    rfl rfl (fun _ => ⟨⟨rfl, Or.inl rfl⟩, trivial⟩) (fun _ => ⟨⟨rfl, Or.inl rfl⟩, trivial⟩) := rfl
  rw [h, dev4_1, dev4_2, dev4_3, dev4_4]

theorem off7_1 (q : Dev 4) : k7_off1 q = ![q.val, 0, 0] := by revert q; decide
theorem off7_2 (i : Fin 3) (q : Dev 4) : k7_off2 q (BitVec.ofNat 32 (1 + i.val)) = ![(fr i q).val, 0, 0] := by revert i q; decide

/-- Slice `q` of the first push's output. -/
def row7 (q : Dev 4) : Memref sig .tc .hbm S8x128 .f32 :=
  ((Memref.whole main_v65).slice (Rect.unit (s := S4x8x128) (k7_off1 q) S1x8x128.size (k7_off1_inb q)) (fun _ => rfl)).squeeze S8x128 squeezes_S1x8x128_S8x128
/-- The slice the wait for landing `i` names. -/
def rowW7 (i : Fin 3) (q : Dev 4) : Memref sig .tc .hbm S8x128 .f32 :=
  ((Memref.whole main_v65).slice (Rect.unit (s := S4x8x128) (k7_off2 q (BitVec.ofNat 32 (1 + i.val))) S1x8x128.size (k7_off2_inb q i)) (fun _ => rfl)).squeeze S8x128 squeezes_S1x8x128_S8x128

theorem row7_emb (q : Dev 4) (i : Fin 8) (j : Fin 128) : (row7 q).view.emb (ix2 i j) = ix3 q i j :=
  Rows.row_emb (Memref.whole main_v65) q (k7_off1 q) (off7_1 q) _ squeezes_S1x8x128_S8x128 i j
theorem row7_set (q : Dev 4) : (row7 q).view.set = Finset.univ.filter fun i : S4x8x128.Idx => (i 0).val = q.val :=
  (Rows.row_set (Memref.whole main_v65) q (k7_off1 q) (off7_1 q) _ squeezes_S1x8x128_S8x128).trans (Finset.map_refl (s := Finset.univ.filter fun i : S4x8x128.Idx => (i 0).val = q.val))

/-- The first push. -/
def site7 (X : Dev 4 → S8x128.Idx → Elt F .f32) : Push.Site τ sig (Elt F) S8x128 .f32 where
  bar := (3 : Sem sig)
  ls := (18 : DmaSem sig)
  s := ![(12 : DmaSem sig), (13 : DmaSem sig), (14 : DmaSem sig)]
  r := ![(15 : DmaSem sig), (16 : DmaSem sig), (17 : DmaSem sig)]
  src := Memref.whole main_v64
  sl := row7
  wsl := rowW7
  X := X
  Lnd := fun _ _ => Rows.stack X
  hL := fun q c fd i hi => by
    obtain ⟨j, -, rfl⟩ := Finset.mem_map.mp hi
    rw [View.write_emb_of_mem _ _ (Finset.mem_univ _)]
    have hj : j = ix2 (n0 := 8) (n1 := 128) (j 0) (j 1) := by funext x; fin_cases x <;> rfl
    rw [hj, row7_emb q (j 0) (j 1)]
    rfl
  N := (Memref.whole main_v64).view.dmaCredit
  N_pos := View.dmaCredit_pos _ (by decide)
  hNsrc := rfl
  hNsl := fun _ => rfl
  hNw := fun _ _ => rfl
  nels := by decide
  nelr := by decide
  nesr := by decide
  ness := by decide
  nerr := by decide

theorem dev7_1 : (fun d : Dev nD => (⟨k7_dev1 d, k7_dev1_lt d⟩ : Dev nD)) = fw 0 := by decide
theorem dev7_2 : (fun d : Dev nD => (⟨k7_dev2 d, k7_dev2_lt d⟩ : Dev nD)) = fw 1 := by decide
theorem dev7_3 : (fun d : Dev nD => (⟨k7_dev3 d, k7_dev3_lt d⟩ : Dev nD)) = fw 2 := by decide
theorem dev7_4 : (fun d : Dev nD => (⟨k7_dev4 d, k7_dev4_lt d⟩ : Dev nD)) = fw 0 := by decide
theorem dev7_5 : (fun d : Dev nD => (⟨k7_dev5 d, k7_dev5_lt d⟩ : Dev nD)) = fw 1 := by decide
theorem dev7_6 : (fun d : Dev nD => (⟨k7_dev6 d, k7_dev6_lt d⟩ : Dev nD)) = fw 2 := by decide

theorem row7_words (q : Dev 4) : (row7 q).view.WordExact := ((View.wordExact_bits rfl).reshape _ _ : (row7 q).view.WordExact)
theorem rowW7_words (i : Fin 3) (q : Dev 4) : (rowW7 i q).view.WordExact := ((View.wordExact_bits rfl).reshape _ _ : (rowW7 i q).view.WordExact)

/-- Its body is the push's program. -/
theorem body7_eq (X : Dev 4 → S8x128.Idx → Elt F .f32) (t : Fin cfg7.N) : bodyAt7 (F := F) t = (site7 X).prog (Memref.isWhole_whole _).wordExact row7_words rowW7_words
    (fw 0) (fw 1) (fw 2) (fw 0) (fw 1) (fw 2) (fun _ => rfl) (fun _ => ⟨Or.inl rfl, trivial⟩) (fun _ _ _ => ⟨⟨rfl, Or.inl rfl⟩, trivial⟩) := by
  have h : bodyAt7 (F := F) t = (site7 X).prog (Memref.isWhole_whole _).wordExact row7_words rowW7_words
    (fun d => ⟨k7_dev1 d, k7_dev1_lt d⟩) (fun d => ⟨k7_dev2 d, k7_dev2_lt d⟩) (fun d => ⟨k7_dev3 d, k7_dev3_lt d⟩)
    (fun d => ⟨k7_dev4 d, k7_dev4_lt d⟩) (fun d => ⟨k7_dev5 d, k7_dev5_lt d⟩) (fun d => ⟨k7_dev6 d, k7_dev6_lt d⟩)
    (fun _ => rfl) (fun _ => ⟨Or.inl rfl, trivial⟩) (fun _ _ _ => ⟨⟨rfl, Or.inl rfl⟩, trivial⟩) := rfl
  rw [h, dev7_1, dev7_2, dev7_3, dev7_4, dev7_5, dev7_6]

theorem off10_1 (q : Dev 4) : k10_off1 q = ![q.val, 0, 0] := by revert q; decide
theorem off10_2 (i : Fin 3) (q : Dev 4) : k10_off2 q (BitVec.ofNat 32 (1 + i.val)) = ![(fr i q).val, 0, 0] := by revert i q; decide

/-- Slice `q` of the second push's output. -/
def row10 (q : Dev 4) : Memref sig .tc .hbm S1024x8192 .fp8e4m3 :=
  ((Memref.whole main_v73).slice (Rect.unit (s := S4x1024x8192) (k10_off1 q) S1x1024x8192.size (k10_off1_inb q)) (fun _ => rfl)).squeeze S1024x8192 squeezes_S1x1024x8192_S1024x8192
/-- The slice the wait for landing `i` names. -/
def rowW10 (i : Fin 3) (q : Dev 4) : Memref sig .tc .hbm S1024x8192 .fp8e4m3 :=
  ((Memref.whole main_v73).slice (Rect.unit (s := S4x1024x8192) (k10_off2 q (BitVec.ofNat 32 (1 + i.val))) S1x1024x8192.size (k10_off2_inb q i)) (fun _ => rfl)).squeeze S1024x8192 squeezes_S1x1024x8192_S1024x8192

theorem row10_emb (q : Dev 4) (i : Fin 1024) (j : Fin 8192) : (row10 q).view.emb (ix2 i j) = ix3 q i j :=
  Rows.row_emb (Memref.whole main_v73) q (k10_off1 q) (off10_1 q) _ squeezes_S1x1024x8192_S1024x8192 i j
theorem row10_set (q : Dev 4) : (row10 q).view.set = Finset.univ.filter fun i : S4x1024x8192.Idx => (i 0).val = q.val :=
  (Rows.row_set (Memref.whole main_v73) q (k10_off1 q) (off10_1 q) _ squeezes_S1x1024x8192_S1024x8192).trans (Finset.map_refl (s := Finset.univ.filter fun i : S4x1024x8192.Idx => (i 0).val = q.val))

/-- The second push. -/
def site10 (X : Dev 4 → S1024x8192.Idx → Elt F .fp8e4m3) : Push.Site τ sig (Elt F) S1024x8192 .fp8e4m3 where
  bar := (4 : Sem sig)
  ls := (27 : DmaSem sig)
  s := ![(21 : DmaSem sig), (22 : DmaSem sig), (23 : DmaSem sig)]
  r := ![(24 : DmaSem sig), (25 : DmaSem sig), (26 : DmaSem sig)]
  src := Memref.whole main_v72
  sl := row10
  wsl := rowW10
  X := X
  Lnd := fun _ _ => Rows.stack X
  hL := fun q c fd i hi => by
    obtain ⟨j, -, rfl⟩ := Finset.mem_map.mp hi
    rw [View.write_emb_of_mem _ _ (Finset.mem_univ _)]
    have hj : j = ix2 (n0 := 1024) (n1 := 8192) (j 0) (j 1) := by funext x; fin_cases x <;> rfl
    rw [hj, row10_emb q (j 0) (j 1)]
    rfl
  N := (Memref.whole main_v72).view.dmaCredit
  N_pos := View.dmaCredit_pos _ (by decide)
  hNsrc := rfl
  hNsl := fun _ => rfl
  hNw := fun _ _ => rfl
  nels := by decide
  nelr := by decide
  nesr := by decide
  ness := by decide
  nerr := by decide

theorem dev10_1 : (fun d : Dev nD => (⟨k10_dev1 d, k10_dev1_lt d⟩ : Dev nD)) = fw 0 := by decide
theorem dev10_2 : (fun d : Dev nD => (⟨k10_dev2 d, k10_dev2_lt d⟩ : Dev nD)) = fw 1 := by decide
theorem dev10_3 : (fun d : Dev nD => (⟨k10_dev3 d, k10_dev3_lt d⟩ : Dev nD)) = fw 2 := by decide
theorem dev10_4 : (fun d : Dev nD => (⟨k10_dev4 d, k10_dev4_lt d⟩ : Dev nD)) = fw 0 := by decide
theorem dev10_5 : (fun d : Dev nD => (⟨k10_dev5 d, k10_dev5_lt d⟩ : Dev nD)) = fw 1 := by decide
theorem dev10_6 : (fun d : Dev nD => (⟨k10_dev6 d, k10_dev6_lt d⟩ : Dev nD)) = fw 2 := by decide

theorem row10_words (q : Dev 4) : (row10 q).view.WordExact := (((Memref.isWhole_whole main_v73).wordExact_slice rfl _ (k10_off1_wordsfp8e4m3 q)).reshape _ _)
theorem rowW10_words (i : Fin 3) (q : Dev 4) : (rowW10 i q).view.WordExact := (((Memref.isWhole_whole main_v73).wordExact_slice rfl _ (k10_off2_wordsfp8e4m3 q i)).reshape _ _)

/-- Its body is the push's program. -/
theorem body10_eq (X : Dev 4 → S1024x8192.Idx → Elt F .fp8e4m3) (t : Fin cfg10.N) : bodyAt10 (F := F) t = (site10 X).prog (Memref.isWhole_whole _).wordExact row10_words rowW10_words
    (fw 0) (fw 1) (fw 2) (fw 0) (fw 1) (fw 2) (fun _ => rfl) (fun _ => ⟨Or.inl rfl, trivial⟩) (fun _ _ _ => ⟨⟨rfl, Or.inl rfl⟩, trivial⟩) := by
  have h : bodyAt10 (F := F) t = (site10 X).prog (Memref.isWhole_whole _).wordExact row10_words rowW10_words
    (fun d => ⟨k10_dev1 d, k10_dev1_lt d⟩) (fun d => ⟨k10_dev2 d, k10_dev2_lt d⟩) (fun d => ⟨k10_dev3 d, k10_dev3_lt d⟩)
    (fun d => ⟨k10_dev4 d, k10_dev4_lt d⟩) (fun d => ⟨k10_dev5 d, k10_dev5_lt d⟩) (fun d => ⟨k10_dev6 d, k10_dev6_lt d⟩)
    (fun _ => rfl) (fun _ => ⟨Or.inl rfl, trivial⟩) (fun _ _ _ => ⟨⟨rfl, Or.inl rfl⟩, trivial⟩) := rfl
  rw [h, dev10_1, dev10_2, dev10_3, dev10_4, dev10_5, dev10_6]

end Cert.KernelIdeal.Talk

end
-- ==== Proof.KernelIdeal.Plan.lean ====
/-
  The run's plan: the rounds components of the five launches whose devices talk, what each device owes before each of
  them, what rides from the program's launch to each, and the pipeline data of the launches that move nothing themselves
  (the talking launches and the ties).
-/
module

public import proofs.«01_k».proof.Proof.KernelIdeal.Sites
public import proofs.«01_k».proof.Proof.Gen.KernelIdeal.Regions

@[expose] public section

set_option Elab.async false
set_option maxRecDepth 4000

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv Above Funds mem_L' above_zero)
open Idealize.ShloMosaic.TalkSites (Pay tallyL addL addL_eq Fam mayWait_addL talk_above)
open Idealize.ShloMosaic.Pipeline (Dat BodyObligation)
open Cert.KernelIdeal Cert.KernelIdeal.Gen
open Cert.Hop (rt lt lt_rt rt_lt)
open Cert.Push (fw fr)

variable {F : FTy → Type} [FloatOps F]

/-- The rounds component of one talking launch. -/
abbrev RT : Type := URounds (GSem nD τ sig) (Fin 3)
/-- Those of the five, side by side. -/
abbrev UC : Type := RT × (RT × (RT × (RT × RT)))
abbrev UU : Type := UR sig nD τ × UC

local notation "𝕄" => MT nD τ sig ℕ (Elt F) ℕ UU ℕ

abbrev EP : Emb (UR sig nD τ) (MT nD τ sig ℕ (Elt F) ℕ UU ℕ) := embL
abbrev EC : Emb UC (MT nD τ sig ℕ (Elt F) ℕ UU ℕ) := embR
abbrev T1 : Emb (RT × (RT × (RT × RT))) (MT nD τ sig ℕ (Elt F) ℕ UU ℕ) := (Emb.inr : Emb _ UC).trans EC
abbrev T2 : Emb (RT × (RT × RT)) (MT nD τ sig ℕ (Elt F) ℕ UU ℕ) := (Emb.inr : Emb _ (RT × (RT × (RT × RT)))).trans T1
abbrev T3 : Emb (RT × RT) (MT nD τ sig ℕ (Elt F) ℕ UU ℕ) := (Emb.inr : Emb _ (RT × (RT × RT))).trans T2
abbrev E0 : Emb RT (MT nD τ sig ℕ (Elt F) ℕ UU ℕ) := (Emb.inl : Emb _ UC).trans EC
abbrev E1 : Emb RT (MT nD τ sig ℕ (Elt F) ℕ UU ℕ) := (Emb.inl : Emb _ (RT × (RT × (RT × RT)))).trans T1
abbrev E2 : Emb RT (MT nD τ sig ℕ (Elt F) ℕ UU ℕ) := (Emb.inl : Emb _ (RT × (RT × RT))).trans T2
abbrev E3 : Emb RT (MT nD τ sig ℕ (Elt F) ℕ UU ℕ) := (Emb.inl : Emb _ (RT × RT)).trans T3
abbrev E4 : Emb RT (MT nD τ sig ℕ (Elt F) ℕ UU ℕ) := (Emb.inr : Emb _ (RT × RT)).trans T3

/-- What the launches' operands hold on each device: the two half chunks each hop sends, the block each push sends. -/
structure Contents (F : FTy → Type) [FloatOps F] where
  A0 : Dev nD → Half F
  B0 : Dev nD → Half F
  A1 : Dev nD → Half F
  B1 : Dev nD → Half F
  A2 : Dev nD → Half F
  B2 : Dev nD → Half F
  X3 : Dev nD → S8x128.Idx → Elt F .f32
  X4 : Dev nD → S1024x8192.Idx → Elt F .fp8e4m3
  /-- What the copy launch's output and the widening launch's operand and output hold before those launches. -/
  Y8 : Dev nD → S4x8x128.Idx → Elt F .f32
  X11 : Dev nD → S4096x8192.Idx → Elt F .fp8e4m3
  Y11 : Dev nD → S4096x8192.Idx → Elt F .f32

variable (K : Contents F)

def P0 : Hop.Site τ sig (Elt F) S1024x4096 .bf16 := site0 K.A0 K.B0
def P1 : Hop.Site τ sig (Elt F) S1024x4096 .bf16 := site2 K.A1 K.B1
def P2 : Hop.Site τ sig (Elt F) S1024x4096 .bf16 := site4 K.A2 K.B2
def P3 : Push.Site τ sig (Elt F) S8x128 .f32 := site7 K.X3
def P4 : Push.Site τ sig (Elt F) S1024x8192 .fp8e4m3 := site10 K.X4

/-! ## Dues -/

/-- What a device owes after the `n`-th talking launch. -/
def O5 (_ : Dev nD) : CellTallies nD τ sig ℕ := 0
@[inherit_doc O5] def O4 (c : Dev nD) : CellTallies nD τ sig ℕ := O5 c + tallyL ((P4 K).dues 9 c)
@[inherit_doc O5] def O3 (c : Dev nD) : CellTallies nD τ sig ℕ := O4 K c + tallyL ((P3 K).dues 7 c)
@[inherit_doc O5] def O2 (c : Dev nD) : CellTallies nD τ sig ℕ := O3 K c + tallyL ((P2 K).dues 5 c)
@[inherit_doc O5] def O1 (c : Dev nD) : CellTallies nD τ sig ℕ := O2 K c + tallyL ((P1 K).dues 3 c)
@[inherit_doc O5] def O0 (c : Dev nD) : CellTallies nD τ sig ℕ := O1 K c + tallyL ((P0 K).dues 1 c)

theorem above5 : Above 11 11 (O5) := above_zero _ _
theorem above4 : Above 11 9 (O4 K) := talk_above (w := 2) (by decide) above5 _ ((P4 K).dues_mem 9)
theorem above3 : Above 11 7 (O3 K) := talk_above (w := 2) (by decide) (above4 K) _ ((P3 K).dues_mem 7)
theorem above2 : Above 11 5 (O2 K) := talk_above (w := 2) (by decide) (above3 K) _ ((P2 K).dues_mem 5)
theorem above1 : Above 11 3 (O1 K) := talk_above (w := 2) (by decide) (above2 K) _ ((P1 K).dues_mem 3)
theorem above0 : Above 11 1 (O0 K) := talk_above (w := 2) (by decide) (above1 K) _ ((P0 K).dues_mem 1)

/-! ## The launch of the program -/

def init : UC := (launchOf (P0 K).fam.S (P0 K).fam.Sd (P0 K).fam.T, launchOf (P1 K).fam.S (P1 K).fam.Sd (P1 K).fam.T,
  launchOf (P2 K).fam.S (P2 K).fam.Sd (P2 K).fam.T, launchOf (P3 K).fam.S (P3 K).fam.Sd (P3 K).fam.T, launchOf (P4 K).fam.S (P4 K).fam.Sd (P4 K).fam.T)

/-- What rides to each talking launch, and what its barrier leaves. -/
def rides0 (c : Dev nD) : sProp 𝕄 := (P0 K).rides E0 1 c
@[inherit_doc rides0] def rides1 (c : Dev nD) : sProp 𝕄 := (P1 K).rides E1 3 c
@[inherit_doc rides0] def rides2 (c : Dev nD) : sProp 𝕄 := (P2 K).rides E2 5 c
@[inherit_doc rides0] def rides3 (c : Dev nD) : sProp 𝕄 := (P3 K).rides E3 7 c
@[inherit_doc rides0] def rides4 (c : Dev nD) : sProp 𝕄 := (P4 K).rides E4 9 c
def bar0 (c : Dev nD) : sProp 𝕄 := semVal ((c : Thread nD τ), .reg (0 : Sem sig)) 0
@[inherit_doc bar0] def bar1 (c : Dev nD) : sProp 𝕄 := semVal ((c : Thread nD τ), .reg (1 : Sem sig)) 0
@[inherit_doc bar0] def bar2 (c : Dev nD) : sProp 𝕄 := semVal ((c : Thread nD τ), .reg (2 : Sem sig)) 0
@[inherit_doc bar0] def bar3 (c : Dev nD) : sProp 𝕄 := semVal ((c : Thread nD τ), .reg (3 : Sem sig)) 0
@[inherit_doc bar0] def bar4 (c : Dev nD) : sProp 𝕄 := semVal ((c : Thread nD τ), .reg (4 : Sem sig)) 0

theorem bar0_of (c : Dev nD) : (semVal ((P0 K).barC c) 0 : sProp 𝕄) ⊢ bar0 c := .rfl
theorem bar1_of (c : Dev nD) : (semVal ((P1 K).barC c) 0 : sProp 𝕄) ⊢ bar1 c := .rfl
theorem bar2_of (c : Dev nD) : (semVal ((P2 K).barC c) 0 : sProp 𝕄) ⊢ bar2 c := .rfl
theorem bar3_of (c : Dev nD) : (semVal ((P3 K).barC c) 0 : sProp 𝕄) ⊢ bar3 c := .rfl
theorem bar4_of (c : Dev nD) : (semVal ((P4 K).barC c) 0 : sProp 𝕄) ⊢ bar4 c := .rfl

theorem fund {Es : Set ℕ} : Funds EC (fun c => iprop(bar0 (F := F) c ∗ (bar1 c ∗ (bar2 c ∗ (bar3 c ∗ bar4 c))))) (O0 K) (init K)
    (fun c => iprop(rides0 K c ∗ (rides1 K c ∗ (rides2 K c ∗ (rides3 K c ∗ rides4 K c))))) Es :=
  Funds.step EC ((P0 K).funds E0 1) (Funds.step T1 ((P1 K).funds E1 3) (Funds.step T2 ((P2 K).funds E2 5)
    (Funds.step T3 ((P3 K).funds E3 7) (((P4 K).funds E4 9).under O5))))

/-- What a device carries beside its buffers before talking launch `n`. -/
def St0 (c : Dev nD) : sProp 𝕄 := iprop(rides0 K c ∗ rides1 K c ∗ rides2 K c ∗ rides3 K c ∗ rides4 K c)
@[inherit_doc St0] def St1 (c : Dev nD) : sProp 𝕄 := iprop(bar0 c ∗ rides1 K c ∗ rides2 K c ∗ rides3 K c ∗ rides4 K c)
@[inherit_doc St0] def St2 (c : Dev nD) : sProp 𝕄 := iprop(bar0 c ∗ bar1 c ∗ rides2 K c ∗ rides3 K c ∗ rides4 K c)
@[inherit_doc St0] def St3 (c : Dev nD) : sProp 𝕄 := iprop(bar0 c ∗ bar1 c ∗ bar2 c ∗ rides3 K c ∗ rides4 K c)
@[inherit_doc St0] def St4 (c : Dev nD) : sProp 𝕄 := iprop(bar0 c ∗ bar1 c ∗ bar2 c ∗ bar3 c ∗ rides4 K c)
def St5 (c : Dev nD) : sProp 𝕄 := iprop(bar0 c ∗ bar1 c ∗ bar2 c ∗ bar3 c ∗ bar4 c)

/-- The same with the device's random state and what it owes. -/
def E (j : Fin 13) (c : Dev nD) : sProp 𝕄 := iprop((∃ r, prngReg c r) ∗ match j with
  | 0 => iprop(St0 K c ∗ ∃ W, owes (c : Thread nD τ) (O0 K c) W)
  | 1 | 2 => iprop(St1 K c ∗ ∃ W, owes (c : Thread nD τ) (O1 K c) W)
  | 3 | 4 => iprop(St2 K c ∗ ∃ W, owes (c : Thread nD τ) (O2 K c) W)
  | 5 | 6 | 7 => iprop(St3 K c ∗ ∃ W, owes (c : Thread nD τ) (O3 K c) W)
  | 8 | 9 | 10 => iprop(St4 K c ∗ ∃ W, owes (c : Thread nD τ) (O4 K c) W)
  | 11 | 12 => iprop(St5 c ∗ ∃ W, owes (c : Thread nD τ) (O5 c) W))

/-! ## Before and after a body -/

theorem owes_in {cfg : Pipeline.Cfg sig Λ₀} {c : Dev nD} (dat : Dat τ (Elt F) ℕ ℕ UU ℕ cfg c) (t : Fin (cfg.N + 1))
    (O : CellTallies nD τ sig ℕ) (h : dat.owed t = O) (W : Waits sig ℕ) (hr : dat.recorded t = Set.univ) :
    (owes (c : Thread nD τ) O W : sProp 𝕄) ⊢ dat.owesAt 0 t := by
  subst h
  unfold Dat.owesAt Pipeline.owesWithin Dat.bound
  rw [hr]
  iintro H
  iexists W
  isplitr
  · ipureintro; exact fun _ _ => Or.inl trivial
  · iexact H

theorem owes_out {cfg : Pipeline.Cfg sig Λ₀} {c : Dev nD} (dat : Dat τ (Elt F) ℕ ℕ UU ℕ cfg c) (t : Fin (cfg.N + 1))
    (O : CellTallies nD τ sig ℕ) (h : dat.owed t = O) :
    (dat.owesAt 0 t : sProp 𝕄) ⊢ iprop(∃ W, owes (c : Thread nD τ) O W) := by
  subst h
  unfold Dat.owesAt Pipeline.owesWithin
  iintro ⟨%W, -, H⟩
  iexists W
  iexact H

/-- One thing before the only point of a grid, another after it. -/
def ends {α : Type _} {n : ℕ} (t : Fin (n + 1)) (x y : α) : α := if t.val = 0 then x else y
theorem ends_first {α : Type _} {n : ℕ} (x y : α) : ends (0 : Fin (n + 1)) x y = x := if_pos rfl
theorem ends_last {α : Type _} {n : ℕ} (hn : n = 1) (x y : α) : ends (Fin.last n) x y = y := by
  subst hn; rfl

/-- Nothing is staged in a launch without windows. -/
theorem no_windows {M : Type} [URA M] (Φ : Fin 0 → sProp M) : bigSep Finset.univ Φ = (BI.emp : sProp M) :=
  bigSep_univ_eq_bigSepL [] (by decide) (by decide) Φ

theorem routes_all (c c' : Dev 4) : τ.routes (c : Thread 4 τ) (c' : Thread 4 τ) = true := by
  revert c c'; decide

/-! ## Launch 0 -/

/-- What launch 0's body is given, and what it leaves. -/
def pre0 (c : Dev nD) : sProp 𝕄 := iprop((P0 K).opened E0 1 c ∗ levAts (L 11) lv ∗ (P0 K).aPts c ∗ (P0 K).bPts c ∗ (P0 K).oaAny c ∗ (P0 K).obAny c)
@[inherit_doc pre0] def post0 (c : Dev nD) : sProp 𝕄 := iprop(bar0 c ∗ (semVal ((P0 K).s0C c) 0 ∗ semVal ((P0 K).s1C c) 0 ∗ semVal ((P0 K).r0C c) 0 ∗ semVal ((P0 K).r1C c) 0) ∗ (P0 K).aPts c ∗ (P0 K).bPts c ∗ (P0 K).oaPts c ∗ (P0 K).obPts c)

def dat0 (c : Dev nD) : Dat τ (Elt F) ℕ ℕ UU ℕ cfg0 c where
  A w := w.elim0
  after w := w.elim0
  Φ t := ends t iprop(Pipeline.scopedRest cfg0.spec c ∗ (∃ r, prngReg c r) ∗ pre0 K c)
    iprop(Pipeline.scopedRest cfg0.spec c ∗ (∃ r, prngReg c r) ∗ post0 K c)
  q w := w.elim0
  owed t := ends t (O0 K c) (O1 K c)

theorem Φ0_first (c : Dev nD) : (dat0 K c).Φ 0 = iprop(Pipeline.scopedRest cfg0.spec c ∗ (∃ r, prngReg c r) ∗ pre0 K c) := by dsimp only [dat0]; exact ends_first _ _
theorem Φ0_last (c : Dev nD) : (dat0 K c).Φ (Fin.last _) = iprop(Pipeline.scopedRest cfg0.spec c ∗ (∃ r, prngReg c r) ∗ post0 K c) := by dsimp only [dat0]; exact ends_last N_0 _ _
theorem owed0_first (c : Dev nD) : (dat0 K c).owed 0 = O0 K c := by dsimp only [dat0]; exact ends_first _ _
theorem owed0_last (c : Dev nD) : (dat0 K c).owed (Fin.last _) = O1 K c := by dsimp only [dat0]; exact ends_last N_0 _ _

theorem obl0 (c : Dev nD) : BodyObligation (dat0 K c) (defs₀ (F := F)) Variants.none 0 Set.univ := fun t => by
  obtain rfl := fin_N0 t
  rw [no_windows, no_windows]
  rw [show (dat0 K c).Φ t0_0.castSucc = _ from Φ0_first K c, show (dat0 K c).Φ t0_0.succ = _ from Φ0_last K c]
  rw [show defs₀ (F := F) .tc cfg0.body (cfg0.bodyArgs t0_0 (cfg0.slots t0_0)) = _ from body0_eq K.A0 K.B0 t0_0]
  iintro ⟨⟨Hs, Hp, HΦ⟩, HO, -⟩
  ihave HO' := (owes_out (dat0 K c) t0_0.castSucc (O0 K c) (owed0_first K c)) $$ HO
  icases HO' with ⟨%W, HO⟩
  iapply ((P0 K).run E0 (defs₀ (F := F)) Variants.none routes_all (Memref.isWhole_whole _).wordExact (Memref.isWhole_whole _).wordExact
        (Memref.isWhole_whole _).wordExact (Memref.isWhole_whole _).wordExact rfl rfl (fun _ => ⟨⟨rfl, Or.inl rfl⟩, trivial⟩) (fun _ => ⟨⟨rfl, Or.inl rfl⟩, trivial⟩)
      (k := 1) (by decide) (by decide) (above1 K) c W _)
  isplitl [HΦ HO]
  · unfold pre0 Hop.Site.pre
    icases HΦ with ⟨H0, H1, H2, H3, H4, H5⟩
    isplitl [H0]; · iexact H0
    isplitl [H1]; · iexact H1
    isplitl [H2]; · iexact H2
    isplitl [H3]; · iexact H3
    isplitl [H4]; · iexact H4
    isplitl [H5]; · iexact H5
    rw [addL_eq]
    iexact HO
  unfold Hop.Site.post
  iintro ⟨G0, G1, G2, G3, G4, G5, %W', HO⟩
  isplitr [HO]
  · isplitl [Hs]; · iexact Hs
    isplitl [Hp]; · iexact Hp
    unfold post0
    isplitl [G0]; · iapply (bar0_of K c); iexact G0
    isplitl [G1]; · iexact G1
    isplitl [G2]; · iexact G2
    isplitl [G3]; · iexact G3
    isplitl [G4]; · iexact G4
    iexact G5
  isplitl [HO]
  · iapply (owes_in (dat0 K c) t0_0.succ (O1 K c) (owed0_last K c) W' rfl); iexact HO
  · iempintro

/-! ## Launch 2 -/

/-- What launch 2's body is given, and what it leaves. -/
def pre2 (c : Dev nD) : sProp 𝕄 := iprop((P1 K).opened E1 3 c ∗ levAts (L 11) lv ∗ (P1 K).aPts c ∗ (P1 K).bPts c ∗ (P1 K).oaAny c ∗ (P1 K).obAny c)
@[inherit_doc pre2] def post2 (c : Dev nD) : sProp 𝕄 := iprop(bar1 c ∗ (semVal ((P1 K).s0C c) 0 ∗ semVal ((P1 K).s1C c) 0 ∗ semVal ((P1 K).r0C c) 0 ∗ semVal ((P1 K).r1C c) 0) ∗ (P1 K).aPts c ∗ (P1 K).bPts c ∗ (P1 K).oaPts c ∗ (P1 K).obPts c)

def dat2 (c : Dev nD) : Dat τ (Elt F) ℕ ℕ UU ℕ cfg2 c where
  A w := w.elim0
  after w := w.elim0
  Φ t := ends t iprop(Pipeline.scopedRest cfg2.spec c ∗ (∃ r, prngReg c r) ∗ pre2 K c)
    iprop(Pipeline.scopedRest cfg2.spec c ∗ (∃ r, prngReg c r) ∗ post2 K c)
  q w := w.elim0
  owed t := ends t (O1 K c) (O2 K c)

theorem Φ2_first (c : Dev nD) : (dat2 K c).Φ 0 = iprop(Pipeline.scopedRest cfg2.spec c ∗ (∃ r, prngReg c r) ∗ pre2 K c) := by dsimp only [dat2]; exact ends_first _ _
theorem Φ2_last (c : Dev nD) : (dat2 K c).Φ (Fin.last _) = iprop(Pipeline.scopedRest cfg2.spec c ∗ (∃ r, prngReg c r) ∗ post2 K c) := by dsimp only [dat2]; exact ends_last N_2 _ _
theorem owed2_first (c : Dev nD) : (dat2 K c).owed 0 = O1 K c := by dsimp only [dat2]; exact ends_first _ _
theorem owed2_last (c : Dev nD) : (dat2 K c).owed (Fin.last _) = O2 K c := by dsimp only [dat2]; exact ends_last N_2 _ _

theorem obl2 (c : Dev nD) : BodyObligation (dat2 K c) (defs₀ (F := F)) Variants.none 0 Set.univ := fun t => by
  obtain rfl := fin_N2 t
  rw [no_windows, no_windows]
  rw [show (dat2 K c).Φ t2_0.castSucc = _ from Φ2_first K c, show (dat2 K c).Φ t2_0.succ = _ from Φ2_last K c]
  rw [show defs₀ (F := F) .tc cfg2.body (cfg2.bodyArgs t2_0 (cfg2.slots t2_0)) = _ from body2_eq K.A1 K.B1 t2_0]
  iintro ⟨⟨Hs, Hp, HΦ⟩, HO, -⟩
  ihave HO' := (owes_out (dat2 K c) t2_0.castSucc (O1 K c) (owed2_first K c)) $$ HO
  icases HO' with ⟨%W, HO⟩
  iapply ((P1 K).run E1 (defs₀ (F := F)) Variants.none routes_all (Memref.isWhole_whole _).wordExact (Memref.isWhole_whole _).wordExact
        (Memref.isWhole_whole _).wordExact (Memref.isWhole_whole _).wordExact rfl rfl (fun _ => ⟨⟨rfl, Or.inl rfl⟩, trivial⟩) (fun _ => ⟨⟨rfl, Or.inl rfl⟩, trivial⟩)
      (k := 3) (by decide) (by decide) (above2 K) c W _)
  isplitl [HΦ HO]
  · unfold pre2 Hop.Site.pre
    icases HΦ with ⟨H0, H1, H2, H3, H4, H5⟩
    isplitl [H0]; · iexact H0
    isplitl [H1]; · iexact H1
    isplitl [H2]; · iexact H2
    isplitl [H3]; · iexact H3
    isplitl [H4]; · iexact H4
    isplitl [H5]; · iexact H5
    rw [addL_eq]
    iexact HO
  unfold Hop.Site.post
  iintro ⟨G0, G1, G2, G3, G4, G5, %W', HO⟩
  isplitr [HO]
  · isplitl [Hs]; · iexact Hs
    isplitl [Hp]; · iexact Hp
    unfold post2
    isplitl [G0]; · iapply (bar1_of K c); iexact G0
    isplitl [G1]; · iexact G1
    isplitl [G2]; · iexact G2
    isplitl [G3]; · iexact G3
    isplitl [G4]; · iexact G4
    iexact G5
  isplitl [HO]
  · iapply (owes_in (dat2 K c) t2_0.succ (O2 K c) (owed2_last K c) W' rfl); iexact HO
  · iempintro

/-! ## Launch 4 -/

/-- What launch 4's body is given, and what it leaves. -/
def pre4 (c : Dev nD) : sProp 𝕄 := iprop((P2 K).opened E2 5 c ∗ levAts (L 11) lv ∗ (P2 K).aPts c ∗ (P2 K).bPts c ∗ (P2 K).oaAny c ∗ (P2 K).obAny c)
@[inherit_doc pre4] def post4 (c : Dev nD) : sProp 𝕄 := iprop(bar2 c ∗ (semVal ((P2 K).s0C c) 0 ∗ semVal ((P2 K).s1C c) 0 ∗ semVal ((P2 K).r0C c) 0 ∗ semVal ((P2 K).r1C c) 0) ∗ (P2 K).aPts c ∗ (P2 K).bPts c ∗ (P2 K).oaPts c ∗ (P2 K).obPts c)

def dat4 (c : Dev nD) : Dat τ (Elt F) ℕ ℕ UU ℕ cfg4 c where
  A w := w.elim0
  after w := w.elim0
  Φ t := ends t iprop(Pipeline.scopedRest cfg4.spec c ∗ (∃ r, prngReg c r) ∗ pre4 K c)
    iprop(Pipeline.scopedRest cfg4.spec c ∗ (∃ r, prngReg c r) ∗ post4 K c)
  q w := w.elim0
  owed t := ends t (O2 K c) (O3 K c)

theorem Φ4_first (c : Dev nD) : (dat4 K c).Φ 0 = iprop(Pipeline.scopedRest cfg4.spec c ∗ (∃ r, prngReg c r) ∗ pre4 K c) := by dsimp only [dat4]; exact ends_first _ _
theorem Φ4_last (c : Dev nD) : (dat4 K c).Φ (Fin.last _) = iprop(Pipeline.scopedRest cfg4.spec c ∗ (∃ r, prngReg c r) ∗ post4 K c) := by dsimp only [dat4]; exact ends_last N_4 _ _
theorem owed4_first (c : Dev nD) : (dat4 K c).owed 0 = O2 K c := by dsimp only [dat4]; exact ends_first _ _
theorem owed4_last (c : Dev nD) : (dat4 K c).owed (Fin.last _) = O3 K c := by dsimp only [dat4]; exact ends_last N_4 _ _

theorem obl4 (c : Dev nD) : BodyObligation (dat4 K c) (defs₀ (F := F)) Variants.none 0 Set.univ := fun t => by
  obtain rfl := fin_N4 t
  rw [no_windows, no_windows]
  rw [show (dat4 K c).Φ t4_0.castSucc = _ from Φ4_first K c, show (dat4 K c).Φ t4_0.succ = _ from Φ4_last K c]
  rw [show defs₀ (F := F) .tc cfg4.body (cfg4.bodyArgs t4_0 (cfg4.slots t4_0)) = _ from body4_eq K.A2 K.B2 t4_0]
  iintro ⟨⟨Hs, Hp, HΦ⟩, HO, -⟩
  ihave HO' := (owes_out (dat4 K c) t4_0.castSucc (O2 K c) (owed4_first K c)) $$ HO
  icases HO' with ⟨%W, HO⟩
  iapply ((P2 K).run E2 (defs₀ (F := F)) Variants.none routes_all (Memref.isWhole_whole _).wordExact (Memref.isWhole_whole _).wordExact
        (Memref.isWhole_whole _).wordExact (Memref.isWhole_whole _).wordExact rfl rfl (fun _ => ⟨⟨rfl, Or.inl rfl⟩, trivial⟩) (fun _ => ⟨⟨rfl, Or.inl rfl⟩, trivial⟩)
      (k := 5) (by decide) (by decide) (above3 K) c W _)
  isplitl [HΦ HO]
  · unfold pre4 Hop.Site.pre
    icases HΦ with ⟨H0, H1, H2, H3, H4, H5⟩
    isplitl [H0]; · iexact H0
    isplitl [H1]; · iexact H1
    isplitl [H2]; · iexact H2
    isplitl [H3]; · iexact H3
    isplitl [H4]; · iexact H4
    isplitl [H5]; · iexact H5
    rw [addL_eq]
    iexact HO
  unfold Hop.Site.post
  iintro ⟨G0, G1, G2, G3, G4, G5, %W', HO⟩
  isplitr [HO]
  · isplitl [Hs]; · iexact Hs
    isplitl [Hp]; · iexact Hp
    unfold post4
    isplitl [G0]; · iapply (bar2_of K c); iexact G0
    isplitl [G1]; · iexact G1
    isplitl [G2]; · iexact G2
    isplitl [G3]; · iexact G3
    isplitl [G4]; · iexact G4
    iexact G5
  isplitl [HO]
  · iapply (owes_in (dat4 K c) t4_0.succ (O3 K c) (owed4_last K c) W' rfl); iexact HO
  · iempintro

/-! ## Launch 7 -/

/-- What launch 7's body is given, and what it leaves. -/
def pre7 (c : Dev nD) : sProp 𝕄 := iprop((P3 K).opened E3 7 c ∗ levAts (L 11) lv ∗ (P3 K).srcPts fullShare c ∗ (bigSep Finset.univ fun q => (P3 K).slAny q c))
@[inherit_doc pre7] def post7 (c : Dev nD) : sProp 𝕄 := iprop(bar3 c ∗ (P3 K).zeros c ∗ (P3 K).srcPts fullShare c ∗ (bigSep Finset.univ fun q => (P3 K).slPts q c))

def dat7 (c : Dev nD) : Dat τ (Elt F) ℕ ℕ UU ℕ cfg7 c where
  A w := w.elim0
  after w := w.elim0
  Φ t := ends t iprop(Pipeline.scopedRest cfg7.spec c ∗ (∃ r, prngReg c r) ∗ pre7 K c)
    iprop(Pipeline.scopedRest cfg7.spec c ∗ (∃ r, prngReg c r) ∗ post7 K c)
  q w := w.elim0
  owed t := ends t (O3 K c) (O4 K c)

theorem Φ7_first (c : Dev nD) : (dat7 K c).Φ 0 = iprop(Pipeline.scopedRest cfg7.spec c ∗ (∃ r, prngReg c r) ∗ pre7 K c) := by dsimp only [dat7]; exact ends_first _ _
theorem Φ7_last (c : Dev nD) : (dat7 K c).Φ (Fin.last _) = iprop(Pipeline.scopedRest cfg7.spec c ∗ (∃ r, prngReg c r) ∗ post7 K c) := by dsimp only [dat7]; exact ends_last N_7 _ _
theorem owed7_first (c : Dev nD) : (dat7 K c).owed 0 = O3 K c := by dsimp only [dat7]; exact ends_first _ _
theorem owed7_last (c : Dev nD) : (dat7 K c).owed (Fin.last _) = O4 K c := by dsimp only [dat7]; exact ends_last N_7 _ _

theorem obl7 (c : Dev nD) : BodyObligation (dat7 K c) (defs₀ (F := F)) Variants.none 0 Set.univ := fun t => by
  obtain rfl := fin_N7 t
  rw [no_windows, no_windows]
  rw [show (dat7 K c).Φ t7_0.castSucc = _ from Φ7_first K c, show (dat7 K c).Φ t7_0.succ = _ from Φ7_last K c]
  rw [show defs₀ (F := F) .tc cfg7.body (cfg7.bodyArgs t7_0 (cfg7.slots t7_0)) = _ from body7_eq K.X3 t7_0]
  iintro ⟨⟨Hs, Hp, HΦ⟩, HO, -⟩
  ihave HO' := (owes_out (dat7 K c) t7_0.castSucc (O3 K c) (owed7_first K c)) $$ HO
  icases HO' with ⟨%W, HO⟩
  iapply ((P3 K).run E3 (defs₀ (F := F)) Variants.none routes_all (Memref.isWhole_whole _).wordExact row7_words rowW7_words (fun _ => rfl) (fun _ => ⟨Or.inl rfl, trivial⟩) (fun _ _ _ => ⟨⟨rfl, Or.inl rfl⟩, trivial⟩)
      (k := 7) (by decide) (by decide) (above4 K) c W _)
  isplitl [HΦ HO]
  · unfold pre7 Push.Site.pre
    icases HΦ with ⟨H0, H1, H2, H3⟩
    isplitl [H0]; · iexact H0
    isplitl [H1]; · iexact H1
    isplitl [H2]; · iexact H2
    isplitl [H3]; · iexact H3
    rw [addL_eq]
    iexact HO
  unfold Push.Site.post
  iintro ⟨G0, G1, G2, G3, %W', HO⟩
  isplitr [HO]
  · isplitl [Hs]; · iexact Hs
    isplitl [Hp]; · iexact Hp
    unfold post7
    isplitl [G0]; · iapply (bar3_of K c); iexact G0
    isplitl [G1]; · iexact G1
    isplitl [G2]; · iexact G2
    iexact G3
  isplitl [HO]
  · iapply (owes_in (dat7 K c) t7_0.succ (O4 K c) (owed7_last K c) W' rfl); iexact HO
  · iempintro

/-! ## Launch 10 -/

/-- What launch 10's body is given, and what it leaves. -/
def pre10 (c : Dev nD) : sProp 𝕄 := iprop((P4 K).opened E4 9 c ∗ levAts (L 11) lv ∗ (P4 K).srcPts fullShare c ∗ (bigSep Finset.univ fun q => (P4 K).slAny q c))
@[inherit_doc pre10] def post10 (c : Dev nD) : sProp 𝕄 := iprop(bar4 c ∗ (P4 K).zeros c ∗ (P4 K).srcPts fullShare c ∗ (bigSep Finset.univ fun q => (P4 K).slPts q c))

def dat10 (c : Dev nD) : Dat τ (Elt F) ℕ ℕ UU ℕ cfg10 c where
  A w := w.elim0
  after w := w.elim0
  Φ t := ends t iprop(Pipeline.scopedRest cfg10.spec c ∗ (∃ r, prngReg c r) ∗ pre10 K c)
    iprop(Pipeline.scopedRest cfg10.spec c ∗ (∃ r, prngReg c r) ∗ post10 K c)
  q w := w.elim0
  owed t := ends t (O4 K c) (O5 c)

theorem Φ10_first (c : Dev nD) : (dat10 K c).Φ 0 = iprop(Pipeline.scopedRest cfg10.spec c ∗ (∃ r, prngReg c r) ∗ pre10 K c) := by dsimp only [dat10]; exact ends_first _ _
theorem Φ10_last (c : Dev nD) : (dat10 K c).Φ (Fin.last _) = iprop(Pipeline.scopedRest cfg10.spec c ∗ (∃ r, prngReg c r) ∗ post10 K c) := by dsimp only [dat10]; exact ends_last N_10 _ _
theorem owed10_first (c : Dev nD) : (dat10 K c).owed 0 = O4 K c := by dsimp only [dat10]; exact ends_first _ _
theorem owed10_last (c : Dev nD) : (dat10 K c).owed (Fin.last _) = O5 c := by dsimp only [dat10]; exact ends_last N_10 _ _

theorem obl10 (c : Dev nD) : BodyObligation (dat10 K c) (defs₀ (F := F)) Variants.none 0 Set.univ := fun t => by
  obtain rfl := fin_N10 t
  rw [no_windows, no_windows]
  rw [show (dat10 K c).Φ t10_0.castSucc = _ from Φ10_first K c, show (dat10 K c).Φ t10_0.succ = _ from Φ10_last K c]
  rw [show defs₀ (F := F) .tc cfg10.body (cfg10.bodyArgs t10_0 (cfg10.slots t10_0)) = _ from body10_eq K.X4 t10_0]
  iintro ⟨⟨Hs, Hp, HΦ⟩, HO, -⟩
  ihave HO' := (owes_out (dat10 K c) t10_0.castSucc (O4 K c) (owed10_first K c)) $$ HO
  icases HO' with ⟨%W, HO⟩
  iapply ((P4 K).run E4 (defs₀ (F := F)) Variants.none routes_all (Memref.isWhole_whole _).wordExact row10_words rowW10_words (fun _ => rfl) (fun _ => ⟨Or.inl rfl, trivial⟩) (fun _ _ _ => ⟨⟨rfl, Or.inl rfl⟩, trivial⟩)
      (k := 9) (by decide) (by decide) above5 c W _)
  isplitl [HΦ HO]
  · unfold pre10 Push.Site.pre
    icases HΦ with ⟨H0, H1, H2, H3⟩
    isplitl [H0]; · iexact H0
    isplitl [H1]; · iexact H1
    isplitl [H2]; · iexact H2
    isplitl [H3]; · iexact H3
    rw [addL_eq]
    iexact HO
  unfold Push.Site.post
  iintro ⟨G0, G1, G2, G3, %W', HO⟩
  isplitr [HO]
  · isplitl [Hs]; · iexact Hs
    isplitl [Hp]; · iexact Hp
    unfold post10
    isplitl [G0]; · iapply (bar4_of K c); iexact G0
    isplitl [G1]; · iexact G1
    isplitl [G2]; · iexact G2
    iexact G3
  isplitl [HO]
  · iapply (owes_in (dat10 K c) t10_0.succ (O5 c) (owed10_last K c) W' rfl); iexact HO
  · iempintro

/-! ## Launch 1, which only orders -/

def dat1 (c : Dev nD) : Dat τ (Elt F) ℕ ℕ UU ℕ cfg1 c where
  A w := w.elim0
  after w := w.elim0
  Φ _ := Pipeline.scopedRest cfg1.spec c
  q w := w.elim0
  owed _ := O1 K c

theorem obl1 (c : Dev nD) : BodyObligation (dat1 K c) (defs₀ (F := F)) Variants.none 0 Set.univ := fun t => by
  obtain rfl := fin_N1 t
  rw [no_windows, no_windows]
  rw [show defs₀ (F := F) .tc cfg1.body (cfg1.bodyArgs t1_0 (cfg1.slots t1_0)) = .ret ⟨⟩ from rfl, wp_ret,
    show (dat1 K c).Φ t1_0.castSucc = Pipeline.scopedRest cfg1.spec c from rfl, show (dat1 K c).Φ t1_0.succ = Pipeline.scopedRest cfg1.spec c from rfl,
    show (dat1 K c).owesAt 0 t1_0.succ = (dat1 K c).owesAt 0 t1_0.castSucc from rfl]
  iintro ⟨Hs, HO, -⟩
  imodintro
  isplitl [Hs]; · iexact Hs
  isplitl [HO]; · iexact HO
  iempintro

/-! ## Launch 3, which only orders -/

def dat3 (c : Dev nD) : Dat τ (Elt F) ℕ ℕ UU ℕ cfg3 c where
  A w := w.elim0
  after w := w.elim0
  Φ _ := Pipeline.scopedRest cfg3.spec c
  q w := w.elim0
  owed _ := O2 K c

theorem obl3 (c : Dev nD) : BodyObligation (dat3 K c) (defs₀ (F := F)) Variants.none 0 Set.univ := fun t => by
  obtain rfl := fin_N3 t
  rw [no_windows, no_windows]
  rw [show defs₀ (F := F) .tc cfg3.body (cfg3.bodyArgs t3_0 (cfg3.slots t3_0)) = .ret ⟨⟩ from rfl, wp_ret,
    show (dat3 K c).Φ t3_0.castSucc = Pipeline.scopedRest cfg3.spec c from rfl, show (dat3 K c).Φ t3_0.succ = Pipeline.scopedRest cfg3.spec c from rfl,
    show (dat3 K c).owesAt 0 t3_0.succ = (dat3 K c).owesAt 0 t3_0.castSucc from rfl]
  iintro ⟨Hs, HO, -⟩
  imodintro
  isplitl [Hs]; · iexact Hs
  isplitl [HO]; · iexact HO
  iempintro

/-! ## Launch 5, which only orders -/

def dat5 (c : Dev nD) : Dat τ (Elt F) ℕ ℕ UU ℕ cfg5 c where
  A w := w.elim0
  after w := w.elim0
  Φ _ := Pipeline.scopedRest cfg5.spec c
  q w := w.elim0
  owed _ := O3 K c

theorem obl5 (c : Dev nD) : BodyObligation (dat5 K c) (defs₀ (F := F)) Variants.none 0 Set.univ := fun t => by
  obtain rfl := fin_N5 t
  rw [no_windows, no_windows]
  rw [show defs₀ (F := F) .tc cfg5.body (cfg5.bodyArgs t5_0 (cfg5.slots t5_0)) = .ret ⟨⟩ from rfl, wp_ret,
    show (dat5 K c).Φ t5_0.castSucc = Pipeline.scopedRest cfg5.spec c from rfl, show (dat5 K c).Φ t5_0.succ = Pipeline.scopedRest cfg5.spec c from rfl,
    show (dat5 K c).owesAt 0 t5_0.succ = (dat5 K c).owesAt 0 t5_0.castSucc from rfl]
  iintro ⟨Hs, HO, -⟩
  imodintro
  isplitl [Hs]; · iexact Hs
  isplitl [HO]; · iexact HO
  iempintro

/-! ## Launch 6, which only orders -/

def dat6 (c : Dev nD) : Dat τ (Elt F) ℕ ℕ UU ℕ cfg6 c where
  A w := w.elim0
  after w := w.elim0
  Φ _ := Pipeline.scopedRest cfg6.spec c
  q w := w.elim0
  owed _ := O3 K c

theorem obl6 (c : Dev nD) : BodyObligation (dat6 K c) (defs₀ (F := F)) Variants.none 0 Set.univ := fun t => by
  obtain rfl := fin_N6 t
  rw [no_windows, no_windows]
  rw [show defs₀ (F := F) .tc cfg6.body (cfg6.bodyArgs t6_0 (cfg6.slots t6_0)) = .ret ⟨⟩ from rfl, wp_ret,
    show (dat6 K c).Φ t6_0.castSucc = Pipeline.scopedRest cfg6.spec c from rfl, show (dat6 K c).Φ t6_0.succ = Pipeline.scopedRest cfg6.spec c from rfl,
    show (dat6 K c).owesAt 0 t6_0.succ = (dat6 K c).owesAt 0 t6_0.castSucc from rfl]
  iintro ⟨Hs, HO, -⟩
  imodintro
  isplitl [Hs]; · iexact Hs
  isplitl [HO]; · iexact HO
  iempintro

/-! ## Launch 9, which only orders -/

def dat9 (c : Dev nD) : Dat τ (Elt F) ℕ ℕ UU ℕ cfg9 c where
  A w := w.elim0
  after w := w.elim0
  Φ _ := Pipeline.scopedRest cfg9.spec c
  q w := w.elim0
  owed _ := O4 K c

theorem obl9 (c : Dev nD) : BodyObligation (dat9 K c) (defs₀ (F := F)) Variants.none 0 Set.univ := fun t => by
  obtain rfl := fin_N9 t
  rw [no_windows, no_windows]
  rw [show defs₀ (F := F) .tc cfg9.body (cfg9.bodyArgs t9_0 (cfg9.slots t9_0)) = .ret ⟨⟩ from rfl, wp_ret,
    show (dat9 K c).Φ t9_0.castSucc = Pipeline.scopedRest cfg9.spec c from rfl, show (dat9 K c).Φ t9_0.succ = Pipeline.scopedRest cfg9.spec c from rfl,
    show (dat9 K c).owesAt 0 t9_0.succ = (dat9 K c).owesAt 0 t9_0.castSucc from rfl]
  iintro ⟨Hs, HO, -⟩
  imodintro
  isplitl [Hs]; · iexact Hs
  isplitl [HO]; · iexact HO
  iempintro

end Cert.KernelIdeal.Talk

end
-- ==== Proof.KernelIdeal.Wide.lean ====
/-
  The two launches that stage their operands through windows: the copy of the gathered maxima (one point, whole arrays)
  and the widening of the gathered quantised rows (sixteen points, 256 rows each). Each body loads its input block and
  stores one function of it, so each output array ends at that function of the whole input array.
-/
module

public import proofs.«01_k».proof.Proof.KernelIdeal.Plan
public import Idealize.ShloMosaic.Lib.VecWindow
public import Idealize.ShloMosaic.Lib.Pipeline.FrameBody
public import Idealize.ShloMosaic.Lib.Pipeline.ValueKit

@[expose] public section

set_option Elab.async false
set_option maxRecDepth 4000

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig ℕ (Elt F) ℕ UU ℕ

/-! ## A load, a function, a store, at whole blocks -/

section Map

variable {S : Shape} {e e' : EltTy}

/-- A view's own sizes at offset nowhere past its ends: index for index. -/
theorem unit_full_emb {off : Fin S.rank → ℕ} (inb : ∀ a, off a + S.size a ≤ S.size a) (y : S.Idx) : (Rect.unit off S.size inb).emb y = y := by
  funext a
  refine Fin.ext ?_
  rw [Rect.emb_apply]
  show off a + 1 * (y a).val = (y a).val
  have := inb a
  omega

theorem read_store_full (v : View sig .tc .vmem S e) (f : v.ty.Contents (Elt F)) {off : Fin S.rank → ℕ} (inb : ∀ a, off a + S.size a ≤ S.size a) (w : S.Idx → Elt F e) :
    v.read (Elt F) ((v.slice (Rect.unit off S.size inb)).write (Elt F) f w Finset.univ) = w := by
  funext y
  have h : v.emb y = (v.slice (Rect.unit off S.size inb)).emb y := congrArg v.emb (unit_full_emb inb y).symm
  rw [View.read_apply, h, View.write_emb_of_mem _ _ (Finset.mem_univ _), cast_cast, cast_eq]

/-- Load the whole of one block, load the other without looking at it, store a function of the first over the second. -/
theorem map_run (defs : Defs nD τ sig (Elt F) Λ₀) (c : Dev nD) (M0 : Memref sig .tc .vmem S e) (M1 : Memref sig .tc .vmem S e') (g : (S.Idx → Elt F e) → (S.Idx → Elt F e'))
    {off : Fin S.rank → ℕ} (inb : ∀ a, off a + S.size a ≤ S.size a)
    (h0 : M0.view.LoadsAt (Rect.unit off S.size inb).toLoadRect) (h1 : M1.view.LoadsAt (Rect.unit off S.size inb).toLoadRect)
    (hs : (M1.access (Rect.unit off S.size inb)).Stores Finset.univ)
    (hm : (Finset.univ : Finset (Rect.unit off S.size inb).shape.Idx) = Finset.univ ∨ ∀ a, (Rect.unit off S.size inb).stride a = 1)
    (X : S.Idx → Elt F e) (Q : PUnit → sProp 𝕄) :
    iprop(owns (c : Thread nD τ) M0 fullShare X ∗ (∃ d, owns (c : Thread nD τ) M1 fullShare d)
        ∗ (iprop(owns (c : Thread nD τ) M0 fullShare X ∗ owns (c : Thread nD τ) M1 fullShare (g X)) -∗ Q ⟨⟩))
      ⊢ wp frame (wpE defs Variants.none (c : Thread nD τ) none) Set.univ
          (.op (.load M0 (Rect.unit off S.size inb).toLoadRect h0) fun x =>
            .op (.load M1 (Rect.unit off S.size inb).toLoadRect h1) fun _ =>
              .op (.store M1 (Rect.unit off S.size inb) (g x) Finset.univ hs hm) fun _ => .ret ⟨⟩) Q := by
  unfold owns
  iintro ⟨⟨%f0, %e0, H0⟩, ⟨%d, %f1, %e1, H1⟩, Hk⟩
  iapply (wp_load (defs := defs) Variants.none (c : Thread nD τ) none Set.univ (Γ := [])
    (m := M0) (r := (Rect.unit off S.size inb).toLoadRect) (hl := h0) (View.setOn_subset_set _ _)) $$ H0
  iintro H0
  rw [View.readAt_full, e0]
  iapply (wp_load (defs := defs) Variants.none (c : Thread nD τ) none Set.univ (Γ := [])
    (m := M1) (r := (Rect.unit off S.size inb).toLoadRect) (hl := h1) (View.setOn_subset_set _ _)) $$ H1
  iintro H1
  iapply (wp_store (defs := defs) Variants.none (c : Thread nD τ) none Set.univ (Γ := [])
    (m := M1) (r := Rect.unit off S.size inb) (hx := hs) (hm := hm) (by
      rw [View.setOn_univ]; exact View.set_slice_subset _ _)) $$ H1
  iintro H1
  rw [wp_ret]
  imodintro
  iapply Hk
  isplitl [H0]
  · iexists f0
    isplitr; · ipureintro; exact e0
    iexact H0
  · iexists _
    isplitr; swap; · iexact H1
    ipureintro
    exact read_store_full M1.view f1 inb (g X)

end Map

variable (K : Contents F)

/-- The function the copy's body stores, and the widening's. -/
def copy8 (x : S4x8x128.Idx → Elt F .f32) : S4x8x128.Idx → Elt F .f32 := shapeCast S4x8x128 x shapeCasts_S4x8x128_S4x8x128
@[inherit_doc copy8] def wide11 (x : S256x8192.Idx → Elt F .fp8e4m3) : S256x8192.Idx → Elt F .f32 :=
  extf .f32 (shapeCast S256x8192 x shapeCasts_S256x8192_S256x8192 : FVec F S256x8192 .fp8e4m3) bitsLt_fp8e4m3_f32

/-! ## The copy -/

/-- The block of the operand staged at a point. -/
def blk8 (c : Dev nD) (t : Fin cfg8.N) : S4x8x128.Idx → Elt F .f32 :=
  ((cfg8.win 0).blk t).view.read (Elt F) (Rows.stack K.X3)

def dat8 (c : Dev nD) : Dat τ (Elt F) ℕ ℕ UU ℕ cfg8 c where
  A w := match w with
    | ⟨0, _⟩ => Rows.stack K.X3
    | ⟨1, _⟩ => K.Y8 c
  after w t := match w with
    | ⟨0, _⟩ => blk8 K c t
    | ⟨1, _⟩ => copy8 (blk8 K c t)
  Φ _ := Pipeline.scopedRest cfg8.spec c
  q _ := fullShare
  owed _ := O4 K c

theorem before8 (c : Dev nD) (t : Fin cfg8.N) (d : (cfg8.win 0).block.Idx → Elt F (cfg8.win 0).elt) : (dat8 K c).before 0 t d = blk8 K c t := by
  unfold Dat.before
  rw [if_pos (fetch8_0 t)]
  rfl

theorem obl8 (c : Dev nD) : BodyObligation (dat8 K c) (defs₀ (F := F)) Variants.none 0 Set.univ := fun t => by
  rw [bigSep_W8, bigSep_W8]
  rw [show (dat8 K c).Φ t.castSucc = Pipeline.scopedRest cfg8.spec c from rfl, show (dat8 K c).Φ t.succ = Pipeline.scopedRest cfg8.spec c from rfl,
    show (dat8 K c).owesAt 0 t.succ = (dat8 K c).owesAt 0 t.castSucc from rfl]
  show _ ⊢ wp frame _ _ _ fun _ => iprop(Pipeline.scopedRest cfg8.spec c ∗ (dat8 K c).owesAt 0 t.castSucc
    ∗ owns (c : Thread nD τ) (st8_0 t) fullShare (blk8 K c t) ∗ owns (c : Thread nD τ) (st8_1 t) fullShare (copy8 (blk8 K c t)))
  iintro ⟨HΦ, HO, ⟨%d0, H0⟩, ⟨%d1, H1⟩⟩
  rw [before8]
  iapply (map_run (defs₀ (F := F)) c (st8_0 t) (st8_1 t) copy8
    inb_S4x8x128_S4x8x128_0_0_0 _ _ _ _ (blk8 K c t) _)
  isplitl [H0]; · iexact H0
  isplitl [H1]; · iexists _; iexact H1
  iintro ⟨H0, H1⟩
  isplitl [HΦ]; · iexact HΦ
  isplitl [HO]; · iexact HO
  isplitl [H0]; · iexact H0
  iexact H1

/-! ## The widening -/

/-- The block of the operand staged at a point. -/
def blk11 (c : Dev nD) (t : Fin cfg11.N) : S256x8192.Idx → Elt F .fp8e4m3 :=
  ((cfg11.win 0).blk t).view.read (Elt F) (K.X11 c)

def dat11 (c : Dev nD) : Dat τ (Elt F) ℕ ℕ UU ℕ cfg11 c where
  A w := match w with
    | ⟨0, _⟩ => K.X11 c
    | ⟨1, _⟩ => K.Y11 c
  after w t := match w with
    | ⟨0, _⟩ => blk11 K c t
    | ⟨1, _⟩ => wide11 (blk11 K c t)
  Φ _ := Pipeline.scopedRest cfg11.spec c
  q _ := fullShare
  owed _ := O5 c

theorem before11 (c : Dev nD) (t : Fin cfg11.N) (d : (cfg11.win 0).block.Idx → Elt F (cfg11.win 0).elt) : (dat11 K c).before 0 t d = blk11 K c t := by
  unfold Dat.before
  rw [if_pos (fetch11_0 t)]
  rfl

theorem obl11 (c : Dev nD) : BodyObligation (dat11 K c) (defs₀ (F := F)) Variants.none 0 Set.univ := fun t => by
  rw [bigSep_W11, bigSep_W11]
  rw [show (dat11 K c).Φ t.castSucc = Pipeline.scopedRest cfg11.spec c from rfl, show (dat11 K c).Φ t.succ = Pipeline.scopedRest cfg11.spec c from rfl,
    show (dat11 K c).owesAt 0 t.succ = (dat11 K c).owesAt 0 t.castSucc from rfl]
  show _ ⊢ wp frame _ _ _ fun _ => iprop(Pipeline.scopedRest cfg11.spec c ∗ (dat11 K c).owesAt 0 t.castSucc
    ∗ owns (c : Thread nD τ) (st11_0 t) fullShare (blk11 K c t) ∗ owns (c : Thread nD τ) (st11_1 t) fullShare (wide11 (blk11 K c t)))
  iintro ⟨HΦ, HO, ⟨%d0, H0⟩, ⟨%d1, H1⟩⟩
  rw [before11]
  iapply (map_run (defs₀ (F := F)) c (st11_0 t) (st11_1 t) wide11
    inb_S256x8192_S256x8192_0_0 _ _ _ _ (blk11 K c t) _)
  isplitl [H0]; · iexact H0
  isplitl [H1]; · iexists _; iexact H1
  iintro ⟨H0, H1⟩
  isplitl [HΦ]; · iexact HΦ
  isplitl [HO]; · iexact HO
  isplitl [H0]; · iexact H0
  iexact H1

theorem final8_in (c : Dev nD) : (dat8 K c).arrAt 0 cfg8.N = Rows.stack K.X3 := (dat8 K c).arrAt_in 0 rfl _
theorem final8 (c : Dev nD) : (dat8 K c).arrAt 1 cfg8.N = Rows.stack K.X3 := by
  refine (dat8 K c).arrAt_eq_of_covers 1 _ (by decide +kernel) fun t hf y => ?_
  blk_simp
  show copy8 (blk8 K c t) y = _
  unfold copy8
  rw [shapeCast_self]
  unfold blk8
  blk_simp
  rfl

theorem final11_in (c : Dev nD) : (dat11 K c).arrAt 0 cfg11.N = K.X11 c := (dat11 K c).arrAt_in 0 rfl _
theorem final11 (c : Dev nD) : (dat11 K c).arrAt 1 cfg11.N = (extf .f32 (K.X11 c : FVec F S4096x8192 .fp8e4m3) bitsLt_fp8e4m3_f32 : S4096x8192.Idx → Elt F .f32) := by
  refine (dat11 K c).arrAt_eq_of_covers 1 _ (by decide +kernel) fun t hf y => ?_
  blk_simp
  show wide11 (blk11 K c t) y = _
  unfold wide11
  rw [shapeCast_self]
  unfold blk11
  rfl

end Cert.KernelIdeal.Talk

end
-- ==== Proof.KernelIdeal.Regs.lean ====
/-
  The twelve launches as records of the region kit: each is entered from all unscoped buffers at one valuation and left
  with them at another, related only through what the launch moves.
-/
module

public import proofs.«01_k».proof.Proof.KernelIdeal.Wide
public import Idealize.ShloMosaic.Lib.Pipeline.RegionTalk
public import Idealize.ShloMosaic.Lib.Pipeline.RegionArrays
public import Idealize.ShloMosaic.Lib.Ring

@[expose] public section

set_option Elab.async false
set_option maxRecDepth 4000

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SiteBlocks (L lv Above mem_L above_zero)
open Idealize.ShloMosaic.TalkSites (tallyL)
open Idealize.ShloMosaic.Pipeline (Dat BodyObligation)
open Cert.KernelIdeal Cert.KernelIdeal.Gen
open Cert.Hop (rt lt lt_rt rt_lt)

variable {F : FTy → Type} [FloatOps F]

local notation "𝕄" => MT nD τ sig ℕ (Elt F) ℕ UU ℕ

/-- The proof data of all twelve launches. -/
def pdats (K : Contents F) : (p : Fin 12) → (c : Dev nD) → Dat τ (Elt F) ℕ ℕ UU ℕ (Pipeline.pin (pcfgs (F := F)) adm p) c
  | 0 => dat0 K | 1 => dat1 K | 2 => dat2 K | 3 => dat3 K | 4 => dat4 K | 5 => dat5 K
  | 6 => dat6 K | 7 => dat7 K | 8 => dat8 K | 9 => dat9 K | 10 => dat10 K | 11 => dat11 K

local notation "ℝ𝕊" K => Pipeline.RegionSeg (pcfgs (F := F)) adm (pdats K) 0 (defs₀ (F := F)) Variants.none (L 11) lv

/-- A device's buffer held whole. -/
abbrev pt (c : Dev nD) (r : Ref sig .tc) (f : Buf (Elt F) ((c : Thread nD τ).loc r)) : sProp 𝕄 := ((c : Thread nD τ).loc r) ↦{fullShare} f

theorem held2 (c : Dev nD) (W : Valuation τ sig (Elt F)) (r₁ r₂ : Ref sig .tc) (h₁ : (r₁ : DevRef τ sig) ∉ ({(r₂ : DevRef τ sig)} : Finset (DevRef τ sig))) :
    (StableHlo.held (c : Thread nD τ) {(r₁ : DevRef τ sig), (r₂ : DevRef τ sig)} W : sProp 𝕄) = iprop(pt c r₁ (W r₁) ∗ pt c r₂ (W r₂)) := by
  unfold StableHlo.held
  rw [bigSep_insert h₁, bigSep_singleton]
  rfl

theorem held4 (c : Dev nD) (W : Valuation τ sig (Elt F)) (r₁ r₂ r₃ r₄ : Ref sig .tc)
    (h₁ : (r₁ : DevRef τ sig) ∉ ({(r₂ : DevRef τ sig), (r₃ : DevRef τ sig), (r₄ : DevRef τ sig)} : Finset (DevRef τ sig)))
    (h₂ : (r₂ : DevRef τ sig) ∉ ({(r₃ : DevRef τ sig), (r₄ : DevRef τ sig)} : Finset (DevRef τ sig)))
    (h₃ : (r₃ : DevRef τ sig) ∉ ({(r₄ : DevRef τ sig)} : Finset (DevRef τ sig))) :
    (StableHlo.held (c : Thread nD τ) {(r₁ : DevRef τ sig), (r₂ : DevRef τ sig), (r₃ : DevRef τ sig), (r₄ : DevRef τ sig)} W : sProp 𝕄)
      = iprop(pt c r₁ (W r₁) ∗ pt c r₂ (W r₂) ∗ pt c r₃ (W r₃) ∗ pt c r₄ (W r₄)) := by
  unfold StableHlo.held
  rw [bigSep_insert h₁, bigSep_insert h₂, bigSep_insert h₃, bigSep_singleton]
  rfl

/-- Two valuations that agree off a list of buffers agree on the rest of the unscoped ones. -/
theorem agree_off {l : List (Ref sig .tc)} {W W' : Valuation τ sig (Elt F)} (h : ∀ r : Ref sig .tc, r ∉ l → W' r = W r)
    (b : DevRef τ sig) (hb : b ∈ Pipeline.ucRefs τ sig) (hl : ∀ r ∈ l, b ≠ (r : DevRef τ sig)) : W' b = W b := by
  obtain ⟨r, -, rfl⟩ := Finset.mem_map.mp (Finset.mem_filter.mp hb).1
  exact h r fun hr => hl r hr rfl

/-- Index sets told apart by the leading coordinate are disjoint, and together everything. -/
theorem lead_disj {a b : ℕ} (q q' : Fin 4) (h : q ≠ q') : Disjoint (Finset.univ.filter fun i : (⟨3, ![4, a, b]⟩ : Shape).Idx => (i 0).val = q.val)
    (Finset.univ.filter fun i : (⟨3, ![4, a, b]⟩ : Shape).Idx => (i 0).val = q'.val) :=
  Finset.disjoint_left.mpr fun _ hi hi' => h (Fin.ext ((Finset.mem_filter.mp hi).2.symm.trans (Finset.mem_filter.mp hi').2))
theorem lead_cover {a b : ℕ} : (Finset.univ.biUnion fun q : Fin 4 => Finset.univ.filter fun i : (⟨3, ![4, a, b]⟩ : Shape).Idx => (i 0).val = q.val) = Finset.univ :=
  Finset.eq_univ_of_forall fun i => Finset.mem_biUnion.mpr ⟨(i 0 : Fin 4), Finset.mem_univ _, Finset.mem_filter.mpr ⟨Finset.mem_univ _, rfl⟩⟩

theorem kit (p : Fin 12) : (Pipeline.LaunchFacts (nD := nD) (τ := τ) cfgs p) → Pipeline.PLaunchFacts (nD := nD) (τ := τ) (pcfgs (F := F)) p := fun h => h.toP

theorem no_arrs (p : Fin 12) (h : Pipeline.arrRefs (τ := τ) (pcfgs (F := F) p).spec = ∅) (c : Dev nD) (W : Valuation τ sig (Elt F)) :
    (StableHlo.held (c : Thread nD τ) (Pipeline.arrRefs (τ := τ) (pcfgs (F := F) p).spec) W : sProp 𝕄) = BI.emp := by
  rw [h]; unfold StableHlo.held; exact bigSep_empty

/-- What may be owed at the two ends of a talking launch. -/
theorem cut_ends {n b b' : ℕ} (hb : 0 < b) (hb' : 0 < b') {O O' : Dev nD → CellTallies nD τ sig ℕ} (h : Above 11 b O) (h' : Above 11 b' O') (c : Dev nD) (t : Fin (n + 1))
    (g : GSem nD τ sig) (i : ℕ) (hi : 0 < (ends t (O c) (O' c)) g i) : i ∈ L 11 g ∧ 0 < lv g i := by
  unfold ends at hi
  split at hi
  · exact h.cut hb c g i hi
  · exact h'.cut hb' c g i hi

variable (K : Contents F)

/-! ## Launch 0 -/

theorem arrs0 : Pipeline.arrRefs (τ := τ) (pcfgs (F := F) 0).spec = ∅ := by
  unfold Pipeline.arrRefs
  rw [Finset.map_eq_empty, Finset.image_eq_empty]
  exact Finset.univ_eq_empty_iff.mpr (inferInstanceAs (IsEmpty (Fin 0)))

abbrev Hs0 : Finset (DevRef τ sig) := {(main_v11 : DevRef τ sig), (main_v15 : DevRef τ sig), (main_v16_0 : DevRef τ sig), (main_v16_1 : DevRef τ sig)}
theorem Hs0_sub : Hs0 ⊆ Pipeline.ucRefs τ sig := by
  intro b hb
  simp only [Hs0, Finset.mem_insert, Finset.mem_singleton] at hb
  rcases hb with rfl | rfl | rfl | rfl <;> exact Pipeline.devRef_mem_ucRefs rfl

abbrev osem0 : Fin 4 → SemLoc sig := ![.dma (0 : DmaSem sig), .dma (1 : DmaSem sig), .dma (2 : DmaSem sig), .dma (3 : DmaSem sig)]
theorem osem0_facts : Pipeline.OwnSemFacts (pcfgs (F := F) 0).spec osem0 := ⟨by decide, by decide, fun _ w => w.elim0⟩
theorem own0_eq (c : Dev nD) : (Pipeline.ownSems0 osem0 c : sProp 𝕄) = iprop(semVal ((P0 K).s0C c) 0 ∗ semVal ((P0 K).s1C c) 0 ∗ semVal ((P0 K).r0C c) 0 ∗ semVal ((P0 K).r1C c) 0) := by
  unfold Pipeline.ownSems0
  rw [show (Finset.univ : Finset (Fin 4)) = {0, 1, 2, 3} from by decide, bigSep_insert (by decide), bigSep_insert (by decide), bigSep_insert (by decide), bigSep_singleton]
  rfl

theorem aPts0 (c : Dev nD) : ((P0 K).aPts c : sProp 𝕄) = pt c main_v11 (K.A0 c) := by
  unfold Hop.Site.aPts
  rw [show ((P0 K).a.view.set) = Finset.univ from View.set_whole _]
  rfl
theorem bPts0 (c : Dev nD) : ((P0 K).bPts c : sProp 𝕄) = pt c main_v15 (K.B0 c) := by
  unfold Hop.Site.bPts
  rw [show ((P0 K).b.view.set) = Finset.univ from View.set_whole _]
  rfl
theorem oaPts0 (c : Dev nD) : ((P0 K).oaPts c : sProp 𝕄) = pt c main_v16_0 (K.A0 (lt c)) := by
  unfold Hop.Site.oaPts
  rw [show ((P0 K).oa.view.set) = Finset.univ from View.set_whole _]
  rfl
theorem obPts0 (c : Dev nD) : ((P0 K).obPts c : sProp 𝕄) = pt c main_v16_1 (K.B0 (rt c)) := by
  unfold Hop.Site.obPts
  rw [show ((P0 K).ob.view.set) = Finset.univ from View.set_whole _]
  rfl
theorem oaAny0 (c : Dev nD) (f : Buf (Elt F) ((c : Thread nD τ).loc main_v16_0)) : pt c main_v16_0 f ⊢ ((P0 K).oaAny c : sProp 𝕄) := by
  unfold Hop.Site.oaAny
  rw [show ((P0 K).oa.view.set) = Finset.univ from View.set_whole _]
  iintro H
  iexists f
  iexact H
theorem obAny0 (c : Dev nD) (f : Buf (Elt F) ((c : Thread nD τ).loc main_v16_1)) : pt c main_v16_1 f ⊢ ((P0 K).obAny c : sProp 𝕄) := by
  unfold Hop.Site.obAny
  rw [show ((P0 K).ob.view.set) = Finset.univ from View.set_whole _]
  iintro H
  iexists f
  iexact H

/-- How the valuations before and after launch 0 are related. -/
structure Rel0 (W W' : Dev nD → Valuation τ sig (Elt F)) : Prop where
  a : ∀ c, W c main_v11 = K.A0 c
  b : ∀ c, W c main_v15 = K.B0 c
  a' : ∀ c, W' c main_v11 = K.A0 c
  b' : ∀ c, W' c main_v15 = K.B0 c
  oa : ∀ c, W' c main_v16_0 = K.A0 (lt c)
  ob : ∀ c, W' c main_v16_1 = K.B0 (rt c)
  off : ∀ c (r : Ref sig .tc), r ∉ ([main_v11, main_v15, main_v16_0, main_v16_1] : List (Ref sig .tc)) → W' c r = W c r

theorem rest0 {W W' : Dev nD → Valuation τ sig (Elt F)} (h : Rel0 K W W') (c : Dev nD) (b : DevRef τ sig) (hb : b ∈ Pipeline.ucRefs τ sig \ Hs0) : W' c b = W c b := by
  obtain ⟨hb₁, hb₂⟩ := Finset.mem_sdiff.mp hb
  refine agree_off (h.off c) b hb₁ fun r hr e => hb₂ ?_
  simp only [List.mem_cons, List.not_mem_nil, or_false] at hr
  simp only [Hs0, Finset.mem_insert, Finset.mem_singleton]
  rcases hr with rfl | rfl | rfl | rfl
  · exact Or.inl e
  · exact Or.inr (Or.inl e)
  · exact Or.inr (Or.inr (Or.inl e))
  · exact Or.inr (Or.inr (Or.inr e))

theorem in0 {W W' : Dev nD → Valuation τ sig (Elt F)} (h : Rel0 K W W') (c : Dev nD) :
    iprop(Pipeline.scopedRest (Pipeline.pin (pcfgs (F := F)) adm 0).spec c ∗ (∃ r, prngReg c r) ∗ StableHlo.held (c : Thread nD τ) Hs0 (W c)
      ∗ ((P0 K).opened E0 1 c ∗ levAts (L 11) lv)) ⊢ (pdats K 0 c).Φ 0 := by
  rw [show (pdats K 0 c).Φ 0 = _ from Φ0_first K c, held4 c (W c) main_v11 main_v15 main_v16_0 main_v16_1 (by decide) (by decide) (by decide), h.a, h.b]
  unfold pre0
  rw [aPts0, bPts0]
  iintro ⟨Hs, Hp, ⟨Ha, Hb, Hoa, Hob⟩, Ho, Hl⟩
  isplitl [Hs]; · iexact Hs
  isplitl [Hp]; · iexact Hp
  isplitl [Ho]; · iexact Ho
  isplitl [Hl]; · iexact Hl
  isplitl [Ha]; · iexact Ha
  isplitl [Hb]; · iexact Hb
  isplitl [Hoa]; · iapply (oaAny0 K c _); iexact Hoa
  iapply (obAny0 K c _); iexact Hob

theorem out0 {W W' : Dev nD → Valuation τ sig (Elt F)} (h : Rel0 K W W') (c : Dev nD) :
    (pdats K 0 c).Φ (Fin.last (Pipeline.pin (pcfgs (F := F)) adm 0).N) ⊢ iprop(Pipeline.scopedRest (Pipeline.pin (pcfgs (F := F)) adm 0).spec c ∗ (∃ r, prngReg c r)
      ∗ StableHlo.held (c : Thread nD τ) Hs0 (W' c) ∗ Pipeline.ownSems0 osem0 c ∗ bar0 c) := by
  rw [show (pdats K 0 c).Φ (Fin.last _) = _ from Φ0_last K c, held4 c (W' c) main_v11 main_v15 main_v16_0 main_v16_1 (by decide) (by decide) (by decide), h.a', h.b', h.oa, h.ob, own0_eq K]
  unfold post0
  rw [aPts0, bPts0, oaPts0, obPts0]
  iintro ⟨Hs, Hp, Hbar, Hz, Ha, Hb, Hoa, Hob⟩
  isplitl [Hs]; · iexact Hs
  isplitl [Hp]; · iexact Hp
  isplitl [Ha Hb Hoa Hob]
  · isplitl [Ha]; · iexact Ha
    isplitl [Hb]; · iexact Hb
    isplitl [Hoa]; · iexact Hoa
    iexact Hob
  isplitl [Hz]; · iexact Hz
  iexact Hbar

theorem open0 (c : Dev nD) : iprop(rides0 K c ∗ Pipeline.ownSems0 osem0 c ∗ levAts (L 11) lv) ⊢ (|={Set.univ}=> iprop((P0 K).opened E0 1 c ∗ levAts (L 11) lv) : sProp 𝕄) := by
  rw [own0_eq K]
  unfold rides0
  iintro ⟨Hr, Hz, Hl⟩
  imod ((P0 K).enter E0 1 c) $$ [Hr Hz] with Ho
  · isplitl [Hr] <;> iassumption
  imodintro
  isplitl [Ho] <;> iassumption

set_option backward.isDefEq.respectTransparency.types false in
def reg0 {W W' : Dev nD → Valuation τ sig (Elt F)} (h : Rel0 K W W') : (ℝ𝕊 K) 0 :=
  Pipeline.RegionSeg.ofTalk (pcfgs (F := F)) adm (pdats K) 0 (defs₀ (F := F)) Variants.none (L 11) lv 0 osem0 osem0_facts
    Hs0 (Pipeline.ucRefs τ sig) Hs0_sub (kit 0 launch0) rfl (fun c => (obl0 K c).loose)
    (O1 K) (fun c => tallyL ((P0 K).dues 1 c)) (owed0_first K) (owed0_last K) (fun _ => rfl) (fun _ w => w.elim0)
    W W' (rest0 K h) (rides0 K) (bar0) (fun c => iprop((P0 K).opened E0 1 c ∗ levAts (L 11) lv)) (bar0) (open0 K) (in0 K h) (out0 K h)
    (fun c => by iintro H; imodintro; iexact H)
    (fun _ => 0) ⟨fun _ w => w.elim0, fun _ w => w.elim0, fun c t g i hi => cut_ends (n := cfg0.N) (b := 1) (b' := 3) (by decide) (by decide) (above0 K) (above1 K) c t g i hi⟩
    (fun c => iprop(rides1 K c ∗ rides2 K c ∗ rides3 K c ∗ rides4 K c)) (fun _ w => w.elim0) (fun _ w => w.elim0)

theorem reg0_pre {W W' : Dev nD → Valuation τ sig (Elt F)} (h : Rel0 K W W') (c : Dev nD) :
    iprop(StableHlo.held (c : Thread nD τ) (Pipeline.ucRefs τ sig) (W c) ∗ E K 0 c) ⊢ (reg0 K h).pre c := by
  show _ ⊢ iprop(StableHlo.held (c : Thread nD τ) (Pipeline.arrRefs (τ := τ) (pcfgs (F := F) 0).spec) (W c) ∗ (∃ r, prngReg c r)
    ∗ (StableHlo.held (c : Thread nD τ) (Pipeline.ucRefs τ sig) (W c) ∗ (rides1 K c ∗ rides2 K c ∗ rides3 K c ∗ rides4 K c)) ∗ rides0 K c ∗ ∃ Wd, owes (c : Thread nD τ) (O0 K c) Wd)
  rw [no_arrs 0 arrs0]
  show iprop(_ ∗ (∃ r, prngReg c r) ∗ St0 K c ∗ ∃ W, owes (c : Thread nD τ) (O0 K c) W) ⊢ _
  unfold St0
  iintro ⟨HH, Hp, ⟨S0, S1, S2, S3, S4⟩, HO⟩
  isplitr; · iempintro
  isplitl [Hp]; · iexact Hp
  isplitl [HH S1 S2 S3 S4]
  · isplitl [HH]; · iexact HH
    isplitl [S1]; · iexact S1
    isplitl [S2]; · iexact S2
    isplitl [S3]; · iexact S3
    iexact S4
  isplitl [S0]; · iexact S0
  iexact HO

theorem reg0_post {W W' : Dev nD → Valuation τ sig (Elt F)} (h : Rel0 K W W') (c : Dev nD) :
    (reg0 K h).post c ⊢ iprop(StableHlo.held (c : Thread nD τ) (Pipeline.ucRefs τ sig) (W' c) ∗ E K 1 c) := by
  show iprop(StableHlo.held (c : Thread nD τ) (Pipeline.arrRefs (τ := τ) (pcfgs (F := F) 0).spec) (W' c) ∗ (∃ r, prngReg c r)
    ∗ (StableHlo.held (c : Thread nD τ) (Pipeline.ucRefs τ sig) (W' c) ∗ (rides1 K c ∗ rides2 K c ∗ rides3 K c ∗ rides4 K c)) ∗ bar0 c ∗ ∃ Wd, owes (c : Thread nD τ) (O1 K c) Wd) ⊢ _
  show _ ⊢ iprop(_ ∗ (∃ r, prngReg c r) ∗ St1 K c ∗ ∃ W, owes (c : Thread nD τ) (O1 K c) W)
  unfold St1
  iintro ⟨-, Hp, ⟨HH, S1, S2, S3, S4⟩, S0, HO⟩
  isplitl [HH]; · iexact HH
  isplitl [Hp]; · iexact Hp
  isplitl [S0 S1 S2 S3 S4]
  · isplitl [S0]; · iexact S0
    isplitl [S1]; · iexact S1
    isplitl [S2]; · iexact S2
    isplitl [S3]; · iexact S3
    iexact S4
  iexact HO

/-! ## Launch 1 -/

theorem arrs1 : Pipeline.arrRefs (τ := τ) (pcfgs (F := F) 1).spec = ∅ := by
  unfold Pipeline.arrRefs
  rw [Finset.map_eq_empty, Finset.image_eq_empty]
  exact Finset.univ_eq_empty_iff.mpr (inferInstanceAs (IsEmpty (Fin 0)))

theorem idle1 (c : Dev nD) (t : Fin (cfg1.N + 1)) :
    iprop(Pipeline.scopedRest (Pipeline.pin (pcfgs (F := F)) adm 1).spec c ∗ BI.emp) ⊣⊢ ((dat1 K c).Φ t : sProp 𝕄) := by
  dsimp only [dat1]
  exact Laws.sep_emp

set_option backward.isDefEq.respectTransparency.types false in
def reg1 (W : Dev nD → Valuation τ sig (Elt F)) : (ℝ𝕊 K) 1 :=
  Pipeline.RegionSeg.ofHeld (pcfgs (F := F)) adm (pdats K) 0 (defs₀ (F := F)) Variants.none (L 11) lv 1
    (O1 K) (fun _ => BI.emp) (fun _ => BI.emp) (kit 1 launch1) rfl (fun c => (obl1 K c).loose)
    (fun _ _ => rfl) (fun _ => rfl) (fun _ w => w.elim0) (fun c => (idle1 K c 0).1)
    (fun c => (idle1 K c (Fin.last _)).2)
    (fun _ => 0) ((above1 K).levelCut (pcfgs (F := F)) adm 1 (by decide) (by decide))
    (fun c => iprop(StableHlo.held (c : Thread nD τ) (Pipeline.ucRefs τ sig) (W c) ∗ (∃ r, prngReg c r) ∗ St1 K c))
    W W (fun _ w => w.elim0) (fun _ w => w.elim0)

theorem reg1_pre (W : Dev nD → Valuation τ sig (Elt F)) (c : Dev nD) :
    iprop(StableHlo.held (c : Thread nD τ) (Pipeline.ucRefs τ sig) (W c) ∗ E K 1 c) ⊢ (reg1 K W).pre c := by
  show _ ⊢ iprop(StableHlo.held (c : Thread nD τ) (Pipeline.arrRefs (τ := τ) (pcfgs (F := F) 1).spec) (W c) ∗ BI.emp
    ∗ (StableHlo.held (c : Thread nD τ) (Pipeline.ucRefs τ sig) (W c) ∗ (∃ r, prngReg c r) ∗ St1 K c) ∗ ∃ Wd, owes (c : Thread nD τ) (O1 K c) Wd)
  rw [no_arrs 1 arrs1]
  show iprop(_ ∗ (∃ r, prngReg c r) ∗ St1 K c ∗ ∃ W, owes (c : Thread nD τ) (O1 K c) W) ⊢ _
  iintro ⟨HH, Hp, HS, HO⟩
  isplitr; · iempintro
  isplitr; · iempintro
  isplitl [HH Hp HS]
  · isplitl [HH]; · iexact HH
    isplitl [Hp]; · iexact Hp
    iexact HS
  iexact HO

theorem reg1_post (W : Dev nD → Valuation τ sig (Elt F)) (c : Dev nD) :
    (reg1 K W).post c ⊢ iprop(StableHlo.held (c : Thread nD τ) (Pipeline.ucRefs τ sig) (W c) ∗ E K 2 c) := by
  show iprop(StableHlo.held (c : Thread nD τ) (Pipeline.arrRefs (τ := τ) (pcfgs (F := F) 1).spec) (W c) ∗ BI.emp
    ∗ (StableHlo.held (c : Thread nD τ) (Pipeline.ucRefs τ sig) (W c) ∗ (∃ r, prngReg c r) ∗ St1 K c) ∗ ∃ Wd, owes (c : Thread nD τ) (O1 K c) Wd) ⊢ _
  show _ ⊢ iprop(_ ∗ (∃ r, prngReg c r) ∗ St1 K c ∗ ∃ W, owes (c : Thread nD τ) (O1 K c) W)
  iintro ⟨-, -, ⟨HH, Hp, HS⟩, HO⟩
  isplitl [HH]; · iexact HH
  isplitl [Hp]; · iexact Hp
  isplitl [HS]; · iexact HS
  iexact HO

/-! ## Launch 2 -/

theorem arrs2 : Pipeline.arrRefs (τ := τ) (pcfgs (F := F) 2).spec = ∅ := by
  unfold Pipeline.arrRefs
  rw [Finset.map_eq_empty, Finset.image_eq_empty]
  exact Finset.univ_eq_empty_iff.mpr (inferInstanceAs (IsEmpty (Fin 0)))

abbrev Hs2 : Finset (DevRef τ sig) := {(main_v29_0 : DevRef τ sig), (main_v29_1 : DevRef τ sig), (main_v30_0 : DevRef τ sig), (main_v30_1 : DevRef τ sig)}
theorem Hs2_sub : Hs2 ⊆ Pipeline.ucRefs τ sig := by
  intro b hb
  simp only [Hs2, Finset.mem_insert, Finset.mem_singleton] at hb
  rcases hb with rfl | rfl | rfl | rfl <;> exact Pipeline.devRef_mem_ucRefs rfl

abbrev osem2 : Fin 4 → SemLoc sig := ![.dma (4 : DmaSem sig), .dma (5 : DmaSem sig), .dma (6 : DmaSem sig), .dma (7 : DmaSem sig)]
theorem osem2_facts : Pipeline.OwnSemFacts (pcfgs (F := F) 2).spec osem2 := ⟨by decide, by decide, fun _ w => w.elim0⟩
theorem own2_eq (c : Dev nD) : (Pipeline.ownSems0 osem2 c : sProp 𝕄) = iprop(semVal ((P1 K).s0C c) 0 ∗ semVal ((P1 K).s1C c) 0 ∗ semVal ((P1 K).r0C c) 0 ∗ semVal ((P1 K).r1C c) 0) := by
  unfold Pipeline.ownSems0
  rw [show (Finset.univ : Finset (Fin 4)) = {0, 1, 2, 3} from by decide, bigSep_insert (by decide), bigSep_insert (by decide), bigSep_insert (by decide), bigSep_singleton]
  rfl

theorem aPts2 (c : Dev nD) : ((P1 K).aPts c : sProp 𝕄) = pt c main_v29_0 (K.A1 c) := by
  unfold Hop.Site.aPts
  rw [show ((P1 K).a.view.set) = Finset.univ from View.set_whole _]
  rfl
theorem bPts2 (c : Dev nD) : ((P1 K).bPts c : sProp 𝕄) = pt c main_v29_1 (K.B1 c) := by
  unfold Hop.Site.bPts
  rw [show ((P1 K).b.view.set) = Finset.univ from View.set_whole _]
  rfl
theorem oaPts2 (c : Dev nD) : ((P1 K).oaPts c : sProp 𝕄) = pt c main_v30_0 (K.A1 (lt c)) := by
  unfold Hop.Site.oaPts
  rw [show ((P1 K).oa.view.set) = Finset.univ from View.set_whole _]
  rfl
theorem obPts2 (c : Dev nD) : ((P1 K).obPts c : sProp 𝕄) = pt c main_v30_1 (K.B1 (rt c)) := by
  unfold Hop.Site.obPts
  rw [show ((P1 K).ob.view.set) = Finset.univ from View.set_whole _]
  rfl
theorem oaAny2 (c : Dev nD) (f : Buf (Elt F) ((c : Thread nD τ).loc main_v30_0)) : pt c main_v30_0 f ⊢ ((P1 K).oaAny c : sProp 𝕄) := by
  unfold Hop.Site.oaAny
  rw [show ((P1 K).oa.view.set) = Finset.univ from View.set_whole _]
  iintro H
  iexists f
  iexact H
theorem obAny2 (c : Dev nD) (f : Buf (Elt F) ((c : Thread nD τ).loc main_v30_1)) : pt c main_v30_1 f ⊢ ((P1 K).obAny c : sProp 𝕄) := by
  unfold Hop.Site.obAny
  rw [show ((P1 K).ob.view.set) = Finset.univ from View.set_whole _]
  iintro H
  iexists f
  iexact H

/-- How the valuations before and after launch 2 are related. -/
structure Rel2 (W W' : Dev nD → Valuation τ sig (Elt F)) : Prop where
  a : ∀ c, W c main_v29_0 = K.A1 c
  b : ∀ c, W c main_v29_1 = K.B1 c
  a' : ∀ c, W' c main_v29_0 = K.A1 c
  b' : ∀ c, W' c main_v29_1 = K.B1 c
  oa : ∀ c, W' c main_v30_0 = K.A1 (lt c)
  ob : ∀ c, W' c main_v30_1 = K.B1 (rt c)
  off : ∀ c (r : Ref sig .tc), r ∉ ([main_v29_0, main_v29_1, main_v30_0, main_v30_1] : List (Ref sig .tc)) → W' c r = W c r

theorem rest2 {W W' : Dev nD → Valuation τ sig (Elt F)} (h : Rel2 K W W') (c : Dev nD) (b : DevRef τ sig) (hb : b ∈ Pipeline.ucRefs τ sig \ Hs2) : W' c b = W c b := by
  obtain ⟨hb₁, hb₂⟩ := Finset.mem_sdiff.mp hb
  refine agree_off (h.off c) b hb₁ fun r hr e => hb₂ ?_
  simp only [List.mem_cons, List.not_mem_nil, or_false] at hr
  simp only [Hs2, Finset.mem_insert, Finset.mem_singleton]
  rcases hr with rfl | rfl | rfl | rfl
  · exact Or.inl e
  · exact Or.inr (Or.inl e)
  · exact Or.inr (Or.inr (Or.inl e))
  · exact Or.inr (Or.inr (Or.inr e))

theorem in2 {W W' : Dev nD → Valuation τ sig (Elt F)} (h : Rel2 K W W') (c : Dev nD) :
    iprop(Pipeline.scopedRest (Pipeline.pin (pcfgs (F := F)) adm 2).spec c ∗ (∃ r, prngReg c r) ∗ StableHlo.held (c : Thread nD τ) Hs2 (W c)
      ∗ ((P1 K).opened E1 3 c ∗ levAts (L 11) lv)) ⊢ (pdats K 2 c).Φ 0 := by
  rw [show (pdats K 2 c).Φ 0 = _ from Φ2_first K c, held4 c (W c) main_v29_0 main_v29_1 main_v30_0 main_v30_1 (by decide) (by decide) (by decide), h.a, h.b]
  unfold pre2
  rw [aPts2, bPts2]
  iintro ⟨Hs, Hp, ⟨Ha, Hb, Hoa, Hob⟩, Ho, Hl⟩
  isplitl [Hs]; · iexact Hs
  isplitl [Hp]; · iexact Hp
  isplitl [Ho]; · iexact Ho
  isplitl [Hl]; · iexact Hl
  isplitl [Ha]; · iexact Ha
  isplitl [Hb]; · iexact Hb
  isplitl [Hoa]; · iapply (oaAny2 K c _); iexact Hoa
  iapply (obAny2 K c _); iexact Hob

theorem out2 {W W' : Dev nD → Valuation τ sig (Elt F)} (h : Rel2 K W W') (c : Dev nD) :
    (pdats K 2 c).Φ (Fin.last (Pipeline.pin (pcfgs (F := F)) adm 2).N) ⊢ iprop(Pipeline.scopedRest (Pipeline.pin (pcfgs (F := F)) adm 2).spec c ∗ (∃ r, prngReg c r)
      ∗ StableHlo.held (c : Thread nD τ) Hs2 (W' c) ∗ Pipeline.ownSems0 osem2 c ∗ bar1 c) := by
  rw [show (pdats K 2 c).Φ (Fin.last _) = _ from Φ2_last K c, held4 c (W' c) main_v29_0 main_v29_1 main_v30_0 main_v30_1 (by decide) (by decide) (by decide), h.a', h.b', h.oa, h.ob, own2_eq K]
  unfold post2
  rw [aPts2, bPts2, oaPts2, obPts2]
  iintro ⟨Hs, Hp, Hbar, Hz, Ha, Hb, Hoa, Hob⟩
  isplitl [Hs]; · iexact Hs
  isplitl [Hp]; · iexact Hp
  isplitl [Ha Hb Hoa Hob]
  · isplitl [Ha]; · iexact Ha
    isplitl [Hb]; · iexact Hb
    isplitl [Hoa]; · iexact Hoa
    iexact Hob
  isplitl [Hz]; · iexact Hz
  iexact Hbar

theorem open2 (c : Dev nD) : iprop(rides1 K c ∗ Pipeline.ownSems0 osem2 c ∗ levAts (L 11) lv) ⊢ (|={Set.univ}=> iprop((P1 K).opened E1 3 c ∗ levAts (L 11) lv) : sProp 𝕄) := by
  rw [own2_eq K]
  unfold rides1
  iintro ⟨Hr, Hz, Hl⟩
  imod ((P1 K).enter E1 3 c) $$ [Hr Hz] with Ho
  · isplitl [Hr] <;> iassumption
  imodintro
  isplitl [Ho] <;> iassumption

set_option backward.isDefEq.respectTransparency.types false in
def reg2 {W W' : Dev nD → Valuation τ sig (Elt F)} (h : Rel2 K W W') : (ℝ𝕊 K) 2 :=
  Pipeline.RegionSeg.ofTalk (pcfgs (F := F)) adm (pdats K) 0 (defs₀ (F := F)) Variants.none (L 11) lv 2 osem2 osem2_facts
    Hs2 (Pipeline.ucRefs τ sig) Hs2_sub (kit 2 launch2) rfl (fun c => (obl2 K c).loose)
    (O2 K) (fun c => tallyL ((P1 K).dues 3 c)) (owed2_first K) (owed2_last K) (fun _ => rfl) (fun _ w => w.elim0)
    W W' (rest2 K h) (rides1 K) (bar1) (fun c => iprop((P1 K).opened E1 3 c ∗ levAts (L 11) lv)) (bar1) (open2 K) (in2 K h) (out2 K h)
    (fun c => by iintro H; imodintro; iexact H)
    (fun _ => 0) ⟨fun _ w => w.elim0, fun _ w => w.elim0, fun c t g i hi => cut_ends (n := cfg2.N) (b := 3) (b' := 5) (by decide) (by decide) (above1 K) (above2 K) c t g i hi⟩
    (fun c => iprop(bar0 c ∗ rides2 K c ∗ rides3 K c ∗ rides4 K c)) (fun _ w => w.elim0) (fun _ w => w.elim0)

theorem reg2_pre {W W' : Dev nD → Valuation τ sig (Elt F)} (h : Rel2 K W W') (c : Dev nD) :
    iprop(StableHlo.held (c : Thread nD τ) (Pipeline.ucRefs τ sig) (W c) ∗ E K 2 c) ⊢ (reg2 K h).pre c := by
  show _ ⊢ iprop(StableHlo.held (c : Thread nD τ) (Pipeline.arrRefs (τ := τ) (pcfgs (F := F) 2).spec) (W c) ∗ (∃ r, prngReg c r)
    ∗ (StableHlo.held (c : Thread nD τ) (Pipeline.ucRefs τ sig) (W c) ∗ (bar0 c ∗ rides2 K c ∗ rides3 K c ∗ rides4 K c)) ∗ rides1 K c ∗ ∃ Wd, owes (c : Thread nD τ) (O1 K c) Wd)
  rw [no_arrs 2 arrs2]
  show iprop(_ ∗ (∃ r, prngReg c r) ∗ St1 K c ∗ ∃ W, owes (c : Thread nD τ) (O1 K c) W) ⊢ _
  unfold St1
  iintro ⟨HH, Hp, ⟨S0, S1, S2, S3, S4⟩, HO⟩
  isplitr; · iempintro
  isplitl [Hp]; · iexact Hp
  isplitl [HH S0 S2 S3 S4]
  · isplitl [HH]; · iexact HH
    isplitl [S0]; · iexact S0
    isplitl [S2]; · iexact S2
    isplitl [S3]; · iexact S3
    iexact S4
  isplitl [S1]; · iexact S1
  iexact HO

theorem reg2_post {W W' : Dev nD → Valuation τ sig (Elt F)} (h : Rel2 K W W') (c : Dev nD) :
    (reg2 K h).post c ⊢ iprop(StableHlo.held (c : Thread nD τ) (Pipeline.ucRefs τ sig) (W' c) ∗ E K 3 c) := by
  show iprop(StableHlo.held (c : Thread nD τ) (Pipeline.arrRefs (τ := τ) (pcfgs (F := F) 2).spec) (W' c) ∗ (∃ r, prngReg c r)
    ∗ (StableHlo.held (c : Thread nD τ) (Pipeline.ucRefs τ sig) (W' c) ∗ (bar0 c ∗ rides2 K c ∗ rides3 K c ∗ rides4 K c)) ∗ bar1 c ∗ ∃ Wd, owes (c : Thread nD τ) (O2 K c) Wd) ⊢ _
  show _ ⊢ iprop(_ ∗ (∃ r, prngReg c r) ∗ St2 K c ∗ ∃ W, owes (c : Thread nD τ) (O2 K c) W)
  unfold St2
  iintro ⟨-, Hp, ⟨HH, S0, S2, S3, S4⟩, S1, HO⟩
  isplitl [HH]; · iexact HH
  isplitl [Hp]; · iexact Hp
  isplitl [S0 S1 S2 S3 S4]
  · isplitl [S0]; · iexact S0
    isplitl [S1]; · iexact S1
    isplitl [S2]; · iexact S2
    isplitl [S3]; · iexact S3
    iexact S4
  iexact HO

/-! ## Launch 3 -/

theorem arrs3 : Pipeline.arrRefs (τ := τ) (pcfgs (F := F) 3).spec = ∅ := by
  unfold Pipeline.arrRefs
  rw [Finset.map_eq_empty, Finset.image_eq_empty]
  exact Finset.univ_eq_empty_iff.mpr (inferInstanceAs (IsEmpty (Fin 0)))

theorem idle3 (c : Dev nD) (t : Fin (cfg3.N + 1)) :
    iprop(Pipeline.scopedRest (Pipeline.pin (pcfgs (F := F)) adm 3).spec c ∗ BI.emp) ⊣⊢ ((dat3 K c).Φ t : sProp 𝕄) := by
  dsimp only [dat3]
  exact Laws.sep_emp

set_option backward.isDefEq.respectTransparency.types false in
def reg3 (W : Dev nD → Valuation τ sig (Elt F)) : (ℝ𝕊 K) 3 :=
  Pipeline.RegionSeg.ofHeld (pcfgs (F := F)) adm (pdats K) 0 (defs₀ (F := F)) Variants.none (L 11) lv 3
    (O2 K) (fun _ => BI.emp) (fun _ => BI.emp) (kit 3 launch3) rfl (fun c => (obl3 K c).loose)
    (fun _ _ => rfl) (fun _ => rfl) (fun _ w => w.elim0) (fun c => (idle3 K c 0).1)
    (fun c => (idle3 K c (Fin.last _)).2)
    (fun _ => 0) ((above2 K).levelCut (pcfgs (F := F)) adm 3 (by decide) (by decide))
    (fun c => iprop(StableHlo.held (c : Thread nD τ) (Pipeline.ucRefs τ sig) (W c) ∗ (∃ r, prngReg c r) ∗ St2 K c))
    W W (fun _ w => w.elim0) (fun _ w => w.elim0)

theorem reg3_pre (W : Dev nD → Valuation τ sig (Elt F)) (c : Dev nD) :
    iprop(StableHlo.held (c : Thread nD τ) (Pipeline.ucRefs τ sig) (W c) ∗ E K 3 c) ⊢ (reg3 K W).pre c := by
  show _ ⊢ iprop(StableHlo.held (c : Thread nD τ) (Pipeline.arrRefs (τ := τ) (pcfgs (F := F) 3).spec) (W c) ∗ BI.emp
    ∗ (StableHlo.held (c : Thread nD τ) (Pipeline.ucRefs τ sig) (W c) ∗ (∃ r, prngReg c r) ∗ St2 K c) ∗ ∃ Wd, owes (c : Thread nD τ) (O2 K c) Wd)
  rw [no_arrs 3 arrs3]
  show iprop(_ ∗ (∃ r, prngReg c r) ∗ St2 K c ∗ ∃ W, owes (c : Thread nD τ) (O2 K c) W) ⊢ _
  iintro ⟨HH, Hp, HS, HO⟩
  isplitr; · iempintro
  isplitr; · iempintro
  isplitl [HH Hp HS]
  · isplitl [HH]; · iexact HH
    isplitl [Hp]; · iexact Hp
    iexact HS
  iexact HO

theorem reg3_post (W : Dev nD → Valuation τ sig (Elt F)) (c : Dev nD) :
    (reg3 K W).post c ⊢ iprop(StableHlo.held (c : Thread nD τ) (Pipeline.ucRefs τ sig) (W c) ∗ E K 4 c) := by
  show iprop(StableHlo.held (c : Thread nD τ) (Pipeline.arrRefs (τ := τ) (pcfgs (F := F) 3).spec) (W c) ∗ BI.emp
    ∗ (StableHlo.held (c : Thread nD τ) (Pipeline.ucRefs τ sig) (W c) ∗ (∃ r, prngReg c r) ∗ St2 K c) ∗ ∃ Wd, owes (c : Thread nD τ) (O2 K c) Wd) ⊢ _
  show _ ⊢ iprop(_ ∗ (∃ r, prngReg c r) ∗ St2 K c ∗ ∃ W, owes (c : Thread nD τ) (O2 K c) W)
  iintro ⟨-, -, ⟨HH, Hp, HS⟩, HO⟩
  isplitl [HH]; · iexact HH
  isplitl [Hp]; · iexact Hp
  isplitl [HS]; · iexact HS
  iexact HO

/-! ## Launch 4 -/

theorem arrs4 : Pipeline.arrRefs (τ := τ) (pcfgs (F := F) 4).spec = ∅ := by
  unfold Pipeline.arrRefs
  rw [Finset.map_eq_empty, Finset.image_eq_empty]
  exact Finset.univ_eq_empty_iff.mpr (inferInstanceAs (IsEmpty (Fin 0)))

abbrev Hs4 : Finset (DevRef τ sig) := {(main_v43_0 : DevRef τ sig), (main_v43_1 : DevRef τ sig), (main_v44_0 : DevRef τ sig), (main_v44_1 : DevRef τ sig)}
theorem Hs4_sub : Hs4 ⊆ Pipeline.ucRefs τ sig := by
  intro b hb
  simp only [Hs4, Finset.mem_insert, Finset.mem_singleton] at hb
  rcases hb with rfl | rfl | rfl | rfl <;> exact Pipeline.devRef_mem_ucRefs rfl

abbrev osem4 : Fin 4 → SemLoc sig := ![.dma (8 : DmaSem sig), .dma (9 : DmaSem sig), .dma (10 : DmaSem sig), .dma (11 : DmaSem sig)]
theorem osem4_facts : Pipeline.OwnSemFacts (pcfgs (F := F) 4).spec osem4 := ⟨by decide, by decide, fun _ w => w.elim0⟩
theorem own4_eq (c : Dev nD) : (Pipeline.ownSems0 osem4 c : sProp 𝕄) = iprop(semVal ((P2 K).s0C c) 0 ∗ semVal ((P2 K).s1C c) 0 ∗ semVal ((P2 K).r0C c) 0 ∗ semVal ((P2 K).r1C c) 0) := by
  unfold Pipeline.ownSems0
  rw [show (Finset.univ : Finset (Fin 4)) = {0, 1, 2, 3} from by decide, bigSep_insert (by decide), bigSep_insert (by decide), bigSep_insert (by decide), bigSep_singleton]
  rfl

theorem aPts4 (c : Dev nD) : ((P2 K).aPts c : sProp 𝕄) = pt c main_v43_0 (K.A2 c) := by
  unfold Hop.Site.aPts
  rw [show ((P2 K).a.view.set) = Finset.univ from View.set_whole _]
  rfl
theorem bPts4 (c : Dev nD) : ((P2 K).bPts c : sProp 𝕄) = pt c main_v43_1 (K.B2 c) := by
  unfold Hop.Site.bPts
  rw [show ((P2 K).b.view.set) = Finset.univ from View.set_whole _]
  rfl
theorem oaPts4 (c : Dev nD) : ((P2 K).oaPts c : sProp 𝕄) = pt c main_v44_0 (K.A2 (lt c)) := by
  unfold Hop.Site.oaPts
  rw [show ((P2 K).oa.view.set) = Finset.univ from View.set_whole _]
  rfl
theorem obPts4 (c : Dev nD) : ((P2 K).obPts c : sProp 𝕄) = pt c main_v44_1 (K.B2 (rt c)) := by
  unfold Hop.Site.obPts
  rw [show ((P2 K).ob.view.set) = Finset.univ from View.set_whole _]
  rfl
theorem oaAny4 (c : Dev nD) (f : Buf (Elt F) ((c : Thread nD τ).loc main_v44_0)) : pt c main_v44_0 f ⊢ ((P2 K).oaAny c : sProp 𝕄) := by
  unfold Hop.Site.oaAny
  rw [show ((P2 K).oa.view.set) = Finset.univ from View.set_whole _]
  iintro H
  iexists f
  iexact H
theorem obAny4 (c : Dev nD) (f : Buf (Elt F) ((c : Thread nD τ).loc main_v44_1)) : pt c main_v44_1 f ⊢ ((P2 K).obAny c : sProp 𝕄) := by
  unfold Hop.Site.obAny
  rw [show ((P2 K).ob.view.set) = Finset.univ from View.set_whole _]
  iintro H
  iexists f
  iexact H

/-- How the valuations before and after launch 4 are related. -/
structure Rel4 (W W' : Dev nD → Valuation τ sig (Elt F)) : Prop where
  a : ∀ c, W c main_v43_0 = K.A2 c
  b : ∀ c, W c main_v43_1 = K.B2 c
  a' : ∀ c, W' c main_v43_0 = K.A2 c
  b' : ∀ c, W' c main_v43_1 = K.B2 c
  oa : ∀ c, W' c main_v44_0 = K.A2 (lt c)
  ob : ∀ c, W' c main_v44_1 = K.B2 (rt c)
  off : ∀ c (r : Ref sig .tc), r ∉ ([main_v43_0, main_v43_1, main_v44_0, main_v44_1] : List (Ref sig .tc)) → W' c r = W c r

theorem rest4 {W W' : Dev nD → Valuation τ sig (Elt F)} (h : Rel4 K W W') (c : Dev nD) (b : DevRef τ sig) (hb : b ∈ Pipeline.ucRefs τ sig \ Hs4) : W' c b = W c b := by
  obtain ⟨hb₁, hb₂⟩ := Finset.mem_sdiff.mp hb
  refine agree_off (h.off c) b hb₁ fun r hr e => hb₂ ?_
  simp only [List.mem_cons, List.not_mem_nil, or_false] at hr
  simp only [Hs4, Finset.mem_insert, Finset.mem_singleton]
  rcases hr with rfl | rfl | rfl | rfl
  · exact Or.inl e
  · exact Or.inr (Or.inl e)
  · exact Or.inr (Or.inr (Or.inl e))
  · exact Or.inr (Or.inr (Or.inr e))

theorem in4 {W W' : Dev nD → Valuation τ sig (Elt F)} (h : Rel4 K W W') (c : Dev nD) :
    iprop(Pipeline.scopedRest (Pipeline.pin (pcfgs (F := F)) adm 4).spec c ∗ (∃ r, prngReg c r) ∗ StableHlo.held (c : Thread nD τ) Hs4 (W c)
      ∗ ((P2 K).opened E2 5 c ∗ levAts (L 11) lv)) ⊢ (pdats K 4 c).Φ 0 := by
  rw [show (pdats K 4 c).Φ 0 = _ from Φ4_first K c, held4 c (W c) main_v43_0 main_v43_1 main_v44_0 main_v44_1 (by decide) (by decide) (by decide), h.a, h.b]
  unfold pre4
  rw [aPts4, bPts4]
  iintro ⟨Hs, Hp, ⟨Ha, Hb, Hoa, Hob⟩, Ho, Hl⟩
  isplitl [Hs]; · iexact Hs
  isplitl [Hp]; · iexact Hp
  isplitl [Ho]; · iexact Ho
  isplitl [Hl]; · iexact Hl
  isplitl [Ha]; · iexact Ha
  isplitl [Hb]; · iexact Hb
  isplitl [Hoa]; · iapply (oaAny4 K c _); iexact Hoa
  iapply (obAny4 K c _); iexact Hob

theorem out4 {W W' : Dev nD → Valuation τ sig (Elt F)} (h : Rel4 K W W') (c : Dev nD) :
    (pdats K 4 c).Φ (Fin.last (Pipeline.pin (pcfgs (F := F)) adm 4).N) ⊢ iprop(Pipeline.scopedRest (Pipeline.pin (pcfgs (F := F)) adm 4).spec c ∗ (∃ r, prngReg c r)
      ∗ StableHlo.held (c : Thread nD τ) Hs4 (W' c) ∗ Pipeline.ownSems0 osem4 c ∗ bar2 c) := by
  rw [show (pdats K 4 c).Φ (Fin.last _) = _ from Φ4_last K c, held4 c (W' c) main_v43_0 main_v43_1 main_v44_0 main_v44_1 (by decide) (by decide) (by decide), h.a', h.b', h.oa, h.ob, own4_eq K]
  unfold post4
  rw [aPts4, bPts4, oaPts4, obPts4]
  iintro ⟨Hs, Hp, Hbar, Hz, Ha, Hb, Hoa, Hob⟩
  isplitl [Hs]; · iexact Hs
  isplitl [Hp]; · iexact Hp
  isplitl [Ha Hb Hoa Hob]
  · isplitl [Ha]; · iexact Ha
    isplitl [Hb]; · iexact Hb
    isplitl [Hoa]; · iexact Hoa
    iexact Hob
  isplitl [Hz]; · iexact Hz
  iexact Hbar

theorem open4 (c : Dev nD) : iprop(rides2 K c ∗ Pipeline.ownSems0 osem4 c ∗ levAts (L 11) lv) ⊢ (|={Set.univ}=> iprop((P2 K).opened E2 5 c ∗ levAts (L 11) lv) : sProp 𝕄) := by
  rw [own4_eq K]
  unfold rides2
  iintro ⟨Hr, Hz, Hl⟩
  imod ((P2 K).enter E2 5 c) $$ [Hr Hz] with Ho
  · isplitl [Hr] <;> iassumption
  imodintro
  isplitl [Ho] <;> iassumption

set_option backward.isDefEq.respectTransparency.types false in
def reg4 {W W' : Dev nD → Valuation τ sig (Elt F)} (h : Rel4 K W W') : (ℝ𝕊 K) 4 :=
  Pipeline.RegionSeg.ofTalk (pcfgs (F := F)) adm (pdats K) 0 (defs₀ (F := F)) Variants.none (L 11) lv 4 osem4 osem4_facts
    Hs4 (Pipeline.ucRefs τ sig) Hs4_sub (kit 4 launch4) rfl (fun c => (obl4 K c).loose)
    (O3 K) (fun c => tallyL ((P2 K).dues 5 c)) (owed4_first K) (owed4_last K) (fun _ => rfl) (fun _ w => w.elim0)
    W W' (rest4 K h) (rides2 K) (bar2) (fun c => iprop((P2 K).opened E2 5 c ∗ levAts (L 11) lv)) (bar2) (open4 K) (in4 K h) (out4 K h)
    (fun c => by iintro H; imodintro; iexact H)
    (fun _ => 0) ⟨fun _ w => w.elim0, fun _ w => w.elim0, fun c t g i hi => cut_ends (n := cfg4.N) (b := 5) (b' := 7) (by decide) (by decide) (above2 K) (above3 K) c t g i hi⟩
    (fun c => iprop(bar0 c ∗ bar1 c ∗ rides3 K c ∗ rides4 K c)) (fun _ w => w.elim0) (fun _ w => w.elim0)

theorem reg4_pre {W W' : Dev nD → Valuation τ sig (Elt F)} (h : Rel4 K W W') (c : Dev nD) :
    iprop(StableHlo.held (c : Thread nD τ) (Pipeline.ucRefs τ sig) (W c) ∗ E K 4 c) ⊢ (reg4 K h).pre c := by
  show _ ⊢ iprop(StableHlo.held (c : Thread nD τ) (Pipeline.arrRefs (τ := τ) (pcfgs (F := F) 4).spec) (W c) ∗ (∃ r, prngReg c r)
    ∗ (StableHlo.held (c : Thread nD τ) (Pipeline.ucRefs τ sig) (W c) ∗ (bar0 c ∗ bar1 c ∗ rides3 K c ∗ rides4 K c)) ∗ rides2 K c ∗ ∃ Wd, owes (c : Thread nD τ) (O2 K c) Wd)
  rw [no_arrs 4 arrs4]
  show iprop(_ ∗ (∃ r, prngReg c r) ∗ St2 K c ∗ ∃ W, owes (c : Thread nD τ) (O2 K c) W) ⊢ _
  unfold St2
  iintro ⟨HH, Hp, ⟨S0, S1, S2, S3, S4⟩, HO⟩
  isplitr; · iempintro
  isplitl [Hp]; · iexact Hp
  isplitl [HH S0 S1 S3 S4]
  · isplitl [HH]; · iexact HH
    isplitl [S0]; · iexact S0
    isplitl [S1]; · iexact S1
    isplitl [S3]; · iexact S3
    iexact S4
  isplitl [S2]; · iexact S2
  iexact HO

theorem reg4_post {W W' : Dev nD → Valuation τ sig (Elt F)} (h : Rel4 K W W') (c : Dev nD) :
    (reg4 K h).post c ⊢ iprop(StableHlo.held (c : Thread nD τ) (Pipeline.ucRefs τ sig) (W' c) ∗ E K 5 c) := by
  show iprop(StableHlo.held (c : Thread nD τ) (Pipeline.arrRefs (τ := τ) (pcfgs (F := F) 4).spec) (W' c) ∗ (∃ r, prngReg c r)
    ∗ (StableHlo.held (c : Thread nD τ) (Pipeline.ucRefs τ sig) (W' c) ∗ (bar0 c ∗ bar1 c ∗ rides3 K c ∗ rides4 K c)) ∗ bar2 c ∗ ∃ Wd, owes (c : Thread nD τ) (O3 K c) Wd) ⊢ _
  show _ ⊢ iprop(_ ∗ (∃ r, prngReg c r) ∗ St3 K c ∗ ∃ W, owes (c : Thread nD τ) (O3 K c) W)
  unfold St3
  iintro ⟨-, Hp, ⟨HH, S0, S1, S3, S4⟩, S2, HO⟩
  isplitl [HH]; · iexact HH
  isplitl [Hp]; · iexact Hp
  isplitl [S0 S1 S2 S3 S4]
  · isplitl [S0]; · iexact S0
    isplitl [S1]; · iexact S1
    isplitl [S2]; · iexact S2
    isplitl [S3]; · iexact S3
    iexact S4
  iexact HO

/-! ## Launch 5 -/

theorem arrs5 : Pipeline.arrRefs (τ := τ) (pcfgs (F := F) 5).spec = ∅ := by
  unfold Pipeline.arrRefs
  rw [Finset.map_eq_empty, Finset.image_eq_empty]
  exact Finset.univ_eq_empty_iff.mpr (inferInstanceAs (IsEmpty (Fin 0)))

theorem idle5 (c : Dev nD) (t : Fin (cfg5.N + 1)) :
    iprop(Pipeline.scopedRest (Pipeline.pin (pcfgs (F := F)) adm 5).spec c ∗ BI.emp) ⊣⊢ ((dat5 K c).Φ t : sProp 𝕄) := by
  dsimp only [dat5]
  exact Laws.sep_emp

set_option backward.isDefEq.respectTransparency.types false in
def reg5 (W : Dev nD → Valuation τ sig (Elt F)) : (ℝ𝕊 K) 5 :=
  Pipeline.RegionSeg.ofHeld (pcfgs (F := F)) adm (pdats K) 0 (defs₀ (F := F)) Variants.none (L 11) lv 5
    (O3 K) (fun _ => BI.emp) (fun _ => BI.emp) (kit 5 launch5) rfl (fun c => (obl5 K c).loose)
    (fun _ _ => rfl) (fun _ => rfl) (fun _ w => w.elim0) (fun c => (idle5 K c 0).1)
    (fun c => (idle5 K c (Fin.last _)).2)
    (fun _ => 0) ((above3 K).levelCut (pcfgs (F := F)) adm 5 (by decide) (by decide))
    (fun c => iprop(StableHlo.held (c : Thread nD τ) (Pipeline.ucRefs τ sig) (W c) ∗ (∃ r, prngReg c r) ∗ St3 K c))
    W W (fun _ w => w.elim0) (fun _ w => w.elim0)

theorem reg5_pre (W : Dev nD → Valuation τ sig (Elt F)) (c : Dev nD) :
    iprop(StableHlo.held (c : Thread nD τ) (Pipeline.ucRefs τ sig) (W c) ∗ E K 5 c) ⊢ (reg5 K W).pre c := by
  show _ ⊢ iprop(StableHlo.held (c : Thread nD τ) (Pipeline.arrRefs (τ := τ) (pcfgs (F := F) 5).spec) (W c) ∗ BI.emp
    ∗ (StableHlo.held (c : Thread nD τ) (Pipeline.ucRefs τ sig) (W c) ∗ (∃ r, prngReg c r) ∗ St3 K c) ∗ ∃ Wd, owes (c : Thread nD τ) (O3 K c) Wd)
  rw [no_arrs 5 arrs5]
  show iprop(_ ∗ (∃ r, prngReg c r) ∗ St3 K c ∗ ∃ W, owes (c : Thread nD τ) (O3 K c) W) ⊢ _
  iintro ⟨HH, Hp, HS, HO⟩
  isplitr; · iempintro
  isplitr; · iempintro
  isplitl [HH Hp HS]
  · isplitl [HH]; · iexact HH
    isplitl [Hp]; · iexact Hp
    iexact HS
  iexact HO

theorem reg5_post (W : Dev nD → Valuation τ sig (Elt F)) (c : Dev nD) :
    (reg5 K W).post c ⊢ iprop(StableHlo.held (c : Thread nD τ) (Pipeline.ucRefs τ sig) (W c) ∗ E K 6 c) := by
  show iprop(StableHlo.held (c : Thread nD τ) (Pipeline.arrRefs (τ := τ) (pcfgs (F := F) 5).spec) (W c) ∗ BI.emp
    ∗ (StableHlo.held (c : Thread nD τ) (Pipeline.ucRefs τ sig) (W c) ∗ (∃ r, prngReg c r) ∗ St3 K c) ∗ ∃ Wd, owes (c : Thread nD τ) (O3 K c) Wd) ⊢ _
  show _ ⊢ iprop(_ ∗ (∃ r, prngReg c r) ∗ St3 K c ∗ ∃ W, owes (c : Thread nD τ) (O3 K c) W)
  iintro ⟨-, -, ⟨HH, Hp, HS⟩, HO⟩
  isplitl [HH]; · iexact HH
  isplitl [Hp]; · iexact Hp
  isplitl [HS]; · iexact HS
  iexact HO

/-! ## Launch 6 -/

theorem arrs6 : Pipeline.arrRefs (τ := τ) (pcfgs (F := F) 6).spec = ∅ := by
  unfold Pipeline.arrRefs
  rw [Finset.map_eq_empty, Finset.image_eq_empty]
  exact Finset.univ_eq_empty_iff.mpr (inferInstanceAs (IsEmpty (Fin 0)))

theorem idle6 (c : Dev nD) (t : Fin (cfg6.N + 1)) :
    iprop(Pipeline.scopedRest (Pipeline.pin (pcfgs (F := F)) adm 6).spec c ∗ BI.emp) ⊣⊢ ((dat6 K c).Φ t : sProp 𝕄) := by
  dsimp only [dat6]
  exact Laws.sep_emp

set_option backward.isDefEq.respectTransparency.types false in
def reg6 (W : Dev nD → Valuation τ sig (Elt F)) : (ℝ𝕊 K) 6 :=
  Pipeline.RegionSeg.ofHeld (pcfgs (F := F)) adm (pdats K) 0 (defs₀ (F := F)) Variants.none (L 11) lv 6
    (O3 K) (fun _ => BI.emp) (fun _ => BI.emp) (kit 6 launch6) rfl (fun c => (obl6 K c).loose)
    (fun _ _ => rfl) (fun _ => rfl) (fun _ w => w.elim0) (fun c => (idle6 K c 0).1)
    (fun c => (idle6 K c (Fin.last _)).2)
    (fun _ => 0) ((above3 K).levelCut (pcfgs (F := F)) adm 6 (by decide) (by decide))
    (fun c => iprop(StableHlo.held (c : Thread nD τ) (Pipeline.ucRefs τ sig) (W c) ∗ (∃ r, prngReg c r) ∗ St3 K c))
    W W (fun _ w => w.elim0) (fun _ w => w.elim0)

theorem reg6_pre (W : Dev nD → Valuation τ sig (Elt F)) (c : Dev nD) :
    iprop(StableHlo.held (c : Thread nD τ) (Pipeline.ucRefs τ sig) (W c) ∗ E K 6 c) ⊢ (reg6 K W).pre c := by
  show _ ⊢ iprop(StableHlo.held (c : Thread nD τ) (Pipeline.arrRefs (τ := τ) (pcfgs (F := F) 6).spec) (W c) ∗ BI.emp
    ∗ (StableHlo.held (c : Thread nD τ) (Pipeline.ucRefs τ sig) (W c) ∗ (∃ r, prngReg c r) ∗ St3 K c) ∗ ∃ Wd, owes (c : Thread nD τ) (O3 K c) Wd)
  rw [no_arrs 6 arrs6]
  show iprop(_ ∗ (∃ r, prngReg c r) ∗ St3 K c ∗ ∃ W, owes (c : Thread nD τ) (O3 K c) W) ⊢ _
  iintro ⟨HH, Hp, HS, HO⟩
  isplitr; · iempintro
  isplitr; · iempintro
  isplitl [HH Hp HS]
  · isplitl [HH]; · iexact HH
    isplitl [Hp]; · iexact Hp
    iexact HS
  iexact HO

theorem reg6_post (W : Dev nD → Valuation τ sig (Elt F)) (c : Dev nD) :
    (reg6 K W).post c ⊢ iprop(StableHlo.held (c : Thread nD τ) (Pipeline.ucRefs τ sig) (W c) ∗ E K 7 c) := by
  show iprop(StableHlo.held (c : Thread nD τ) (Pipeline.arrRefs (τ := τ) (pcfgs (F := F) 6).spec) (W c) ∗ BI.emp
    ∗ (StableHlo.held (c : Thread nD τ) (Pipeline.ucRefs τ sig) (W c) ∗ (∃ r, prngReg c r) ∗ St3 K c) ∗ ∃ Wd, owes (c : Thread nD τ) (O3 K c) Wd) ⊢ _
  show _ ⊢ iprop(_ ∗ (∃ r, prngReg c r) ∗ St3 K c ∗ ∃ W, owes (c : Thread nD τ) (O3 K c) W)
  iintro ⟨-, -, ⟨HH, Hp, HS⟩, HO⟩
  isplitl [HH]; · iexact HH
  isplitl [Hp]; · iexact Hp
  isplitl [HS]; · iexact HS
  iexact HO

/-! ## Launch 7 -/

theorem arrs7 : Pipeline.arrRefs (τ := τ) (pcfgs (F := F) 7).spec = ∅ := by
  unfold Pipeline.arrRefs
  rw [Finset.map_eq_empty, Finset.image_eq_empty]
  exact Finset.univ_eq_empty_iff.mpr (inferInstanceAs (IsEmpty (Fin 0)))

abbrev Hs7 : Finset (DevRef τ sig) := {(main_v64 : DevRef τ sig), (main_v65 : DevRef τ sig)}
theorem Hs7_sub : Hs7 ⊆ Pipeline.ucRefs τ sig := by
  intro b hb
  simp only [Hs7, Finset.mem_insert, Finset.mem_singleton] at hb
  rcases hb with rfl | rfl <;> exact Pipeline.devRef_mem_ucRefs rfl

abbrev osem7 : Fin 7 → SemLoc sig := ![.dma (18 : DmaSem sig), .dma (12 : DmaSem sig), .dma (13 : DmaSem sig), .dma (14 : DmaSem sig), .dma (15 : DmaSem sig), .dma (16 : DmaSem sig), .dma (17 : DmaSem sig)]
theorem osem7_facts : Pipeline.OwnSemFacts (pcfgs (F := F) 7).spec osem7 := ⟨by decide, by decide, fun _ w => w.elim0⟩
theorem own7_eq (c : Dev nD) : (Pipeline.ownSems0 osem7 c : sProp 𝕄) = (P3 K).zeros c := by
  unfold Pipeline.ownSems0 Push.Site.zeros
  rw [show (Finset.univ : Finset (Fin 7)) = {0, 1, 2, 3, 4, 5, 6} from by decide, bigSep_insert (by decide), bigSep_insert (by decide), bigSep_insert (by decide),
    bigSep_insert (by decide), bigSep_insert (by decide), bigSep_insert (by decide), bigSep_singleton]
  rfl

theorem srcPts7 (c : Dev nD) : ((P3 K).srcPts fullShare c : sProp 𝕄) = pt c main_v64 (K.X3 c) := by
  unfold Push.Site.srcPts
  rw [show ((P3 K).src.view.set) = Finset.univ from View.set_whole _]
  rfl

theorem rows7 (c : Dev nD) (f : Buf (Elt F) ((c : Thread nD τ).loc main_v65)) :
    (pt c main_v65 f : sProp 𝕄) = bigSep Finset.univ fun q : Dev 4 => ((c : Thread nD τ).loc main_v65) ↦[(row7 q).view.set]{fullShare} f := by
  refine (Ring.pointsTo_blocks (ℓ := (c : Thread nD τ).loc main_v65) (fun q : Dev 4 => (Finset.univ.filter fun i : S4x8x128.Idx => (i 0).val = q.val))
    (fun q q' h => lead_disj q q' h) lead_cover f).trans (bigSep_congr fun q _ => ?_)
  rw [row7_set]

theorem slAny7_row (c : Dev nD) (f : Buf (Elt F) ((c : Thread nD τ).loc main_v65)) (q : Dev 4) :
    (((c : Thread nD τ).loc main_v65) ↦[(row7 q).view.set]{fullShare} f : sProp 𝕄) ⊢ (P3 K).slAny q c := by
  unfold Push.Site.slAny
  iintro H
  iexists f
  iexact H

theorem slAny7 (c : Dev nD) (f : Buf (Elt F) ((c : Thread nD τ).loc main_v65)) : (pt c main_v65 f : sProp 𝕄) ⊢ bigSep Finset.univ fun q => (P3 K).slAny q c := by
  rw [rows7 c f]
  exact bigSep_mono fun q _ => slAny7_row K c f q

theorem slPts7 (c : Dev nD) : (bigSep Finset.univ fun q => (P3 K).slPts q c : sProp 𝕄) = pt c main_v65 (Rows.stack K.X3) := by
  rw [rows7 c]
  rfl

/-- How the valuations before and after launch 7 are related. -/
structure Rel7 (W W' : Dev nD → Valuation τ sig (Elt F)) : Prop where
  src : ∀ c, W c main_v64 = K.X3 c
  src' : ∀ c, W' c main_v64 = K.X3 c
  out : ∀ c, W' c main_v65 = Rows.stack K.X3
  off : ∀ c (r : Ref sig .tc), r ∉ ([main_v64, main_v65] : List (Ref sig .tc)) → W' c r = W c r

theorem rest7 {W W' : Dev nD → Valuation τ sig (Elt F)} (h : Rel7 K W W') (c : Dev nD) (b : DevRef τ sig) (hb : b ∈ Pipeline.ucRefs τ sig \ Hs7) : W' c b = W c b := by
  obtain ⟨hb₁, hb₂⟩ := Finset.mem_sdiff.mp hb
  refine agree_off (h.off c) b hb₁ fun r hr e => hb₂ ?_
  simp only [List.mem_cons, List.not_mem_nil, or_false] at hr
  simp only [Hs7, Finset.mem_insert, Finset.mem_singleton]
  rcases hr with rfl | rfl
  · exact Or.inl e
  · exact Or.inr e

theorem in7 {W W' : Dev nD → Valuation τ sig (Elt F)} (h : Rel7 K W W') (c : Dev nD) :
    iprop(Pipeline.scopedRest (Pipeline.pin (pcfgs (F := F)) adm 7).spec c ∗ (∃ r, prngReg c r) ∗ StableHlo.held (c : Thread nD τ) Hs7 (W c)
      ∗ ((P3 K).opened E3 7 c ∗ levAts (L 11) lv)) ⊢ (pdats K 7 c).Φ 0 := by
  rw [show (pdats K 7 c).Φ 0 = _ from Φ7_first K c, held2 c (W c) main_v64 main_v65 (by decide), h.src]
  unfold pre7
  rw [srcPts7]
  iintro ⟨Hs, Hp, ⟨Ha, Hb⟩, Ho, Hl⟩
  isplitl [Hs]; · iexact Hs
  isplitl [Hp]; · iexact Hp
  isplitl [Ho]; · iexact Ho
  isplitl [Hl]; · iexact Hl
  isplitl [Ha]; · iexact Ha
  iapply (slAny7 K c _); iexact Hb

theorem out7 {W W' : Dev nD → Valuation τ sig (Elt F)} (h : Rel7 K W W') (c : Dev nD) :
    (pdats K 7 c).Φ (Fin.last (Pipeline.pin (pcfgs (F := F)) adm 7).N) ⊢ iprop(Pipeline.scopedRest (Pipeline.pin (pcfgs (F := F)) adm 7).spec c ∗ (∃ r, prngReg c r)
      ∗ StableHlo.held (c : Thread nD τ) Hs7 (W' c) ∗ Pipeline.ownSems0 osem7 c ∗ bar3 c) := by
  rw [show (pdats K 7 c).Φ (Fin.last _) = _ from Φ7_last K c, held2 c (W' c) main_v64 main_v65 (by decide), h.src', h.out, own7_eq K]
  unfold post7
  rw [srcPts7, slPts7]
  iintro ⟨Hs, Hp, Hbar, Hz, Ha, Hb⟩
  isplitl [Hs]; · iexact Hs
  isplitl [Hp]; · iexact Hp
  isplitl [Ha Hb]
  · isplitl [Ha]; · iexact Ha
    iexact Hb
  isplitl [Hz]; · iexact Hz
  iexact Hbar

theorem open7 (c : Dev nD) : iprop(rides3 K c ∗ Pipeline.ownSems0 osem7 c ∗ levAts (L 11) lv) ⊢ (|={Set.univ}=> iprop((P3 K).opened E3 7 c ∗ levAts (L 11) lv) : sProp 𝕄) := by
  rw [own7_eq K]
  unfold rides3
  iintro ⟨Hr, Hz, Hl⟩
  imod ((P3 K).enter E3 7 c) $$ [Hr Hz] with Ho
  · isplitl [Hr] <;> iassumption
  imodintro
  isplitl [Ho] <;> iassumption

set_option backward.isDefEq.respectTransparency.types false in
def reg7 {W W' : Dev nD → Valuation τ sig (Elt F)} (h : Rel7 K W W') : (ℝ𝕊 K) 7 :=
  Pipeline.RegionSeg.ofTalk (pcfgs (F := F)) adm (pdats K) 0 (defs₀ (F := F)) Variants.none (L 11) lv 7 osem7 osem7_facts
    Hs7 (Pipeline.ucRefs τ sig) Hs7_sub (kit 7 launch7) rfl (fun c => (obl7 K c).loose)
    (O4 K) (fun c => tallyL ((P3 K).dues 7 c)) (owed7_first K) (owed7_last K) (fun _ => rfl) (fun _ w => w.elim0)
    W W' (rest7 K h) (rides3 K) (bar3) (fun c => iprop((P3 K).opened E3 7 c ∗ levAts (L 11) lv)) (bar3) (open7 K) (in7 K h) (out7 K h)
    (fun c => by iintro H; imodintro; iexact H)
    (fun _ => 0) ⟨fun _ w => w.elim0, fun _ w => w.elim0, fun c t g i hi => cut_ends (n := cfg7.N) (b := 7) (b' := 9) (by decide) (by decide) (above3 K) (above4 K) c t g i hi⟩
    (fun c => iprop(bar0 c ∗ bar1 c ∗ bar2 c ∗ rides4 K c)) (fun _ w => w.elim0) (fun _ w => w.elim0)

theorem reg7_pre {W W' : Dev nD → Valuation τ sig (Elt F)} (h : Rel7 K W W') (c : Dev nD) :
    iprop(StableHlo.held (c : Thread nD τ) (Pipeline.ucRefs τ sig) (W c) ∗ E K 7 c) ⊢ (reg7 K h).pre c := by
  show _ ⊢ iprop(StableHlo.held (c : Thread nD τ) (Pipeline.arrRefs (τ := τ) (pcfgs (F := F) 7).spec) (W c) ∗ (∃ r, prngReg c r)
    ∗ (StableHlo.held (c : Thread nD τ) (Pipeline.ucRefs τ sig) (W c) ∗ (bar0 c ∗ bar1 c ∗ bar2 c ∗ rides4 K c)) ∗ rides3 K c ∗ ∃ Wd, owes (c : Thread nD τ) (O3 K c) Wd)
  rw [no_arrs 7 arrs7]
  show iprop(_ ∗ (∃ r, prngReg c r) ∗ St3 K c ∗ ∃ W, owes (c : Thread nD τ) (O3 K c) W) ⊢ _
  unfold St3
  iintro ⟨HH, Hp, ⟨S0, S1, S2, S3, S4⟩, HO⟩
  isplitr; · iempintro
  isplitl [Hp]; · iexact Hp
  isplitl [HH S0 S1 S2 S4]
  · isplitl [HH]; · iexact HH
    isplitl [S0]; · iexact S0
    isplitl [S1]; · iexact S1
    isplitl [S2]; · iexact S2
    iexact S4
  isplitl [S3]; · iexact S3
  iexact HO

theorem reg7_post {W W' : Dev nD → Valuation τ sig (Elt F)} (h : Rel7 K W W') (c : Dev nD) :
    (reg7 K h).post c ⊢ iprop(StableHlo.held (c : Thread nD τ) (Pipeline.ucRefs τ sig) (W' c) ∗ E K 8 c) := by
  show iprop(StableHlo.held (c : Thread nD τ) (Pipeline.arrRefs (τ := τ) (pcfgs (F := F) 7).spec) (W' c) ∗ (∃ r, prngReg c r)
    ∗ (StableHlo.held (c : Thread nD τ) (Pipeline.ucRefs τ sig) (W' c) ∗ (bar0 c ∗ bar1 c ∗ bar2 c ∗ rides4 K c)) ∗ bar3 c ∗ ∃ Wd, owes (c : Thread nD τ) (O4 K c) Wd) ⊢ _
  show _ ⊢ iprop(_ ∗ (∃ r, prngReg c r) ∗ St4 K c ∗ ∃ W, owes (c : Thread nD τ) (O4 K c) W)
  unfold St4
  iintro ⟨-, Hp, ⟨HH, S0, S1, S2, S4⟩, S3, HO⟩
  isplitl [HH]; · iexact HH
  isplitl [Hp]; · iexact Hp
  isplitl [S0 S1 S2 S3 S4]
  · isplitl [S0]; · iexact S0
    isplitl [S1]; · iexact S1
    isplitl [S2]; · iexact S2
    isplitl [S3]; · iexact S3
    iexact S4
  iexact HO

/-! ## Launch 8 -/

theorem arrs8_sub : Pipeline.arrRefs (τ := τ) (pcfgs (F := F) 8).spec ⊆ Pipeline.ucRefs τ sig := Pipeline.arrRefs_sub_ucRefs _ fun w => by
  match w with | ⟨0, _⟩ => rfl | ⟨1, _⟩ => rfl

/-- How the valuations before and after launch 8 are related. -/
structure Rel8 (W W' : Dev nD → Valuation τ sig (Elt F)) : Prop where
  src : ∀ c, W c main_v65 = Rows.stack K.X3
  old : ∀ c, W c main_v66 = K.Y8 c
  src' : ∀ c, W' c main_v65 = Rows.stack K.X3
  out : ∀ c, W' c main_v66 = Rows.stack K.X3
  off : ∀ c (r : Ref sig .tc), r ∉ ([main_v66] : List (Ref sig .tc)) → W' c r = W c r

theorem rest8 {W W' : Dev nD → Valuation τ sig (Elt F)} (h : Rel8 K W W') (c : Dev nD) (b : DevRef τ sig)
    (hb : b ∈ Pipeline.ucRefs τ sig \ Pipeline.arrRefs (τ := τ) (pcfgs (F := F) 8).spec) : W' c b = W c b := by
  obtain ⟨hb₁, hb₂⟩ := Finset.mem_sdiff.mp hb
  refine agree_off (h.off c) b hb₁ fun r hr e => hb₂ ?_
  simp only [List.mem_cons, List.not_mem_nil, or_false] at hr
  subst hr
  rw [e]
  exact Finset.mem_map.mpr ⟨main_v66, Finset.mem_image.mpr ⟨1, Finset.mem_univ _, rfl⟩, rfl⟩

theorem idle8 (c : Dev nD) (t : Fin (cfg8.N + 1)) :
    iprop(Pipeline.scopedRest (Pipeline.pin (pcfgs (F := F)) adm 8).spec c ∗ BI.emp) ⊣⊢ ((dat8 K c).Φ t : sProp 𝕄) := by
  dsimp only [dat8]
  exact Laws.sep_emp

set_option backward.isDefEq.respectTransparency.types false in
def reg8 {W W' : Dev nD → Valuation τ sig (Elt F)} (h : Rel8 K W W') : (ℝ𝕊 K) 8 :=
  Pipeline.RegionSeg.ofHeld (pcfgs (F := F)) adm (pdats K) 0 (defs₀ (F := F)) Variants.none (L 11) lv 8
    (O4 K) (fun _ => BI.emp) (fun _ => BI.emp) (kit 8 launch8) rfl (fun c => (obl8 K c).loose)
    (fun _ _ => rfl) (fun _ => rfl) (fun c => (pdats K 8 c).share_full fun _ => rfl) (fun c => (idle8 K c 0).1)
    (fun c => (idle8 K c (Fin.last _)).2)
    (fun _ => 0) ((above4 K).levelCut (pcfgs (F := F)) adm 8 (by decide) (by decide))
    (fun c => iprop(StableHlo.held (c : Thread nD τ) (Pipeline.ucRefs τ sig \ Pipeline.arrRefs (τ := τ) (pcfgs (F := F) 8).spec) (W c) ∗ (∃ r, prngReg c r) ∗ St4 K c))
    W W' (fun c w => by match w with | ⟨0, _⟩ => exact (h.src c).symm | ⟨1, _⟩ => exact (h.old c).symm)
    (fun c w => by match w with | ⟨0, _⟩ => exact (final8_in K c).trans (h.src' c).symm | ⟨1, _⟩ => exact (final8 K c).trans (h.out c).symm)

theorem reg8_pre {W W' : Dev nD → Valuation τ sig (Elt F)} (h : Rel8 K W W') (c : Dev nD) :
    iprop(StableHlo.held (c : Thread nD τ) (Pipeline.ucRefs τ sig) (W c) ∗ E K 8 c) ⊢ (reg8 K h).pre c := by
  show _ ⊢ iprop(StableHlo.held (c : Thread nD τ) (Pipeline.arrRefs (τ := τ) (pcfgs (F := F) 8).spec) (W c) ∗ BI.emp
    ∗ (StableHlo.held (c : Thread nD τ) (Pipeline.ucRefs τ sig \ Pipeline.arrRefs (τ := τ) (pcfgs (F := F) 8).spec) (W c) ∗ (∃ r, prngReg c r) ∗ St4 K c) ∗ ∃ Wd, owes (c : Thread nD τ) (O4 K c) Wd)
  show iprop(_ ∗ (∃ r, prngReg c r) ∗ St4 K c ∗ ∃ W, owes (c : Thread nD τ) (O4 K c) W) ⊢ _
  rw [StableHlo.held_sub_split (c : Thread nD τ) (arrs8_sub (F := F)) (W c)]
  iintro ⟨⟨HA, HH⟩, Hp, HS, HO⟩
  isplitl [HA]; · iexact HA
  isplitr; · iempintro
  isplitl [HH Hp HS]
  · isplitl [HH]; · iexact HH
    isplitl [Hp]; · iexact Hp
    iexact HS
  iexact HO

theorem reg8_post {W W' : Dev nD → Valuation τ sig (Elt F)} (h : Rel8 K W W') (c : Dev nD) :
    (reg8 K h).post c ⊢ iprop(StableHlo.held (c : Thread nD τ) (Pipeline.ucRefs τ sig) (W' c) ∗ E K 9 c) := by
  show iprop(StableHlo.held (c : Thread nD τ) (Pipeline.arrRefs (τ := τ) (pcfgs (F := F) 8).spec) (W' c) ∗ BI.emp
    ∗ (StableHlo.held (c : Thread nD τ) (Pipeline.ucRefs τ sig \ Pipeline.arrRefs (τ := τ) (pcfgs (F := F) 8).spec) (W c) ∗ (∃ r, prngReg c r) ∗ St4 K c) ∗ ∃ Wd, owes (c : Thread nD τ) (O4 K c) Wd) ⊢ _
  show _ ⊢ iprop(_ ∗ (∃ r, prngReg c r) ∗ St4 K c ∗ ∃ W, owes (c : Thread nD τ) (O4 K c) W)
  rw [StableHlo.held_sub_split (c : Thread nD τ) (arrs8_sub (F := F)) (W' c), StableHlo.held_congr (c : Thread nD τ) (rest8 K h c)]
  iintro ⟨HA, -, ⟨HH, Hp, HS⟩, HO⟩
  isplitl [HA HH]
  · isplitl [HA]; · iexact HA
    iexact HH
  isplitl [Hp]; · iexact Hp
  isplitl [HS]; · iexact HS
  iexact HO

/-! ## Launch 9 -/

theorem arrs9 : Pipeline.arrRefs (τ := τ) (pcfgs (F := F) 9).spec = ∅ := by
  unfold Pipeline.arrRefs
  rw [Finset.map_eq_empty, Finset.image_eq_empty]
  exact Finset.univ_eq_empty_iff.mpr (inferInstanceAs (IsEmpty (Fin 0)))

theorem idle9 (c : Dev nD) (t : Fin (cfg9.N + 1)) :
    iprop(Pipeline.scopedRest (Pipeline.pin (pcfgs (F := F)) adm 9).spec c ∗ BI.emp) ⊣⊢ ((dat9 K c).Φ t : sProp 𝕄) := by
  dsimp only [dat9]
  exact Laws.sep_emp

set_option backward.isDefEq.respectTransparency.types false in
def reg9 (W : Dev nD → Valuation τ sig (Elt F)) : (ℝ𝕊 K) 9 :=
  Pipeline.RegionSeg.ofHeld (pcfgs (F := F)) adm (pdats K) 0 (defs₀ (F := F)) Variants.none (L 11) lv 9
    (O4 K) (fun _ => BI.emp) (fun _ => BI.emp) (kit 9 launch9) rfl (fun c => (obl9 K c).loose)
    (fun _ _ => rfl) (fun _ => rfl) (fun _ w => w.elim0) (fun c => (idle9 K c 0).1)
    (fun c => (idle9 K c (Fin.last _)).2)
    (fun _ => 0) ((above4 K).levelCut (pcfgs (F := F)) adm 9 (by decide) (by decide))
    (fun c => iprop(StableHlo.held (c : Thread nD τ) (Pipeline.ucRefs τ sig) (W c) ∗ (∃ r, prngReg c r) ∗ St4 K c))
    W W (fun _ w => w.elim0) (fun _ w => w.elim0)

theorem reg9_pre (W : Dev nD → Valuation τ sig (Elt F)) (c : Dev nD) :
    iprop(StableHlo.held (c : Thread nD τ) (Pipeline.ucRefs τ sig) (W c) ∗ E K 9 c) ⊢ (reg9 K W).pre c := by
  show _ ⊢ iprop(StableHlo.held (c : Thread nD τ) (Pipeline.arrRefs (τ := τ) (pcfgs (F := F) 9).spec) (W c) ∗ BI.emp
    ∗ (StableHlo.held (c : Thread nD τ) (Pipeline.ucRefs τ sig) (W c) ∗ (∃ r, prngReg c r) ∗ St4 K c) ∗ ∃ Wd, owes (c : Thread nD τ) (O4 K c) Wd)
  rw [no_arrs 9 arrs9]
  show iprop(_ ∗ (∃ r, prngReg c r) ∗ St4 K c ∗ ∃ W, owes (c : Thread nD τ) (O4 K c) W) ⊢ _
  iintro ⟨HH, Hp, HS, HO⟩
  isplitr; · iempintro
  isplitr; · iempintro
  isplitl [HH Hp HS]
  · isplitl [HH]; · iexact HH
    isplitl [Hp]; · iexact Hp
    iexact HS
  iexact HO

theorem reg9_post (W : Dev nD → Valuation τ sig (Elt F)) (c : Dev nD) :
    (reg9 K W).post c ⊢ iprop(StableHlo.held (c : Thread nD τ) (Pipeline.ucRefs τ sig) (W c) ∗ E K 10 c) := by
  show iprop(StableHlo.held (c : Thread nD τ) (Pipeline.arrRefs (τ := τ) (pcfgs (F := F) 9).spec) (W c) ∗ BI.emp
    ∗ (StableHlo.held (c : Thread nD τ) (Pipeline.ucRefs τ sig) (W c) ∗ (∃ r, prngReg c r) ∗ St4 K c) ∗ ∃ Wd, owes (c : Thread nD τ) (O4 K c) Wd) ⊢ _
  show _ ⊢ iprop(_ ∗ (∃ r, prngReg c r) ∗ St4 K c ∗ ∃ W, owes (c : Thread nD τ) (O4 K c) W)
  iintro ⟨-, -, ⟨HH, Hp, HS⟩, HO⟩
  isplitl [HH]; · iexact HH
  isplitl [Hp]; · iexact Hp
  isplitl [HS]; · iexact HS
  iexact HO

/-! ## Launch 10 -/

theorem arrs10 : Pipeline.arrRefs (τ := τ) (pcfgs (F := F) 10).spec = ∅ := by
  unfold Pipeline.arrRefs
  rw [Finset.map_eq_empty, Finset.image_eq_empty]
  exact Finset.univ_eq_empty_iff.mpr (inferInstanceAs (IsEmpty (Fin 0)))

abbrev Hs10 : Finset (DevRef τ sig) := {(main_v72 : DevRef τ sig), (main_v73 : DevRef τ sig)}
theorem Hs10_sub : Hs10 ⊆ Pipeline.ucRefs τ sig := by
  intro b hb
  simp only [Hs10, Finset.mem_insert, Finset.mem_singleton] at hb
  rcases hb with rfl | rfl <;> exact Pipeline.devRef_mem_ucRefs rfl

abbrev osem10 : Fin 7 → SemLoc sig := ![.dma (27 : DmaSem sig), .dma (21 : DmaSem sig), .dma (22 : DmaSem sig), .dma (23 : DmaSem sig), .dma (24 : DmaSem sig), .dma (25 : DmaSem sig), .dma (26 : DmaSem sig)]
theorem osem10_facts : Pipeline.OwnSemFacts (pcfgs (F := F) 10).spec osem10 := ⟨by decide, by decide, fun _ w => w.elim0⟩
theorem own10_eq (c : Dev nD) : (Pipeline.ownSems0 osem10 c : sProp 𝕄) = (P4 K).zeros c := by
  unfold Pipeline.ownSems0 Push.Site.zeros
  rw [show (Finset.univ : Finset (Fin 7)) = {0, 1, 2, 3, 4, 5, 6} from by decide, bigSep_insert (by decide), bigSep_insert (by decide), bigSep_insert (by decide),
    bigSep_insert (by decide), bigSep_insert (by decide), bigSep_insert (by decide), bigSep_singleton]
  rfl

theorem srcPts10 (c : Dev nD) : ((P4 K).srcPts fullShare c : sProp 𝕄) = pt c main_v72 (K.X4 c) := by
  unfold Push.Site.srcPts
  rw [show ((P4 K).src.view.set) = Finset.univ from View.set_whole _]
  rfl

theorem rows10 (c : Dev nD) (f : Buf (Elt F) ((c : Thread nD τ).loc main_v73)) :
    (pt c main_v73 f : sProp 𝕄) = bigSep Finset.univ fun q : Dev 4 => ((c : Thread nD τ).loc main_v73) ↦[(row10 q).view.set]{fullShare} f := by
  refine (Ring.pointsTo_blocks (ℓ := (c : Thread nD τ).loc main_v73) (fun q : Dev 4 => (Finset.univ.filter fun i : S4x1024x8192.Idx => (i 0).val = q.val))
    (fun q q' h => lead_disj q q' h) lead_cover f).trans (bigSep_congr fun q _ => ?_)
  rw [row10_set]

theorem slAny10_row (c : Dev nD) (f : Buf (Elt F) ((c : Thread nD τ).loc main_v73)) (q : Dev 4) :
    (((c : Thread nD τ).loc main_v73) ↦[(row10 q).view.set]{fullShare} f : sProp 𝕄) ⊢ (P4 K).slAny q c := by
  unfold Push.Site.slAny
  iintro H
  iexists f
  iexact H

theorem slAny10 (c : Dev nD) (f : Buf (Elt F) ((c : Thread nD τ).loc main_v73)) : (pt c main_v73 f : sProp 𝕄) ⊢ bigSep Finset.univ fun q => (P4 K).slAny q c := by
  rw [rows10 c f]
  exact bigSep_mono fun q _ => slAny10_row K c f q

theorem slPts10 (c : Dev nD) : (bigSep Finset.univ fun q => (P4 K).slPts q c : sProp 𝕄) = pt c main_v73 (Rows.stack K.X4) := by
  rw [rows10 c]
  rfl

/-- How the valuations before and after launch 10 are related. -/
structure Rel10 (W W' : Dev nD → Valuation τ sig (Elt F)) : Prop where
  src : ∀ c, W c main_v72 = K.X4 c
  src' : ∀ c, W' c main_v72 = K.X4 c
  out : ∀ c, W' c main_v73 = Rows.stack K.X4
  off : ∀ c (r : Ref sig .tc), r ∉ ([main_v72, main_v73] : List (Ref sig .tc)) → W' c r = W c r

theorem rest10 {W W' : Dev nD → Valuation τ sig (Elt F)} (h : Rel10 K W W') (c : Dev nD) (b : DevRef τ sig) (hb : b ∈ Pipeline.ucRefs τ sig \ Hs10) : W' c b = W c b := by
  obtain ⟨hb₁, hb₂⟩ := Finset.mem_sdiff.mp hb
  refine agree_off (h.off c) b hb₁ fun r hr e => hb₂ ?_
  simp only [List.mem_cons, List.not_mem_nil, or_false] at hr
  simp only [Hs10, Finset.mem_insert, Finset.mem_singleton]
  rcases hr with rfl | rfl
  · exact Or.inl e
  · exact Or.inr e

theorem in10 {W W' : Dev nD → Valuation τ sig (Elt F)} (h : Rel10 K W W') (c : Dev nD) :
    iprop(Pipeline.scopedRest (Pipeline.pin (pcfgs (F := F)) adm 10).spec c ∗ (∃ r, prngReg c r) ∗ StableHlo.held (c : Thread nD τ) Hs10 (W c)
      ∗ ((P4 K).opened E4 9 c ∗ levAts (L 11) lv)) ⊢ (pdats K 10 c).Φ 0 := by
  rw [show (pdats K 10 c).Φ 0 = _ from Φ10_first K c, held2 c (W c) main_v72 main_v73 (by decide), h.src]
  unfold pre10
  rw [srcPts10]
  iintro ⟨Hs, Hp, ⟨Ha, Hb⟩, Ho, Hl⟩
  isplitl [Hs]; · iexact Hs
  isplitl [Hp]; · iexact Hp
  isplitl [Ho]; · iexact Ho
  isplitl [Hl]; · iexact Hl
  isplitl [Ha]; · iexact Ha
  iapply (slAny10 K c _); iexact Hb

theorem out10 {W W' : Dev nD → Valuation τ sig (Elt F)} (h : Rel10 K W W') (c : Dev nD) :
    (pdats K 10 c).Φ (Fin.last (Pipeline.pin (pcfgs (F := F)) adm 10).N) ⊢ iprop(Pipeline.scopedRest (Pipeline.pin (pcfgs (F := F)) adm 10).spec c ∗ (∃ r, prngReg c r)
      ∗ StableHlo.held (c : Thread nD τ) Hs10 (W' c) ∗ Pipeline.ownSems0 osem10 c ∗ bar4 c) := by
  rw [show (pdats K 10 c).Φ (Fin.last _) = _ from Φ10_last K c, held2 c (W' c) main_v72 main_v73 (by decide), h.src', h.out, own10_eq K]
  unfold post10
  rw [srcPts10, slPts10]
  iintro ⟨Hs, Hp, Hbar, Hz, Ha, Hb⟩
  isplitl [Hs]; · iexact Hs
  isplitl [Hp]; · iexact Hp
  isplitl [Ha Hb]
  · isplitl [Ha]; · iexact Ha
    iexact Hb
  isplitl [Hz]; · iexact Hz
  iexact Hbar

theorem open10 (c : Dev nD) : iprop(rides4 K c ∗ Pipeline.ownSems0 osem10 c ∗ levAts (L 11) lv) ⊢ (|={Set.univ}=> iprop((P4 K).opened E4 9 c ∗ levAts (L 11) lv) : sProp 𝕄) := by
  rw [own10_eq K]
  unfold rides4
  iintro ⟨Hr, Hz, Hl⟩
  imod ((P4 K).enter E4 9 c) $$ [Hr Hz] with Ho
  · isplitl [Hr] <;> iassumption
  imodintro
  isplitl [Ho] <;> iassumption

set_option backward.isDefEq.respectTransparency.types false in
def reg10 {W W' : Dev nD → Valuation τ sig (Elt F)} (h : Rel10 K W W') : (ℝ𝕊 K) 10 :=
  Pipeline.RegionSeg.ofTalk (pcfgs (F := F)) adm (pdats K) 0 (defs₀ (F := F)) Variants.none (L 11) lv 10 osem10 osem10_facts
    Hs10 (Pipeline.ucRefs τ sig) Hs10_sub (kit 10 launch10) rfl (fun c => (obl10 K c).loose)
    (O5) (fun c => tallyL ((P4 K).dues 9 c)) (owed10_first K) (owed10_last K) (fun _ => rfl) (fun _ w => w.elim0)
    W W' (rest10 K h) (rides4 K) (bar4) (fun c => iprop((P4 K).opened E4 9 c ∗ levAts (L 11) lv)) (bar4) (open10 K) (in10 K h) (out10 K h)
    (fun c => by iintro H; imodintro; iexact H)
    (fun _ => 0) ⟨fun _ w => w.elim0, fun _ w => w.elim0, fun c t g i hi => cut_ends (n := cfg10.N) (b := 9) (b' := 11) (by decide) (by decide) (above4 K) above5 c t g i hi⟩
    (fun c => iprop(bar0 c ∗ bar1 c ∗ bar2 c ∗ bar3 c)) (fun _ w => w.elim0) (fun _ w => w.elim0)

theorem reg10_pre {W W' : Dev nD → Valuation τ sig (Elt F)} (h : Rel10 K W W') (c : Dev nD) :
    iprop(StableHlo.held (c : Thread nD τ) (Pipeline.ucRefs τ sig) (W c) ∗ E K 10 c) ⊢ (reg10 K h).pre c := by
  show _ ⊢ iprop(StableHlo.held (c : Thread nD τ) (Pipeline.arrRefs (τ := τ) (pcfgs (F := F) 10).spec) (W c) ∗ (∃ r, prngReg c r)
    ∗ (StableHlo.held (c : Thread nD τ) (Pipeline.ucRefs τ sig) (W c) ∗ (bar0 c ∗ bar1 c ∗ bar2 c ∗ bar3 c)) ∗ rides4 K c ∗ ∃ Wd, owes (c : Thread nD τ) (O4 K c) Wd)
  rw [no_arrs 10 arrs10]
  show iprop(_ ∗ (∃ r, prngReg c r) ∗ St4 K c ∗ ∃ W, owes (c : Thread nD τ) (O4 K c) W) ⊢ _
  unfold St4
  iintro ⟨HH, Hp, ⟨S0, S1, S2, S3, S4⟩, HO⟩
  isplitr; · iempintro
  isplitl [Hp]; · iexact Hp
  isplitl [HH S0 S1 S2 S3]
  · isplitl [HH]; · iexact HH
    isplitl [S0]; · iexact S0
    isplitl [S1]; · iexact S1
    isplitl [S2]; · iexact S2
    iexact S3
  isplitl [S4]; · iexact S4
  iexact HO

theorem reg10_post {W W' : Dev nD → Valuation τ sig (Elt F)} (h : Rel10 K W W') (c : Dev nD) :
    (reg10 K h).post c ⊢ iprop(StableHlo.held (c : Thread nD τ) (Pipeline.ucRefs τ sig) (W' c) ∗ E K 11 c) := by
  show iprop(StableHlo.held (c : Thread nD τ) (Pipeline.arrRefs (τ := τ) (pcfgs (F := F) 10).spec) (W' c) ∗ (∃ r, prngReg c r)
    ∗ (StableHlo.held (c : Thread nD τ) (Pipeline.ucRefs τ sig) (W' c) ∗ (bar0 c ∗ bar1 c ∗ bar2 c ∗ bar3 c)) ∗ bar4 c ∗ ∃ Wd, owes (c : Thread nD τ) (O5 c) Wd) ⊢ _
  show _ ⊢ iprop(_ ∗ (∃ r, prngReg c r) ∗ St5 c ∗ ∃ W, owes (c : Thread nD τ) (O5 c) W)
  unfold St5
  iintro ⟨-, Hp, ⟨HH, S0, S1, S2, S3⟩, S4, HO⟩
  isplitl [HH]; · iexact HH
  isplitl [Hp]; · iexact Hp
  isplitl [S0 S1 S2 S3 S4]
  · isplitl [S0]; · iexact S0
    isplitl [S1]; · iexact S1
    isplitl [S2]; · iexact S2
    isplitl [S3]; · iexact S3
    iexact S4
  iexact HO

/-! ## Launch 11 -/

theorem arrs11_sub : Pipeline.arrRefs (τ := τ) (pcfgs (F := F) 11).spec ⊆ Pipeline.ucRefs τ sig := Pipeline.arrRefs_sub_ucRefs _ fun w => by
  match w with | ⟨0, _⟩ => rfl | ⟨1, _⟩ => rfl

/-- How the valuations before and after launch 11 are related. -/
structure Rel11 (W W' : Dev nD → Valuation τ sig (Elt F)) : Prop where
  src : ∀ c, W c main_v74 = K.X11 c
  old : ∀ c, W c main_v75 = K.Y11 c
  src' : ∀ c, W' c main_v74 = K.X11 c
  out : ∀ c, W' c main_v75 = (extf .f32 (K.X11 c : FVec F S4096x8192 .fp8e4m3) bitsLt_fp8e4m3_f32 : S4096x8192.Idx → Elt F .f32)
  off : ∀ c (r : Ref sig .tc), r ∉ ([main_v75] : List (Ref sig .tc)) → W' c r = W c r

theorem rest11 {W W' : Dev nD → Valuation τ sig (Elt F)} (h : Rel11 K W W') (c : Dev nD) (b : DevRef τ sig)
    (hb : b ∈ Pipeline.ucRefs τ sig \ Pipeline.arrRefs (τ := τ) (pcfgs (F := F) 11).spec) : W' c b = W c b := by
  obtain ⟨hb₁, hb₂⟩ := Finset.mem_sdiff.mp hb
  refine agree_off (h.off c) b hb₁ fun r hr e => hb₂ ?_
  simp only [List.mem_cons, List.not_mem_nil, or_false] at hr
  subst hr
  rw [e]
  exact Finset.mem_map.mpr ⟨main_v75, Finset.mem_image.mpr ⟨1, Finset.mem_univ _, rfl⟩, rfl⟩

theorem idle11 (c : Dev nD) (t : Fin (cfg11.N + 1)) :
    iprop(Pipeline.scopedRest (Pipeline.pin (pcfgs (F := F)) adm 11).spec c ∗ BI.emp) ⊣⊢ ((dat11 K c).Φ t : sProp 𝕄) := by
  dsimp only [dat11]
  exact Laws.sep_emp

set_option backward.isDefEq.respectTransparency.types false in
def reg11 {W W' : Dev nD → Valuation τ sig (Elt F)} (h : Rel11 K W W') : (ℝ𝕊 K) 11 :=
  Pipeline.RegionSeg.ofHeld (pcfgs (F := F)) adm (pdats K) 0 (defs₀ (F := F)) Variants.none (L 11) lv 11
    (O5) (fun _ => BI.emp) (fun _ => BI.emp) (kit 11 launch11) rfl (fun c => (obl11 K c).loose)
    (fun _ _ => rfl) (fun _ => rfl) (fun c => (pdats K 11 c).share_full fun _ => rfl) (fun c => (idle11 K c 0).1)
    (fun c => (idle11 K c (Fin.last _)).2)
    (fun _ => 0) (above5.levelCut (pcfgs (F := F)) adm 11 (by decide) (by decide))
    (fun c => iprop(StableHlo.held (c : Thread nD τ) (Pipeline.ucRefs τ sig \ Pipeline.arrRefs (τ := τ) (pcfgs (F := F) 11).spec) (W c) ∗ (∃ r, prngReg c r) ∗ St5 c))
    W W' (fun c w => by match w with | ⟨0, _⟩ => exact (h.src c).symm | ⟨1, _⟩ => exact (h.old c).symm)
    (fun c w => by match w with | ⟨0, _⟩ => exact (final11_in K c).trans (h.src' c).symm | ⟨1, _⟩ => exact (final11 K c).trans (h.out c).symm)

theorem reg11_pre {W W' : Dev nD → Valuation τ sig (Elt F)} (h : Rel11 K W W') (c : Dev nD) :
    iprop(StableHlo.held (c : Thread nD τ) (Pipeline.ucRefs τ sig) (W c) ∗ E K 11 c) ⊢ (reg11 K h).pre c := by
  show _ ⊢ iprop(StableHlo.held (c : Thread nD τ) (Pipeline.arrRefs (τ := τ) (pcfgs (F := F) 11).spec) (W c) ∗ BI.emp
    ∗ (StableHlo.held (c : Thread nD τ) (Pipeline.ucRefs τ sig \ Pipeline.arrRefs (τ := τ) (pcfgs (F := F) 11).spec) (W c) ∗ (∃ r, prngReg c r) ∗ St5 c) ∗ ∃ Wd, owes (c : Thread nD τ) (O5 c) Wd)
  show iprop(_ ∗ (∃ r, prngReg c r) ∗ St5 c ∗ ∃ W, owes (c : Thread nD τ) (O5 c) W) ⊢ _
  rw [StableHlo.held_sub_split (c : Thread nD τ) (arrs11_sub (F := F)) (W c)]
  iintro ⟨⟨HA, HH⟩, Hp, HS, HO⟩
  isplitl [HA]; · iexact HA
  isplitr; · iempintro
  isplitl [HH Hp HS]
  · isplitl [HH]; · iexact HH
    isplitl [Hp]; · iexact Hp
    iexact HS
  iexact HO

theorem reg11_post {W W' : Dev nD → Valuation τ sig (Elt F)} (h : Rel11 K W W') (c : Dev nD) :
    (reg11 K h).post c ⊢ iprop(StableHlo.held (c : Thread nD τ) (Pipeline.ucRefs τ sig) (W' c) ∗ E K 12 c) := by
  show iprop(StableHlo.held (c : Thread nD τ) (Pipeline.arrRefs (τ := τ) (pcfgs (F := F) 11).spec) (W' c) ∗ BI.emp
    ∗ (StableHlo.held (c : Thread nD τ) (Pipeline.ucRefs τ sig \ Pipeline.arrRefs (τ := τ) (pcfgs (F := F) 11).spec) (W c) ∗ (∃ r, prngReg c r) ∗ St5 c) ∗ ∃ Wd, owes (c : Thread nD τ) (O5 c) Wd) ⊢ _
  show _ ⊢ iprop(_ ∗ (∃ r, prngReg c r) ∗ St5 c ∗ ∃ W, owes (c : Thread nD τ) (O5 c) W)
  rw [StableHlo.held_sub_split (c : Thread nD τ) (arrs11_sub (F := F)) (W' c), StableHlo.held_congr (c : Thread nD τ) (rest11 K h c)]
  iintro ⟨HA, -, ⟨HH, Hp, HS⟩, HO⟩
  isplitl [HA HH]
  · isplitl [HA]; · iexact HA
    iexact HH
  isplitl [Hp]; · iexact Hp
  isplitl [HS]; · iexact HS
  iexact HO

end Cert.KernelIdeal.Talk

end
-- ==== Proof.KernelIdeal.Vals.lean ====
/-
  The buffers' contents between the program's items, written out: the host stretches run in order, and each launch puts
  into the buffers it writes what the neighbours sent. The generated valuations agree with them once the unknowns are
  read off them.
-/
module

public import proofs.«01_k».proof.Proof.KernelIdeal.Regs
public import proofs.«01_k».proof.Proof.Gen.KernelIdeal.Regions

@[expose] public section

set_option Elab.async false
set_option maxRecDepth 4000

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SiteBlocks (L lv Above mem_L above_zero)
open Idealize.ShloMosaic.TalkSites (tallyL)
open Idealize.ShloMosaic.Pipeline (Dat BodyObligation)
open Cert.KernelIdeal Cert.KernelIdeal.Gen
open Cert.Hop (rt lt lt_rt rt_lt)

variable {F : FTy → Type} [FloatOps F]

variable (m : (ℓ : Loc nD τ sig) → Buf (Elt F) ℓ)

/-- A step of folding updates by a valuation's own values: what agrees off a list with its head agrees off its tail once
    the head is updated. -/
theorem fold_step {V T : Valuation τ sig (Elt F)} {l : List (DevRef τ sig)} (b : DevRef τ sig) (h : ∀ x, x ∉ b :: l → T x = V x) :
    ∀ x, x ∉ l → T x = Function.update V b (T b) x := fun x hx => by
  by_cases e : x = b
  · subst e; rw [Function.update_self]
  · rw [Function.update_of_ne e]; exact h x fun hm => (List.mem_cons.mp hm).elim e hx

theorem mem_of_eq {l : List (DevRef τ sig)} {x b : DevRef τ sig} (e : x = b) (h : b ∈ l) : x ∈ l := e ▸ h

theorem ne_of {r r' : Ref sig .tc} (h : r ≠ r') : ((r : DevRef τ sig)) ≠ (r' : DevRef τ sig) := StableHlo.devRef_ne_of_ne h

/-! ## The contents -/

/-- After item 7. -/
def T8 (c : Dev nD) : Valuation τ sig (Elt F) := Function.update (Function.update (V7 m c) main_v16_0 ((V7 m (lt c) main_v11 : Half F))) main_v16_1 ((V7 m (rt c) main_v15 : Half F))
/-- After item 14. -/
def T15 (c : Dev nD) : Valuation τ sig (Elt F) := StableHlo.after hostOps1_6 (StableHlo.after hostOps1_5 (StableHlo.after hostOps1_4 (StableHlo.after hostOps1_3 (StableHlo.after hostOps1_2 (StableHlo.after hostOps1_1 (StableHlo.after hostOps1 (T8 m c)))))))
/-- After item 16. -/
def T17 (c : Dev nD) : Valuation τ sig (Elt F) := Function.update (Function.update (T15 m c) main_v30_0 ((T15 m (lt c) main_v29_0 : Half F))) main_v30_1 ((T15 m (rt c) main_v29_1 : Half F))
/-- After item 23. -/
def T24 (c : Dev nD) : Valuation τ sig (Elt F) := StableHlo.after hostOps3_6 (StableHlo.after hostOps3_5 (StableHlo.after hostOps3_4 (StableHlo.after hostOps3_3 (StableHlo.after hostOps3_2 (StableHlo.after hostOps3_1 (StableHlo.after hostOps3 (T17 m c)))))))
/-- After item 25. -/
def T26 (c : Dev nD) : Valuation τ sig (Elt F) := Function.update (Function.update (T24 m c) main_v44_0 ((T24 m (lt c) main_v43_0 : Half F))) main_v44_1 ((T24 m (rt c) main_v43_1 : Half F))
/-- After item 32. -/
def T33 (c : Dev nD) : Valuation τ sig (Elt F) := StableHlo.after hostOps5_6 (StableHlo.after hostOps5_5 (StableHlo.after hostOps5_4 (StableHlo.after hostOps5_3 (StableHlo.after hostOps5_2 (StableHlo.after hostOps5_1 (StableHlo.after hostOps5 (T26 m c)))))))
/-- After item 34. -/
def T35 (c : Dev nD) : Valuation τ sig (Elt F) := StableHlo.after hostOps6 (T33 m c)
/-- The first push's source of every device. -/
def src7 (d : Dev nD) : S8x128.Idx → Elt F .f32 := T35 m d main_v64
/-- After item 36. -/
def T37 (c : Dev nD) : Valuation τ sig (Elt F) := Function.update (T35 m c) main_v65 ((Rows.stack (src7 m) : S4x8x128.Idx → Elt F .f32))
/-- After item 37. -/
def T38 (c : Dev nD) : Valuation τ sig (Elt F) := Function.update (T37 m c) main_v66 ((Rows.stack (src7 m) : S4x8x128.Idx → Elt F .f32))
/-- After item 38. -/
def T39 (c : Dev nD) : Valuation τ sig (Elt F) := StableHlo.after hostOps9 (T38 m c)
/-- The second push's source of every device. -/
def src10 (d : Dev nD) : S1024x8192.Idx → Elt F .fp8e4m3 := T39 m d main_v72
/-- After item 40. -/
def T41 (c : Dev nD) : Valuation τ sig (Elt F) := Function.update (T39 m c) main_v73 ((Rows.stack (src10 m) : S4x1024x8192.Idx → Elt F .fp8e4m3))
/-- After item 41. -/
def T42 (c : Dev nD) : Valuation τ sig (Elt F) := StableHlo.after hostOps11 (T41 m c)
/-- After item 42. -/
def T43 (c : Dev nD) : Valuation τ sig (Elt F) := Function.update (T42 m c) main_v75 ((extf .f32 (T42 m c main_v74 : FVec F S4096x8192 .fp8e4m3) bitsLt_fp8e4m3_f32 : S4096x8192.Idx → Elt F .f32))
/-- After item 43. -/
def T44 (c : Dev nD) : Valuation τ sig (Elt F) := StableHlo.after hostOps12 (T43 m c)

/-- The unknowns, read off them. -/
def outs : Outs (F := F) := fun J r c =>
  if J = 8 then T8 m c r else
  if J = 16 then T15 m c r else
  if J = 17 then T17 m c r else
  if J = 25 then T24 m c r else
  if J = 26 then T26 m c r else
  if J = 34 then T33 m c r else
  if J = 36 then T35 m c r else
  if J = 37 then T37 m c r else
  if J = 38 then T38 m c r else
  if J = 40 then T39 m c r else
  if J = 41 then T41 m c r else
  if J = 43 then T43 m c r else
  V0 m c r

theorem outs_8 (r : Ref sig .tc) (c : Dev nD) : outs m 8 r c = T8 m c r := rfl
theorem outs_16 (r : Ref sig .tc) (c : Dev nD) : outs m 16 r c = T15 m c r := rfl
theorem outs_17 (r : Ref sig .tc) (c : Dev nD) : outs m 17 r c = T17 m c r := rfl
theorem outs_25 (r : Ref sig .tc) (c : Dev nD) : outs m 25 r c = T24 m c r := rfl
theorem outs_26 (r : Ref sig .tc) (c : Dev nD) : outs m 26 r c = T26 m c r := rfl
theorem outs_34 (r : Ref sig .tc) (c : Dev nD) : outs m 34 r c = T33 m c r := rfl
theorem outs_36 (r : Ref sig .tc) (c : Dev nD) : outs m 36 r c = T35 m c r := rfl
theorem outs_37 (r : Ref sig .tc) (c : Dev nD) : outs m 37 r c = T37 m c r := rfl
theorem outs_38 (r : Ref sig .tc) (c : Dev nD) : outs m 38 r c = T38 m c r := rfl
theorem outs_40 (r : Ref sig .tc) (c : Dev nD) : outs m 40 r c = T39 m c r := rfl
theorem outs_41 (r : Ref sig .tc) (c : Dev nD) : outs m 41 r c = T41 m c r := rfl
theorem outs_43 (r : Ref sig .tc) (c : Dev nD) : outs m 43 r c = T43 m c r := rfl

/-- What every launch finds. -/
def contents : Contents F where
  A0 c := V7 m c main_v11
  B0 c := V7 m c main_v15
  A1 c := T15 m c main_v29_0
  B1 c := T15 m c main_v29_1
  A2 c := T24 m c main_v43_0
  B2 c := T24 m c main_v43_1
  X3 := src7 m
  X4 := src10 m
  Y8 c := T37 m c main_v66
  X11 c := T42 m c main_v74
  Y11 c := T42 m c main_v75

/-! ## The generated valuations are these -/

theorem off8 (c : Dev nD) : ∀ x, x ∉ ([(main_v11 : DevRef τ sig), (main_v15 : DevRef τ sig), (main_v16_0 : DevRef τ sig), (main_v16_1 : DevRef τ sig)] : List (DevRef τ sig)) → T8 m c x = (V7 m c) x := fun x hx => by
  unfold T8
  rw [Function.update_of_ne (show x ≠ (main_v16_1 : DevRef τ sig) from fun e => hx (mem_of_eq e (by simp))), Function.update_of_ne (show x ≠ (main_v16_0 : DevRef τ sig) from fun e => hx (mem_of_eq e (by simp)))]
theorem eq8 (c : Dev nD) : V8 m (outs m) c = T8 m c := by
  unfold V8
  rw [outs_8 m main_v11, outs_8 m main_v15, outs_8 m main_v16_0, outs_8 m main_v16_1]
  exact (funext fun x => (fold_step _ (fold_step _ (fold_step _ (fold_step _ (off8 m c))))) x List.not_mem_nil).symm
theorem eq15 (c : Dev nD) : V15 m (outs m) c = T15 m c :=
  congrArg (fun V : Valuation τ sig (Elt F) => StableHlo.after hostOps1_6 (StableHlo.after hostOps1_5 (StableHlo.after hostOps1_4 (StableHlo.after hostOps1_3 (StableHlo.after hostOps1_2 (StableHlo.after hostOps1_1 (StableHlo.after hostOps1 (V)))))))) (eq8 m c)
theorem off16 (c : Dev nD) : ∀ x, x ∉ ([(main_v29_0 : DevRef τ sig), (main_v29_1 : DevRef τ sig), (main_v16_0 : DevRef τ sig)] : List (DevRef τ sig)) → T15 m c x = T15 m c x := fun _ _ => rfl
theorem eq16 (c : Dev nD) : V16 m (outs m) c = T15 m c := by
  unfold V16
  rw [eq15 m c, outs_16 m main_v29_0, outs_16 m main_v29_1, outs_16 m main_v16_0]
  exact (funext fun x => (fold_step _ (fold_step _ (fold_step _ (off16 m c)))) x List.not_mem_nil).symm
theorem off17 (c : Dev nD) : ∀ x, x ∉ ([(main_v29_0 : DevRef τ sig), (main_v29_1 : DevRef τ sig), (main_v30_0 : DevRef τ sig), (main_v30_1 : DevRef τ sig)] : List (DevRef τ sig)) → T17 m c x = T15 m c x := fun x hx => by
  unfold T17
  rw [Function.update_of_ne (show x ≠ (main_v30_1 : DevRef τ sig) from fun e => hx (mem_of_eq e (by simp))), Function.update_of_ne (show x ≠ (main_v30_0 : DevRef τ sig) from fun e => hx (mem_of_eq e (by simp)))]
theorem eq17 (c : Dev nD) : V17 m (outs m) c = T17 m c := by
  unfold V17
  rw [eq16 m c, outs_17 m main_v29_0, outs_17 m main_v29_1, outs_17 m main_v30_0, outs_17 m main_v30_1]
  exact (funext fun x => (fold_step _ (fold_step _ (fold_step _ (fold_step _ (off17 m c))))) x List.not_mem_nil).symm
theorem eq24 (c : Dev nD) : V24 m (outs m) c = T24 m c :=
  congrArg (fun V : Valuation τ sig (Elt F) => StableHlo.after hostOps3_6 (StableHlo.after hostOps3_5 (StableHlo.after hostOps3_4 (StableHlo.after hostOps3_3 (StableHlo.after hostOps3_2 (StableHlo.after hostOps3_1 (StableHlo.after hostOps3 (V)))))))) (eq17 m c)
theorem off25 (c : Dev nD) : ∀ x, x ∉ ([(main_v43_0 : DevRef τ sig), (main_v43_1 : DevRef τ sig), (main_v30_0 : DevRef τ sig)] : List (DevRef τ sig)) → T24 m c x = T24 m c x := fun _ _ => rfl
theorem eq25 (c : Dev nD) : V25 m (outs m) c = T24 m c := by
  unfold V25
  rw [eq24 m c, outs_25 m main_v43_0, outs_25 m main_v43_1, outs_25 m main_v30_0]
  exact (funext fun x => (fold_step _ (fold_step _ (fold_step _ (off25 m c)))) x List.not_mem_nil).symm
theorem off26 (c : Dev nD) : ∀ x, x ∉ ([(main_v43_0 : DevRef τ sig), (main_v43_1 : DevRef τ sig), (main_v44_0 : DevRef τ sig), (main_v44_1 : DevRef τ sig)] : List (DevRef τ sig)) → T26 m c x = T24 m c x := fun x hx => by
  unfold T26
  rw [Function.update_of_ne (show x ≠ (main_v44_1 : DevRef τ sig) from fun e => hx (mem_of_eq e (by simp))), Function.update_of_ne (show x ≠ (main_v44_0 : DevRef τ sig) from fun e => hx (mem_of_eq e (by simp)))]
theorem eq26 (c : Dev nD) : V26 m (outs m) c = T26 m c := by
  unfold V26
  rw [eq25 m c, outs_26 m main_v43_0, outs_26 m main_v43_1, outs_26 m main_v44_0, outs_26 m main_v44_1]
  exact (funext fun x => (fold_step _ (fold_step _ (fold_step _ (fold_step _ (off26 m c))))) x List.not_mem_nil).symm
theorem eq33 (c : Dev nD) : V33 m (outs m) c = T33 m c :=
  congrArg (fun V : Valuation τ sig (Elt F) => StableHlo.after hostOps5_6 (StableHlo.after hostOps5_5 (StableHlo.after hostOps5_4 (StableHlo.after hostOps5_3 (StableHlo.after hostOps5_2 (StableHlo.after hostOps5_1 (StableHlo.after hostOps5 (V)))))))) (eq26 m c)
theorem off34 (c : Dev nD) : ∀ x, x ∉ ([(main_v57_0 : DevRef τ sig), (main_v57_1 : DevRef τ sig), (main_v44_0 : DevRef τ sig)] : List (DevRef τ sig)) → T33 m c x = T33 m c x := fun _ _ => rfl
theorem eq34 (c : Dev nD) : V34 m (outs m) c = T33 m c := by
  unfold V34
  rw [eq33 m c, outs_34 m main_v57_0, outs_34 m main_v57_1, outs_34 m main_v44_0]
  exact (funext fun x => (fold_step _ (fold_step _ (fold_step _ (off34 m c)))) x List.not_mem_nil).symm
theorem eq35 (c : Dev nD) : V35 m (outs m) c = T35 m c :=
  congrArg (fun V : Valuation τ sig (Elt F) => StableHlo.after hostOps6 (V)) (eq34 m c)
theorem off36 (c : Dev nD) : ∀ x, x ∉ ([(main_v64 : DevRef τ sig), (main_v57_0 : DevRef τ sig)] : List (DevRef τ sig)) → T35 m c x = T35 m c x := fun _ _ => rfl
theorem eq36 (c : Dev nD) : V36 m (outs m) c = T35 m c := by
  unfold V36
  rw [eq35 m c, outs_36 m main_v64, outs_36 m main_v57_0]
  exact (funext fun x => (fold_step _ (fold_step _ (off36 m c))) x List.not_mem_nil).symm
theorem off37 (c : Dev nD) : ∀ x, x ∉ ([(main_v64 : DevRef τ sig), (main_v65 : DevRef τ sig)] : List (DevRef τ sig)) → T37 m c x = T35 m c x := fun x hx => by
  unfold T37
  rw [Function.update_of_ne (show x ≠ (main_v65 : DevRef τ sig) from fun e => hx (mem_of_eq e (by simp)))]
theorem eq37 (c : Dev nD) : V37 m (outs m) c = T37 m c := by
  unfold V37
  rw [eq36 m c, outs_37 m main_v64, outs_37 m main_v65]
  exact (funext fun x => (fold_step _ (fold_step _ (off37 m c))) x List.not_mem_nil).symm
theorem off38 (c : Dev nD) : ∀ x, x ∉ ([(main_v66 : DevRef τ sig)] : List (DevRef τ sig)) → T38 m c x = T37 m c x := fun x hx => by
  unfold T38
  rw [Function.update_of_ne (show x ≠ (main_v66 : DevRef τ sig) from fun e => hx (mem_of_eq e (by simp)))]
theorem eq38 (c : Dev nD) : V38 m (outs m) c = T38 m c := by
  unfold V38
  rw [eq37 m c, outs_38 m main_v66]
  exact (funext fun x => (fold_step _ (off38 m c)) x List.not_mem_nil).symm
theorem eq39 (c : Dev nD) : V39 m (outs m) c = T39 m c :=
  congrArg (fun V : Valuation τ sig (Elt F) => StableHlo.after hostOps9 (V)) (eq38 m c)
theorem off40 (c : Dev nD) : ∀ x, x ∉ ([(main_v72 : DevRef τ sig), (main_v66 : DevRef τ sig)] : List (DevRef τ sig)) → T39 m c x = T39 m c x := fun _ _ => rfl
theorem eq40 (c : Dev nD) : V40 m (outs m) c = T39 m c := by
  unfold V40
  rw [eq39 m c, outs_40 m main_v72, outs_40 m main_v66]
  exact (funext fun x => (fold_step _ (fold_step _ (off40 m c))) x List.not_mem_nil).symm
theorem off41 (c : Dev nD) : ∀ x, x ∉ ([(main_v72 : DevRef τ sig), (main_v73 : DevRef τ sig)] : List (DevRef τ sig)) → T41 m c x = T39 m c x := fun x hx => by
  unfold T41
  rw [Function.update_of_ne (show x ≠ (main_v73 : DevRef τ sig) from fun e => hx (mem_of_eq e (by simp)))]
theorem eq41 (c : Dev nD) : V41 m (outs m) c = T41 m c := by
  unfold V41
  rw [eq40 m c, outs_41 m main_v72, outs_41 m main_v73]
  exact (funext fun x => (fold_step _ (fold_step _ (off41 m c))) x List.not_mem_nil).symm
theorem eq42 (c : Dev nD) : V42 m (outs m) c = T42 m c :=
  congrArg (fun V : Valuation τ sig (Elt F) => StableHlo.after hostOps11 (V)) (eq41 m c)
theorem off43 (c : Dev nD) : ∀ x, x ∉ ([(main_v75 : DevRef τ sig)] : List (DevRef τ sig)) → T43 m c x = T42 m c x := fun x hx => by
  unfold T43
  rw [Function.update_of_ne (show x ≠ (main_v75 : DevRef τ sig) from fun e => hx (mem_of_eq e (by simp)))]
theorem eq43 (c : Dev nD) : V43 m (outs m) c = T43 m c := by
  unfold V43
  rw [eq42 m c, outs_43 m main_v75]
  exact (funext fun x => (fold_step _ (off43 m c)) x List.not_mem_nil).symm
theorem eq44 (c : Dev nD) : V44 m (outs m) c = T44 m c :=
  congrArg (fun V : Valuation τ sig (Elt F) => StableHlo.after hostOps12 (V)) (eq43 m c)

end Cert.KernelIdeal.Talk

end
-- ==== Proof.KernelIdeal.Run.lean ====
/-
  The run of the whole program: every execution ends, with every unscoped buffer at the contents written out before it and
  every semaphore at zero.
-/
module

public import proofs.«01_k».proof.Proof.KernelIdeal.Vals

@[expose] public section

set_option Elab.async false
set_option maxRecDepth 4000

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SiteBlocks (L lv Above mem_L above_zero)
open Idealize.ShloMosaic.TalkSites (tallyL)
open Idealize.ShloMosaic.Pipeline (Dat Seg RegionSeg)
open Idealize.ShloMosaic.SiteBlocks (hL)
open Idealize.ShloMosaic.Rounds (initOf)
open Cert.KernelIdeal Cert.KernelIdeal.Gen
open Cert.Hop (rt lt lt_rt rt_lt)

variable {F : FTy → Type} [FloatOps F]

local notation "𝕄" => MT nD τ sig ℕ (Elt F) ℕ UU ℕ

variable (m : (ℓ : Loc nD τ sig) → Buf (Elt F) ℓ)

theorem dev_not_mem {r : Ref sig .tc} {l : List (Ref sig .tc)} (h : r ∉ l) : (r : DevRef τ sig) ∉ l.map (fun r : Ref sig .tc => (r : DevRef τ sig)) := fun hm => by
  obtain ⟨r', hr', e⟩ := List.mem_map.mp hm
  by_cases he : r = r'
  · subst he; exact h hr'
  · exact ne_of he e.symm

/-! ## How each launch changes the contents -/

theorem X3_eq : (contents m).X3 = src7 m := by dsimp only [contents]
theorem X4_eq : (contents m).X4 = src10 m := by dsimp only [contents]
theorem src7_eq (c : Dev nD) : T35 m c main_v64 = src7 m c := by rw [src7]
theorem src10_eq (c : Dev nD) : T39 m c main_v72 = src10 m c := by rw [src10]

theorem rel0 : Rel0 (contents m) (V7 m) (T8 m) where
  a _ := rfl
  b _ := rfl
  a' c := by unfold T8; rw [Function.update_of_ne (ne_of (by decide)), Function.update_of_ne (ne_of (by decide))]; rfl
  b' c := by unfold T8; rw [Function.update_of_ne (ne_of (by decide)), Function.update_of_ne (ne_of (by decide))]; rfl
  oa c := by unfold T8; rw [Function.update_of_ne (ne_of (by decide)), Function.update_self]; rfl
  ob c := by unfold T8; rw [Function.update_self]; rfl
  off c r h := off8 m c r (dev_not_mem h)

theorem rel2 : Rel2 (contents m) (T15 m) (T17 m) where
  a _ := rfl
  b _ := rfl
  a' c := by unfold T17; rw [Function.update_of_ne (ne_of (by decide)), Function.update_of_ne (ne_of (by decide))]; rfl
  b' c := by unfold T17; rw [Function.update_of_ne (ne_of (by decide)), Function.update_of_ne (ne_of (by decide))]; rfl
  oa c := by unfold T17; rw [Function.update_of_ne (ne_of (by decide)), Function.update_self]; rfl
  ob c := by unfold T17; rw [Function.update_self]; rfl
  off c r h := off17 m c r (dev_not_mem h)

theorem rel4 : Rel4 (contents m) (T24 m) (T26 m) where
  a _ := rfl
  b _ := rfl
  a' c := by unfold T26; rw [Function.update_of_ne (ne_of (by decide)), Function.update_of_ne (ne_of (by decide))]; rfl
  b' c := by unfold T26; rw [Function.update_of_ne (ne_of (by decide)), Function.update_of_ne (ne_of (by decide))]; rfl
  oa c := by unfold T26; rw [Function.update_of_ne (ne_of (by decide)), Function.update_self]; rfl
  ob c := by unfold T26; rw [Function.update_self]; rfl
  off c r h := off26 m c r (dev_not_mem h)

theorem rel7 : Rel7 (contents m) (T35 m) (T37 m) where
  src c := by rw [X3_eq]; exact src7_eq m c
  src' c := by rw [X3_eq, ← src7_eq]; unfold T37; rw [Function.update_of_ne (ne_of (by decide))]
  out c := by rw [X3_eq]; unfold T37; rw [Function.update_self]
  off c r h := off37 m c r (dev_not_mem h)

theorem rel10 : Rel10 (contents m) (T39 m) (T41 m) where
  src c := by rw [X4_eq]; exact src10_eq m c
  src' c := by rw [X4_eq, ← src10_eq]; unfold T41; rw [Function.update_of_ne (ne_of (by decide))]
  out c := by rw [X4_eq]; unfold T41; rw [Function.update_self]
  off c r h := off41 m c r (dev_not_mem h)

theorem rel8 : Rel8 (contents m) (T37 m) (T38 m) where
  src c := by rw [X3_eq]; unfold T37; rw [Function.update_self]
  old _ := rfl
  src' c := by rw [X3_eq]; unfold T38; rw [Function.update_of_ne (ne_of (by decide))]; unfold T37; rw [Function.update_self]
  out c := by rw [X3_eq]; unfold T38; rw [Function.update_self]
  off c r h := off38 m c r (dev_not_mem h)

theorem rel11 : Rel11 (contents m) (T42 m) (T43 m) where
  src _ := rfl
  old _ := rfl
  src' c := by unfold T43; rw [Function.update_of_ne (ne_of (by decide))]; rfl
  out c := by unfold T43; rw [Function.update_self]; rfl
  off c r h := off43 m c r (dev_not_mem h)

/-! ## The launches between the generated valuations -/

abbrev seg0 : Pipeline.RegionSeg (pcfgs (F := F)) adm (pdats (contents m)) 0 (defs₀ (F := F)) Variants.none (L 11) lv 0 := reg0 (contents m) (rel0 m)
theorem pre0' (c : Dev nD) : iprop(StableHlo.held (c : Thread nD τ) (Pipeline.ucRefs τ sig) (V7 m c) ∗ E (contents m) 0 c) ⊢ (seg0 m).pre c := by
  exact reg0_pre (contents m) (rel0 m) c
theorem post0' (c : Dev nD) : (seg0 m).post c ⊢ iprop(StableHlo.held (c : Thread nD τ) (Pipeline.ucRefs τ sig) (V8 m (outs m) c) ∗ E (contents m) 1 c) := by
  rw [eq8 m c]
  exact reg0_post (contents m) (rel0 m) c

abbrev seg1 : Pipeline.RegionSeg (pcfgs (F := F)) adm (pdats (contents m)) 0 (defs₀ (F := F)) Variants.none (L 11) lv 1 := reg1 (contents m) (T15 m)
theorem pre1' (c : Dev nD) : iprop(StableHlo.held (c : Thread nD τ) (Pipeline.ucRefs τ sig) (V15 m (outs m) c) ∗ E (contents m) 1 c) ⊢ (seg1 m).pre c := by
  rw [eq15 m c]
  exact reg1_pre (contents m) (T15 m) c
theorem post1' (c : Dev nD) : (seg1 m).post c ⊢ iprop(StableHlo.held (c : Thread nD τ) (Pipeline.ucRefs τ sig) (V16 m (outs m) c) ∗ E (contents m) 2 c) := by
  rw [eq16 m c]
  exact reg1_post (contents m) (T15 m) c

abbrev seg2 : Pipeline.RegionSeg (pcfgs (F := F)) adm (pdats (contents m)) 0 (defs₀ (F := F)) Variants.none (L 11) lv 2 := reg2 (contents m) (rel2 m)
theorem pre2' (c : Dev nD) : iprop(StableHlo.held (c : Thread nD τ) (Pipeline.ucRefs τ sig) (V16 m (outs m) c) ∗ E (contents m) 2 c) ⊢ (seg2 m).pre c := by
  rw [eq16 m c]
  exact reg2_pre (contents m) (rel2 m) c
theorem post2' (c : Dev nD) : (seg2 m).post c ⊢ iprop(StableHlo.held (c : Thread nD τ) (Pipeline.ucRefs τ sig) (V17 m (outs m) c) ∗ E (contents m) 3 c) := by
  rw [eq17 m c]
  exact reg2_post (contents m) (rel2 m) c

abbrev seg3 : Pipeline.RegionSeg (pcfgs (F := F)) adm (pdats (contents m)) 0 (defs₀ (F := F)) Variants.none (L 11) lv 3 := reg3 (contents m) (T24 m)
theorem pre3' (c : Dev nD) : iprop(StableHlo.held (c : Thread nD τ) (Pipeline.ucRefs τ sig) (V24 m (outs m) c) ∗ E (contents m) 3 c) ⊢ (seg3 m).pre c := by
  rw [eq24 m c]
  exact reg3_pre (contents m) (T24 m) c
theorem post3' (c : Dev nD) : (seg3 m).post c ⊢ iprop(StableHlo.held (c : Thread nD τ) (Pipeline.ucRefs τ sig) (V25 m (outs m) c) ∗ E (contents m) 4 c) := by
  rw [eq25 m c]
  exact reg3_post (contents m) (T24 m) c

abbrev seg4 : Pipeline.RegionSeg (pcfgs (F := F)) adm (pdats (contents m)) 0 (defs₀ (F := F)) Variants.none (L 11) lv 4 := reg4 (contents m) (rel4 m)
theorem pre4' (c : Dev nD) : iprop(StableHlo.held (c : Thread nD τ) (Pipeline.ucRefs τ sig) (V25 m (outs m) c) ∗ E (contents m) 4 c) ⊢ (seg4 m).pre c := by
  rw [eq25 m c]
  exact reg4_pre (contents m) (rel4 m) c
theorem post4' (c : Dev nD) : (seg4 m).post c ⊢ iprop(StableHlo.held (c : Thread nD τ) (Pipeline.ucRefs τ sig) (V26 m (outs m) c) ∗ E (contents m) 5 c) := by
  rw [eq26 m c]
  exact reg4_post (contents m) (rel4 m) c

abbrev seg5 : Pipeline.RegionSeg (pcfgs (F := F)) adm (pdats (contents m)) 0 (defs₀ (F := F)) Variants.none (L 11) lv 5 := reg5 (contents m) (T33 m)
theorem pre5' (c : Dev nD) : iprop(StableHlo.held (c : Thread nD τ) (Pipeline.ucRefs τ sig) (V33 m (outs m) c) ∗ E (contents m) 5 c) ⊢ (seg5 m).pre c := by
  rw [eq33 m c]
  exact reg5_pre (contents m) (T33 m) c
theorem post5' (c : Dev nD) : (seg5 m).post c ⊢ iprop(StableHlo.held (c : Thread nD τ) (Pipeline.ucRefs τ sig) (V34 m (outs m) c) ∗ E (contents m) 6 c) := by
  rw [eq34 m c]
  exact reg5_post (contents m) (T33 m) c

abbrev seg6 : Pipeline.RegionSeg (pcfgs (F := F)) adm (pdats (contents m)) 0 (defs₀ (F := F)) Variants.none (L 11) lv 6 := reg6 (contents m) (T35 m)
theorem pre6' (c : Dev nD) : iprop(StableHlo.held (c : Thread nD τ) (Pipeline.ucRefs τ sig) (V35 m (outs m) c) ∗ E (contents m) 6 c) ⊢ (seg6 m).pre c := by
  rw [eq35 m c]
  exact reg6_pre (contents m) (T35 m) c
theorem post6' (c : Dev nD) : (seg6 m).post c ⊢ iprop(StableHlo.held (c : Thread nD τ) (Pipeline.ucRefs τ sig) (V36 m (outs m) c) ∗ E (contents m) 7 c) := by
  rw [eq36 m c]
  exact reg6_post (contents m) (T35 m) c

abbrev seg7 : Pipeline.RegionSeg (pcfgs (F := F)) adm (pdats (contents m)) 0 (defs₀ (F := F)) Variants.none (L 11) lv 7 := reg7 (contents m) (rel7 m)
theorem pre7' (c : Dev nD) : iprop(StableHlo.held (c : Thread nD τ) (Pipeline.ucRefs τ sig) (V36 m (outs m) c) ∗ E (contents m) 7 c) ⊢ (seg7 m).pre c := by
  rw [eq36 m c]
  exact reg7_pre (contents m) (rel7 m) c
theorem post7' (c : Dev nD) : (seg7 m).post c ⊢ iprop(StableHlo.held (c : Thread nD τ) (Pipeline.ucRefs τ sig) (V37 m (outs m) c) ∗ E (contents m) 8 c) := by
  rw [eq37 m c]
  exact reg7_post (contents m) (rel7 m) c

abbrev seg8 : Pipeline.RegionSeg (pcfgs (F := F)) adm (pdats (contents m)) 0 (defs₀ (F := F)) Variants.none (L 11) lv 8 := reg8 (contents m) (rel8 m)
theorem pre8' (c : Dev nD) : iprop(StableHlo.held (c : Thread nD τ) (Pipeline.ucRefs τ sig) (V37 m (outs m) c) ∗ E (contents m) 8 c) ⊢ (seg8 m).pre c := by
  rw [eq37 m c]
  exact reg8_pre (contents m) (rel8 m) c
theorem post8' (c : Dev nD) : (seg8 m).post c ⊢ iprop(StableHlo.held (c : Thread nD τ) (Pipeline.ucRefs τ sig) (V38 m (outs m) c) ∗ E (contents m) 9 c) := by
  rw [eq38 m c]
  exact reg8_post (contents m) (rel8 m) c

abbrev seg9 : Pipeline.RegionSeg (pcfgs (F := F)) adm (pdats (contents m)) 0 (defs₀ (F := F)) Variants.none (L 11) lv 9 := reg9 (contents m) (T39 m)
theorem pre9' (c : Dev nD) : iprop(StableHlo.held (c : Thread nD τ) (Pipeline.ucRefs τ sig) (V39 m (outs m) c) ∗ E (contents m) 9 c) ⊢ (seg9 m).pre c := by
  rw [eq39 m c]
  exact reg9_pre (contents m) (T39 m) c
theorem post9' (c : Dev nD) : (seg9 m).post c ⊢ iprop(StableHlo.held (c : Thread nD τ) (Pipeline.ucRefs τ sig) (V40 m (outs m) c) ∗ E (contents m) 10 c) := by
  rw [eq40 m c]
  exact reg9_post (contents m) (T39 m) c

abbrev seg10 : Pipeline.RegionSeg (pcfgs (F := F)) adm (pdats (contents m)) 0 (defs₀ (F := F)) Variants.none (L 11) lv 10 := reg10 (contents m) (rel10 m)
theorem pre10' (c : Dev nD) : iprop(StableHlo.held (c : Thread nD τ) (Pipeline.ucRefs τ sig) (V40 m (outs m) c) ∗ E (contents m) 10 c) ⊢ (seg10 m).pre c := by
  rw [eq40 m c]
  exact reg10_pre (contents m) (rel10 m) c
theorem post10' (c : Dev nD) : (seg10 m).post c ⊢ iprop(StableHlo.held (c : Thread nD τ) (Pipeline.ucRefs τ sig) (V41 m (outs m) c) ∗ E (contents m) 11 c) := by
  rw [eq41 m c]
  exact reg10_post (contents m) (rel10 m) c

abbrev seg11 : Pipeline.RegionSeg (pcfgs (F := F)) adm (pdats (contents m)) 0 (defs₀ (F := F)) Variants.none (L 11) lv 11 := reg11 (contents m) (rel11 m)
theorem pre11' (c : Dev nD) : iprop(StableHlo.held (c : Thread nD τ) (Pipeline.ucRefs τ sig) (V42 m (outs m) c) ∗ E (contents m) 11 c) ⊢ (seg11 m).pre c := by
  rw [eq42 m c]
  exact reg11_pre (contents m) (rel11 m) c
theorem post11' (c : Dev nD) : (seg11 m).post c ⊢ iprop(StableHlo.held (c : Thread nD τ) (Pipeline.ucRefs τ sig) (V43 m (outs m) c) ∗ E (contents m) 12 c) := by
  rw [eq43 m c]
  exact reg11_post (contents m) (rel11 m) c

/-! ## The launch of the program -/

theorem unscopedSems_eq (c : Dev nD) : (unscopedSems0 c : sProp 𝕄) = iprop(bar0 c ∗ (bar1 c ∗ (bar2 c ∗ (bar3 c ∗ bar4 c)))) := by
  unfold unscopedSems0
  rw [show (Finset.univ.filter fun sm : SemLoc sig => ¬ sm.isScoped .tc) = {.reg (0 : Sem sig), .reg (1 : Sem sig), .reg (2 : Sem sig), .reg (3 : Sem sig), .reg (4 : Sem sig)} from by decide,
    bigSep_insert (by decide), bigSep_insert (by decide), bigSep_insert (by decide), bigSep_insert (by decide), bigSep_singleton]
  rfl

theorem unscoped_eq : ∀ sm : SemLoc sig, sm.isScoped .tc = false → sm = .reg (0 : Sem sig) ∨ sm = .reg (1 : Sem sig) ∨ sm = .reg (2 : Sem sig) ∨ sm = .reg (3 : Sem sig) ∨ sm = .reg (4 : Sem sig) := by decide

/-- The schedules' launch element, all on device 0. -/
def G₀ : Dev nD → sProp 𝕄 := SiteBlocks.onDev 0 (BI.own (EC (init (contents m))))
theorem G₀_all : bigSep Finset.univ (G₀ m) = (BI.own (EC (init (contents m))) : sProp 𝕄) := SiteBlocks.bigSep_onDev 0 _

abbrev Tfirst (c : Dev nD) : sProp 𝕄 := iprop(StableHlo.held (c : Thread nD τ) (Pipeline.ucRefs τ sig) (V0 m c) ∗ E (contents m) 0 c)
abbrev Tlast (c : Dev nD) : sProp 𝕄 := iprop(StableHlo.held (c : Thread nD τ) (Pipeline.ucRefs τ sig) (V44 m (outs m) c) ∗ St5 c)

/-- What the launch deals becomes every device's first state. -/
theorem deal (ρ : Dev nD → PrngReg) :
    iprop((bigSep Finset.univ fun c : Dev nD => iprop(unscopedBufs c (fun b => m ((c.tc : Thread nD τ).loc b)) ∗ unscopedSems0 c
        ∗ owes (c.tc : Thread nD τ) (O0 (contents m) c) ∅ ∗ Pipeline.launchCred (O0 (contents m)) c ∗ prngReg c (ρ c) ∗ G₀ m c)) ∗ levAts (L 11) lv)
      ⊢ (|={Set.univ}=> bigSep Finset.univ (Tfirst m) : sProp 𝕄) := by
  have h1 (c : Dev nD) : iprop(unscopedBufs c (fun b => m ((c.tc : Thread nD τ).loc b)) ∗ unscopedSems0 c ∗ owes (c.tc : Thread nD τ) (O0 (contents m) c) ∅
        ∗ Pipeline.launchCred (O0 (contents m)) c ∗ prngReg c (ρ c) ∗ G₀ m c)
      ⊢ (iprop((iprop(bar0 c ∗ (bar1 c ∗ (bar2 c ∗ (bar3 c ∗ bar4 c)))) ∗ Pipeline.launchCred (O0 (contents m)) c) ∗ G₀ m c
        ∗ (unscopedBufs c (fun b => m ((c.tc : Thread nD τ).loc b)) ∗ owes (c.tc : Thread nD τ) (O0 (contents m) c) ∅ ∗ prngReg c (ρ c))) : sProp 𝕄) := by
    rw [unscopedSems_eq c]
    iintro ⟨HB, HS, HO, HC, HP, HG⟩
    isplitl [HS HC]
    · isplitl [HS]; · iexact HS
      iexact HC
    isplitl [HG]; · iexact HG
    isplitl [HB]; · iexact HB
    isplitl [HO]; · iexact HO
    iexact HP
  have h2 (c : Dev nD) : iprop(iprop(rides0 (contents m) c ∗ (rides1 (contents m) c ∗ (rides2 (contents m) c ∗ (rides3 (contents m) c ∗ rides4 (contents m) c))))
        ∗ (unscopedBufs c (fun b => m ((c.tc : Thread nD τ).loc b)) ∗ owes (c.tc : Thread nD τ) (O0 (contents m) c) ∅ ∗ prngReg c (ρ c))) ⊢ Tfirst m c := by
    show _ ⊢ iprop(StableHlo.held (c : Thread nD τ) (Pipeline.ucRefs τ sig) (V0 m c) ∗ (∃ r, prngReg c r) ∗ St0 (contents m) c ∗ ∃ W, owes (c : Thread nD τ) (O0 (contents m) c) W)
    rw [← Pipeline.unscopedBufs_held (Ix := ℕ) (Name := ℕ) (U := UU) (Lvl := ℕ) c (V0 m c)]
    unfold St0
    iintro ⟨HR, HB, HO, HP⟩
    isplitl [HB]; · iexact HB
    isplitl [HP]; · iexists (ρ c); iexact HP
    isplitl [HR]; · iexact HR
    iexists ∅
    iexact HO
  iintro ⟨H, -⟩
  ihave H' := (show _ ⊢ iprop((bigSep Finset.univ fun c : Dev nD => iprop(iprop(bar0 c ∗ (bar1 c ∗ (bar2 c ∗ (bar3 c ∗ bar4 c)))) ∗ Pipeline.launchCred (O0 (contents m)) c))
        ∗ bigSep Finset.univ (G₀ m)
        ∗ bigSep Finset.univ fun c : Dev nD => iprop(unscopedBufs c (fun b => m ((c.tc : Thread nD τ).loc b)) ∗ owes (c.tc : Thread nD τ) (O0 (contents m) c) ∅ ∗ prngReg c (ρ c)))
      from by rw [← bigSep_sep', ← bigSep_sep']; exact bigSep_mono fun c _ => h1 c) $$ H
  icases H' with ⟨Hsc, HG, Hrest⟩
  ihave Hu := (Entails.of_eq (G₀_all m)) $$ HG
  imod (fund (contents m) (Es := Set.univ)) $$ [Hsc Hu] with Hr
  · isplitl [Hsc]; · iexact Hsc
    iexact Hu
  imodintro
  iapply (show iprop((bigSep Finset.univ fun c : Dev nD => iprop(rides0 (contents m) c ∗ (rides1 (contents m) c ∗ (rides2 (contents m) c ∗ (rides3 (contents m) c ∗ rides4 (contents m) c)))))
        ∗ bigSep Finset.univ fun c : Dev nD => iprop(unscopedBufs c (fun b => m ((c.tc : Thread nD τ).loc b)) ∗ owes (c.tc : Thread nD τ) (O0 (contents m) c) ∅ ∗ prngReg c (ρ c)))
      ⊢ bigSep Finset.univ (Tfirst m) from by rw [← bigSep_sep']; exact bigSep_mono fun c _ => h2 c)
  isplitl [Hr]; · iexact Hr
  iexact Hrest

/-- At the end a device owes nothing. -/
theorem leave (c : Dev nD) : iprop(StableHlo.held (c : Thread nD τ) (Pipeline.ucRefs τ sig) (V44 m (outs m) c) ∗ E (contents m) 12 c)
    ⊢ (iprop(Tlast m c ∗ ∃ W, owes (c.tc : Thread nD τ) (0 : CellTallies nD τ sig ℕ) W) : sProp 𝕄) := by
  show iprop(_ ∗ (∃ r, prngReg c r) ∗ St5 c ∗ ∃ W, owes (c : Thread nD τ) (O5 c) W) ⊢ _
  iintro ⟨HH, -, HS, HO⟩
  isplitl [HH HS]
  · isplitl [HH]; · iexact HH
    iexact HS
  iexact HO

/-- A device's five barriers read off a state. -/
theorem bars_read (c : Dev nD) (s' : Phys nD τ sig (Elt F)) : iprop(St5 c ∗ SI s') ⊢ (iprop(⌜s'.mem.sem ((c : Thread nD τ), .reg (0 : Sem sig)) = 0 ∧ s'.mem.sem ((c : Thread nD τ), .reg (1 : Sem sig)) = 0
    ∧ s'.mem.sem ((c : Thread nD τ), .reg (2 : Sem sig)) = 0 ∧ s'.mem.sem ((c : Thread nD τ), .reg (3 : Sem sig)) = 0 ∧ s'.mem.sem ((c : Thread nD τ), .reg (4 : Sem sig)) = 0⌝ ∗ SI s') : sProp 𝕄) := by
  unfold St5 bar0 bar1 bar2 bar3 bar4
  iintro ⟨⟨H0, H1, H2, H3, H4⟩, HSI⟩
  icombine HSI H0 gives %h0
  icombine HSI H1 gives %h1
  icombine HSI H2 gives %h2
  icombine HSI H3 gives %h3
  icombine HSI H4 gives %h4
  isplitr
  · ipureintro
    exact ⟨by simpa using h0, by simpa using h1, by simpa using h2, by simpa using h3, by simpa using h4⟩
  iexact HSI

set_option backward.isDefEq.respectTransparency.types false in
/-- From any memory with all semaphores at zero, every execution ends with the result and the arguments as the last contents
    have them and every semaphore at zero. -/
theorem run (ρ : Dev nD → PrngReg) : θ_run defs (onTc (τ := τ) (main (F := F))) ⟨m, fun _ => 0, ρ⟩ (fun r => (∀ c : Dev nD,
      r.2.mem ((c.tc : Thread nD τ).loc main_v77) = V44 m (outs m) c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_regions_kit_dev_sems (pcfgs (F := F)) adm (pdats (contents m)) 0 cellOf_inj EP defs₀ Variants.none (L 11) lv m ρ main
    (segs m (outs m) Variants.none (L 11) lv (E (contents m)) 0 (pdats (contents m)) (seg0 m) (seg1 m) (seg2 m) (seg3 m) (seg4 m) (seg5 m) (seg6 m) (seg7 m) (seg8 m) (seg9 m) (seg10 m) (seg11 m))
    (fun c Q => by
      rewrite [main_chain c, Seg.run_eq_chain,
        show (segs m (outs m) Variants.none (L 11) lv (E (contents m)) 0 (pdats (contents m)) (seg0 m) (seg1 m) (seg2 m) (seg3 m) (seg4 m) (seg5 m) (seg6 m) (seg7 m) (seg8 m) (seg9 m) (seg10 m) (seg11 m) c).map Seg.prog = [
          StableHlo.seq (hostOps0 c), StableHlo.seq hostOps0_1, StableHlo.seq hostOps0_2, StableHlo.seq hostOps0_3, StableHlo.seq hostOps0_4, StableHlo.seq hostOps0_5, StableHlo.seq hostOps0_6,
          Prog.lift (.customCall (Pipeline.entry 0) ()),
          StableHlo.seq hostOps1, StableHlo.seq hostOps1_1, StableHlo.seq hostOps1_2, StableHlo.seq hostOps1_3, StableHlo.seq hostOps1_4, StableHlo.seq hostOps1_5, StableHlo.seq hostOps1_6,
          Prog.lift (.customCall (Pipeline.entry 1) ()), Prog.lift (.customCall (Pipeline.entry 2) ()),
          StableHlo.seq hostOps3, StableHlo.seq hostOps3_1, StableHlo.seq hostOps3_2, StableHlo.seq hostOps3_3, StableHlo.seq hostOps3_4, StableHlo.seq hostOps3_5, StableHlo.seq hostOps3_6,
          Prog.lift (.customCall (Pipeline.entry 3) ()), Prog.lift (.customCall (Pipeline.entry 4) ()),
          StableHlo.seq hostOps5, StableHlo.seq hostOps5_1, StableHlo.seq hostOps5_2, StableHlo.seq hostOps5_3, StableHlo.seq hostOps5_4, StableHlo.seq hostOps5_5, StableHlo.seq hostOps5_6,
          Prog.lift (.customCall (Pipeline.entry 5) ()),
          StableHlo.seq hostOps6,
          Prog.lift (.customCall (Pipeline.entry 6) ()), Prog.lift (.customCall (Pipeline.entry 7) ()), Prog.lift (.customCall (Pipeline.entry 8) ()),
          StableHlo.seq hostOps9,
          Prog.lift (.customCall (Pipeline.entry 9) ()), Prog.lift (.customCall (Pipeline.entry 10) ()),
          StableHlo.seq hostOps11,
          Prog.lift (.customCall (Pipeline.entry 11) ()),
          StableHlo.seq hostOps12] from rfl]
      dsimp (config := { failIfUnchanged := false }) only
      exact .rfl)
    (fun c => by simp only [segs, Seg.pipes_host, Seg.pipes_region, Seg.pipes_nil]; decide)
    (O₀ := O0 (contents m)) (hL := fun g h => hL 11 g h) (G := G₀ m)
    (u₀ := (initOf (Pipeline.cells (Pipeline.pin (pcfgs (F := F)) adm) cellOf_inj) (Pipeline.launchToks (Pipeline.pin (pcfgs (F := F)) adm) cellOf_inj), init (contents m)))
    (hu₀ := by
      iintro Hu
      ihave H := (ownU_pair _ _) $$ Hu
      icases H with ⟨HP, HX⟩
      imodintro
      isplitl [HP]; · iexact HP
      rw [G₀_all]; iexact HX)
    (T₀ := Tfirst m) (Tₙ := Tlast m)
    (hch := fun c => ⟨.rfl, .rfl, .rfl, .rfl, .rfl, .rfl, .rfl, pre0' m c, post0' m c, .rfl, .rfl, .rfl, .rfl, .rfl, .rfl,
      pre1' m c, (post1' m c).trans (pre2' m c), post2' m c, .rfl, .rfl, .rfl, .rfl, .rfl, .rfl, pre3' m c, (post3' m c).trans (pre4' m c), post4' m c,
      .rfl, .rfl, .rfl, .rfl, .rfl, .rfl, pre5' m c, post5' m c, pre6' m c, (post6' m c).trans (pre7' m c), (post7' m c).trans (pre8' m c), post8' m c,
      pre9' m c, (post9' m c).trans (pre10' m c), post10' m c, pre11' m c, post11' m c, leave m c⟩)
    (hinit := deal m ρ)
    (QY := fun c s => (∀ b ∈ Pipeline.ucRefs τ sig, s.mem ((c : Thread nD τ).1, b) = V44 m (outs m) c b)
      ∧ (s.sem ((c : Thread nD τ), .reg (0 : Sem sig)) = 0 ∧ s.sem ((c : Thread nD τ), .reg (1 : Sem sig)) = 0
        ∧ s.sem ((c : Thread nD τ), .reg (2 : Sem sig)) = 0 ∧ s.sem ((c : Thread nD τ), .reg (3 : Sem sig)) = 0 ∧ s.sem ((c : Thread nD τ), .reg (4 : Sem sig)) = 0))
    (hfin := fun c s' => by
      unfold Tlast StableHlo.held
      iintro ⟨⟨Hh, HS⟩, HSI⟩
      ihave Hb := (bars_read c s') $$ [HS HSI]
      · isplitl [HS] <;> iassumption
      icases Hb with ⟨%hb, HSI⟩
      ihave Hp := (pointsTo_read_all (Pipeline.ucRefs τ sig) (fun b => ((c : Thread nD τ).1, b)) (V44 m (outs m) c) s') $$ [Hh HSI]
      · isplitl [Hh] <;> iassumption
      icases Hp with ⟨%h, HSI⟩
      imodintro
      isplitr; · ipureintro; exact ⟨h, hb⟩
      iexact HSI)
    (hQ := fun s h hs => ⟨fun c => ⟨(h c).1 main_v77 (Finset.mem_filter.mpr ⟨StableHlo.devRef_mem_tcRefs main_v77, by decide⟩),
        ((h c).1 main_arg0 (Finset.mem_filter.mpr ⟨StableHlo.devRef_mem_tcRefs main_arg0, by decide⟩)).trans (V44_main_arg0 m (outs m) c),
        ((h c).1 main_arg1 (Finset.mem_filter.mpr ⟨StableHlo.devRef_mem_tcRefs main_arg1, by decide⟩)).trans (V44_main_arg1 m (outs m) c)⟩,
      sem_eq_zero hs fun c sm hsm => by
        rcases unscoped_eq sm hsm with rfl | rfl | rfl | rfl | rfl
        exacts [(h c).2.1, (h c).2.2.1, (h c).2.2.2.1, (h c).2.2.2.2.1, (h c).2.2.2.2.2]⟩)

end Cert.KernelIdeal.Talk

end
-- ==== Proof.KernelIdeal.Reads.lean ====
/-
  What the host stretches compute between the communicating calls: the chunk of the local product that a device picks by
  its own position, and the running sums after each hop.
-/
module

public import proofs.«01_k».proof.Proof.KernelIdeal.Vals
public import Idealize.ShloMosaic.Lib.StableHlo.RunClose

@[expose] public section

set_option Elab.async false
set_option maxRecDepth 4000

noncomputable section

namespace Cert.KernelIdeal.Talk

open Idealize.ShloMosaic
open Idealize.ShloMosaic.TcCoe
open Idealize.SL.Sem
open Idealize.ShloMosaic.StableHlo
open Cert.KernelIdeal Cert.KernelIdeal.Gen

variable {F : FTy → Type} [FloatOps F]

/-- The remainder as the program computes it. -/
def remV (x n : IVec S_ 32) : IVec S_ 32 :=
  let d : IVec S_ 32 := select (cmpi .eq n (constantI S_ 32 0#32)) (constantI S_ 32 1#32) n
  let r : IVec S_ 32 := Host.remsi x d
  select (andi (cmpi .ne (cmpi .slt r (constantI S_ 32 0#32)) (cmpi .slt d (constantI S_ 32 0#32))) (cmpi .ne r (constantI S_ 32 0#32))) (addi r d) r

/-- The slice of `p` that the program takes at index `w`. -/
def dynV (p : Vec F S4x1024x8192 .bf16) (w : IVec S_ 32) : Vec F S1024x8192 .bf16 :=
  shapeCast S1024x8192 (Host.dynamicSlice S1x1024x8192 p (fun k => ((![select (cmpi .slt w (constantI S_ 32 0#32)) (addi w (constantI S_ 32 4#32)) w, constantI S_ 32 0#32, constantI S_ 32 0#32] : Fin 3 → IVec S_ 32) k (Shape.Idx.first h_S_)).toInt) sliceFits_S4x1024x8192_S1x1024x8192) shapeCasts_S1x1024x8192_S1024x8192

/-- The left half of the columns. -/
def halfL (a : Vec F S1024x8192 .bf16) : Vec F S1024x4096 .bf16 := extractStridedSlice S1024x4096 ![0, 0] a slices_S1024x8192_S1024x4096_0_0

/-- The right half of the columns. -/
def halfR (a : Vec F S1024x8192 .bf16) : Vec F S1024x4096 .bf16 := extractStridedSlice S1024x4096 ![0, 4096] a slices_S1024x8192_S1024x4096_0_4096

/-! ## The calls of the remainder and of the slice -/

theorem hostOps0_1_rem (V : Valuation τ sig (Elt F)) : after hostOps0_1 V main_v9 = remV (V main_v8) (V main_c_2) := by
  after_results_simp_entrywise
  simp only [TRef.ofBuf_toBuf]
  rfl

theorem hostOps0_4_rem (V : Valuation τ sig (Elt F)) : after hostOps0_4 V main_v13 = remV (V main_v12) (V main_c_4) := by
  after_results_simp_entrywise
  simp only [TRef.ofBuf_toBuf]
  rfl

theorem hostOps0_2_dyn (V : Valuation τ sig (Elt F)) : after hostOps0_2 V main_v10 = dynV (V main_v7) (V main_v9) := by
  after_results_simp_entrywise
  simp only [TRef.ofBuf_toBuf]
  unfold dynV
  rfl

theorem hostOps0_5_dyn (V : Valuation τ sig (Elt F)) : after hostOps0_5 V main_v14 = dynV (V main_v7) (V main_v13) := by
  after_results_simp_entrywise
  simp only [TRef.ofBuf_toBuf]
  unfold dynV
  rfl

theorem hostOps1_1_rem (V : Valuation τ sig (Elt F)) : after hostOps1_1 V main_v19 = remV (V main_v18) (V main_c_7) := by
  after_results_simp_entrywise
  simp only [TRef.ofBuf_toBuf]
  rfl

theorem hostOps1_4_rem (V : Valuation τ sig (Elt F)) : after hostOps1_4 V main_v25 = remV (V main_v24) (V main_c_10) := by
  after_results_simp_entrywise
  simp only [TRef.ofBuf_toBuf]
  rfl

theorem hostOps1_2_dyn (V : Valuation τ sig (Elt F)) : after hostOps1_2 V main_v20 = dynV (V main_v7) (V main_v19) := by
  after_results_simp_entrywise
  simp only [TRef.ofBuf_toBuf]
  unfold dynV
  rfl

theorem hostOps1_5_dyn (V : Valuation τ sig (Elt F)) : after hostOps1_5 V main_v26 = dynV (V main_v7) (V main_v25) := by
  after_results_simp_entrywise
  simp only [TRef.ofBuf_toBuf]
  unfold dynV
  rfl

theorem hostOps3_1_rem (V : Valuation τ sig (Elt F)) : after hostOps3_1 V main_v33 = remV (V main_v32) (V main_c_13) := by
  after_results_simp_entrywise
  simp only [TRef.ofBuf_toBuf]
  rfl

theorem hostOps3_4_rem (V : Valuation τ sig (Elt F)) : after hostOps3_4 V main_v39 = remV (V main_v38) (V main_c_16) := by
  after_results_simp_entrywise
  simp only [TRef.ofBuf_toBuf]
  rfl

theorem hostOps3_2_dyn (V : Valuation τ sig (Elt F)) : after hostOps3_2 V main_v34 = dynV (V main_v7) (V main_v33) := by
  after_results_simp_entrywise
  simp only [TRef.ofBuf_toBuf]
  unfold dynV
  rfl

theorem hostOps3_5_dyn (V : Valuation τ sig (Elt F)) : after hostOps3_5 V main_v40 = dynV (V main_v7) (V main_v39) := by
  after_results_simp_entrywise
  simp only [TRef.ofBuf_toBuf]
  unfold dynV
  rfl

theorem hostOps5_1_rem (V : Valuation τ sig (Elt F)) : after hostOps5_1 V main_v47 = remV (V main_v46) (V main_c_19) := by
  after_results_simp_entrywise
  simp only [TRef.ofBuf_toBuf]
  rfl

theorem hostOps5_4_rem (V : Valuation τ sig (Elt F)) : after hostOps5_4 V main_v53 = remV (V main_v52) (V main_c_22) := by
  after_results_simp_entrywise
  simp only [TRef.ofBuf_toBuf]
  rfl

theorem hostOps5_2_dyn (V : Valuation τ sig (Elt F)) : after hostOps5_2 V main_v48 = dynV (V main_v7) (V main_v47) := by
  after_results_simp_entrywise
  simp only [TRef.ofBuf_toBuf]
  unfold dynV
  rfl

theorem hostOps5_5_dyn (V : Valuation τ sig (Elt F)) : after hostOps5_5 V main_v54 = dynV (V main_v7) (V main_v53) := by
  after_results_simp_entrywise
  simp only [TRef.ofBuf_toBuf]
  unfold dynV
  rfl

/-! ## The position's arithmetic -/

/-- A position as the program's word. -/
def ix (k : Fin 4) : IVec S_ 32 := constantI S_ 32 (BitVec.ofNat 32 k.val)

/-- The position `n` places after `c`. -/
def up (c : Dev nD) (n : ℕ) : Fin 4 := ⟨(c.val + n) % 4, Nat.mod_lt _ (by decide)⟩

/-- The remainder of two words as the program computes it. -/
def remS (x n : BitVec 32) : BitVec 32 :=
  let d : BitVec 32 := Scalar.select (IntOp.cmpi .eq n 0#32) 1#32 n
  let r : BitVec 32 := IntOp.remsi .host x d
  Scalar.select (IntOp.andi (IntOp.cmpi .ne (IntOp.cmpi .slt r 0#32) (IntOp.cmpi .slt d 0#32)) (IntOp.cmpi .ne r 0#32)) (IntOp.addi r d) r

theorem rem_sub1 (c : Dev nD) : remV (subi (ix c) (constantI S_ 32 1#32)) (constantI S_ 32 4#32) = ix (up c 3) := funext fun _ =>
  (by decide +kernel : ∀ c : Fin 4, remS (IntOp.subi (BitVec.ofNat 32 c.val) 1#32) 4#32 = BitVec.ofNat 32 ((c.val + 3) % 4)) c

theorem rem_add1 (c : Dev nD) : remV (addi (ix c) (constantI S_ 32 1#32)) (constantI S_ 32 4#32) = ix (up c 1) := funext fun _ =>
  (by decide +kernel : ∀ c : Fin 4, remS (IntOp.addi (BitVec.ofNat 32 c.val) 1#32) 4#32 = BitVec.ofNat 32 ((c.val + 1) % 4)) c

theorem rem_sub2_0 (c : Dev nD) : remV (subi (subi (ix c) (constantI S_ 32 2#32)) (constantI S_ 32 0#32)) (constantI S_ 32 4#32) = ix (up c 2) := funext fun _ =>
  (by decide +kernel : ∀ c : Fin 4, remS (IntOp.subi (IntOp.subi (BitVec.ofNat 32 c.val) 2#32) 0#32) 4#32 = BitVec.ofNat 32 ((c.val + 2) % 4)) c

theorem rem_add2_0 (c : Dev nD) : remV (addi (addi (ix c) (constantI S_ 32 2#32)) (constantI S_ 32 0#32)) (constantI S_ 32 4#32) = ix (up c 2) := funext fun _ =>
  (by decide +kernel : ∀ c : Fin 4, remS (IntOp.addi (IntOp.addi (BitVec.ofNat 32 c.val) 2#32) 0#32) 4#32 = BitVec.ofNat 32 ((c.val + 2) % 4)) c

theorem rem_sub2_1 (c : Dev nD) : remV (subi (subi (ix c) (constantI S_ 32 2#32)) (constantI S_ 32 1#32)) (constantI S_ 32 4#32) = ix (up c 1) := funext fun _ =>
  (by decide +kernel : ∀ c : Fin 4, remS (IntOp.subi (IntOp.subi (BitVec.ofNat 32 c.val) 2#32) 1#32) 4#32 = BitVec.ofNat 32 ((c.val + 1) % 4)) c

theorem rem_add2_1 (c : Dev nD) : remV (addi (addi (ix c) (constantI S_ 32 2#32)) (constantI S_ 32 1#32)) (constantI S_ 32 4#32) = ix (up c 3) := funext fun _ =>
  (by decide +kernel : ∀ c : Fin 4, remS (IntOp.addi (IntOp.addi (BitVec.ofNat 32 c.val) 2#32) 1#32) 4#32 = BitVec.ofNat 32 ((c.val + 3) % 4)) c

theorem rem_sub2_2 (c : Dev nD) : remV (subi (subi (ix c) (constantI S_ 32 2#32)) (constantI S_ 32 2#32)) (constantI S_ 32 4#32) = ix (up c 4) := funext fun _ =>
  (by decide +kernel : ∀ c : Fin 4, remS (IntOp.subi (IntOp.subi (BitVec.ofNat 32 c.val) 2#32) 2#32) 4#32 = BitVec.ofNat 32 ((c.val + 4) % 4)) c

theorem rem_add2_2 (c : Dev nD) : remV (addi (addi (ix c) (constantI S_ 32 2#32)) (constantI S_ 32 2#32)) (constantI S_ 32 4#32) = ix (up c 4) := funext fun _ =>
  (by decide +kernel : ∀ c : Fin 4, remS (IntOp.addi (IntOp.addi (BitVec.ofNat 32 c.val) 2#32) 2#32) 4#32 = BitVec.ofNat 32 ((c.val + 4) % 4)) c

/-- The chunk of rows `k`. -/
def pick (p : Vec F S4x1024x8192 .bf16) (k : Fin 4) : Vec F S1024x8192 .bf16 := dynV p (ix k)

/-! ## One stretch after another -/

variable (V : Valuation τ sig (Elt F))

theorem hostOps0_keep_main_v4 : (after hostOps0_6 (after hostOps0_5 (after hostOps0_4 (after hostOps0_3 (after hostOps0_2 (after hostOps0_1 V)))))) main_v4 = V main_v4 :=
  (after_of_writes_sub hostOps0_6 _ hostOps0_6_writes (by decide)).trans <| (after_of_writes_sub hostOps0_5 _ hostOps0_5_writes (by decide)).trans <| (after_of_writes_sub hostOps0_4 _ hostOps0_4_writes (by decide)).trans <| (after_of_writes_sub hostOps0_3 _ hostOps0_3_writes (by decide)).trans <| (after_of_writes_sub hostOps0_2 _ hostOps0_2_writes (by decide)).trans <| after_of_writes_sub hostOps0_1 _ hostOps0_1_writes (by decide)

theorem hostOps0_keep_main_v7 : (after hostOps0_6 (after hostOps0_5 (after hostOps0_4 (after hostOps0_3 (after hostOps0_2 (after hostOps0_1 V)))))) main_v7 = V main_v7 :=
  (after_of_writes_sub hostOps0_6 _ hostOps0_6_writes (by decide)).trans <| (after_of_writes_sub hostOps0_5 _ hostOps0_5_writes (by decide)).trans <| (after_of_writes_sub hostOps0_4 _ hostOps0_4_writes (by decide)).trans <| (after_of_writes_sub hostOps0_3 _ hostOps0_3_writes (by decide)).trans <| (after_of_writes_sub hostOps0_2 _ hostOps0_2_writes (by decide)).trans <| after_of_writes_sub hostOps0_1 _ hostOps0_1_writes (by decide)

theorem hostOps0_left (c : Dev nD) (h4 : V main_v4 = ix c) (h8 : V main_v8 = subi (V main_v4) (constantI S_ 32 1#32)) (hn : V main_c_2 = constantI S_ 32 4#32) :
    (after hostOps0_6 (after hostOps0_5 (after hostOps0_4 (after hostOps0_3 (after hostOps0_2 (after hostOps0_1 V)))))) main_v11 = halfL (pick (V main_v7) (up c 3)) := by
  have e1 : (after hostOps0_1 V) main_v9 = ix (up c 3) := by rw [hostOps0_1_rem, h8, hn, h4, rem_sub1]
  have e2 : (after hostOps0_2 (after hostOps0_1 V)) main_v10 = pick (V main_v7) (up c 3) := by
    rw [hostOps0_2_dyn, e1, after_of_writes_sub hostOps0_1 _ hostOps0_1_writes (by decide)]; rfl
  rw [after_of_writes_sub hostOps0_6 _ hostOps0_6_writes (by decide), after_of_writes_sub hostOps0_5 _ hostOps0_5_writes (by decide), after_of_writes_sub hostOps0_4 _ hostOps0_4_writes (by decide)]
  rw [show after hostOps0_3 (after hostOps0_2 (after hostOps0_1 V)) main_v11 = halfL ((after hostOps0_2 (after hostOps0_1 V)) main_v10) by after_results_simp_entrywise; rfl, e2]

theorem hostOps0_right (c : Dev nD) (h4 : V main_v4 = ix c) :
    (after hostOps0_6 (after hostOps0_5 (after hostOps0_4 (after hostOps0_3 (after hostOps0_2 (after hostOps0_1 V)))))) main_v15 = halfR (pick (V main_v7) (up c 1)) := by
  have e3 : (after hostOps0_3 (after hostOps0_2 (after hostOps0_1 V))) main_v12 = addi (ix c) (constantI S_ 32 1#32) := by
    rw [show after hostOps0_3 (after hostOps0_2 (after hostOps0_1 V)) main_v12 = addi ((after hostOps0_2 (after hostOps0_1 V)) main_v4) (constantI S_ 32 1#32) by after_results_simp_entrywise,
      after_of_writes_sub hostOps0_2 _ hostOps0_2_writes (by decide), after_of_writes_sub hostOps0_1 _ hostOps0_1_writes (by decide), h4]
  have e3' : (after hostOps0_3 (after hostOps0_2 (after hostOps0_1 V))) main_c_4 = constantI S_ 32 4#32 := by after_results_simp_entrywise
  have e4 : (after hostOps0_4 (after hostOps0_3 (after hostOps0_2 (after hostOps0_1 V)))) main_v13 = ix (up c 1) := by rw [hostOps0_4_rem, e3, e3', rem_add1]
  have e5 : (after hostOps0_5 (after hostOps0_4 (after hostOps0_3 (after hostOps0_2 (after hostOps0_1 V))))) main_v14 = pick (V main_v7) (up c 1) := by
    rw [hostOps0_5_dyn, e4, after_of_writes_sub hostOps0_4 _ hostOps0_4_writes (by decide), after_of_writes_sub hostOps0_3 _ hostOps0_3_writes (by decide), after_of_writes_sub hostOps0_2 _ hostOps0_2_writes (by decide), after_of_writes_sub hostOps0_1 _ hostOps0_1_writes (by decide)]; rfl
  rw [show after hostOps0_6 (after hostOps0_5 (after hostOps0_4 (after hostOps0_3 (after hostOps0_2 (after hostOps0_1 V))))) main_v15 = halfR ((after hostOps0_5 (after hostOps0_4 (after hostOps0_3 (after hostOps0_2 (after hostOps0_1 V))))) main_v14) by after_results_simp_entrywise; rfl, e5]

theorem hostOps1_keep_main_v4 : (after hostOps1_6 (after hostOps1_5 (after hostOps1_4 (after hostOps1_3 (after hostOps1_2 (after hostOps1_1 (after hostOps1 V))))))) main_v4 = V main_v4 :=
  (after_of_writes_sub hostOps1_6 _ hostOps1_6_writes (by decide)).trans <| (after_of_writes_sub hostOps1_5 _ hostOps1_5_writes (by decide)).trans <| (after_of_writes_sub hostOps1_4 _ hostOps1_4_writes (by decide)).trans <| (after_of_writes_sub hostOps1_3 _ hostOps1_3_writes (by decide)).trans <| (after_of_writes_sub hostOps1_2 _ hostOps1_2_writes (by decide)).trans <| (after_of_writes_sub hostOps1_1 _ hostOps1_1_writes (by decide)).trans <| after_of_writes_sub hostOps1 _ hostOps1_writes (by decide)

theorem hostOps1_keep_main_v7 : (after hostOps1_6 (after hostOps1_5 (after hostOps1_4 (after hostOps1_3 (after hostOps1_2 (after hostOps1_1 (after hostOps1 V))))))) main_v7 = V main_v7 :=
  (after_of_writes_sub hostOps1_6 _ hostOps1_6_writes (by decide)).trans <| (after_of_writes_sub hostOps1_5 _ hostOps1_5_writes (by decide)).trans <| (after_of_writes_sub hostOps1_4 _ hostOps1_4_writes (by decide)).trans <| (after_of_writes_sub hostOps1_3 _ hostOps1_3_writes (by decide)).trans <| (after_of_writes_sub hostOps1_2 _ hostOps1_2_writes (by decide)).trans <| (after_of_writes_sub hostOps1_1 _ hostOps1_1_writes (by decide)).trans <| after_of_writes_sub hostOps1 _ hostOps1_writes (by decide)

theorem hostOps1_left (c : Dev nD) (h4 : V main_v4 = ix c) :
    (after hostOps1_6 (after hostOps1_5 (after hostOps1_4 (after hostOps1_3 (after hostOps1_2 (after hostOps1_1 (after hostOps1 V))))))) main_v29_0 = addf (V main_v16_0) (halfL (pick (V main_v7) (up c 2))) := by
  have e0 : (after hostOps1 V) main_v18 = subi (subi (ix c) (constantI S_ 32 2#32)) (constantI S_ 32 0#32) := by
    rw [show after hostOps1 V main_v18 = subi (subi (V main_v4) (constantI S_ 32 2#32)) (constantI S_ 32 0#32) by after_results_simp_entrywise, h4]
  have e0' : (after hostOps1 V) main_c_7 = constantI S_ 32 4#32 := by after_results_simp_entrywise
  have e1 : (after hostOps1_1 (after hostOps1 V)) main_v19 = ix (up c 2) := by rw [hostOps1_1_rem, e0, e0', rem_sub2_0]
  have e2 : (after hostOps1_2 (after hostOps1_1 (after hostOps1 V))) main_v20 = pick (V main_v7) (up c 2) := by
    rw [hostOps1_2_dyn, e1, after_of_writes_sub hostOps1_1 _ hostOps1_1_writes (by decide), after_of_writes_sub hostOps1 _ hostOps1_writes (by decide)]; rfl
  rw [show after hostOps1_6 (after hostOps1_5 (after hostOps1_4 (after hostOps1_3 (after hostOps1_2 (after hostOps1_1 (after hostOps1 V)))))) main_v29_0 = (after hostOps1_5 (after hostOps1_4 (after hostOps1_3 (after hostOps1_2 (after hostOps1_1 (after hostOps1 V)))))) main_v22 by after_results_simp_entrywise; rfl,
    after_of_writes_sub hostOps1_5 _ hostOps1_5_writes (by decide), after_of_writes_sub hostOps1_4 _ hostOps1_4_writes (by decide),
    show after hostOps1_3 (after hostOps1_2 (after hostOps1_1 (after hostOps1 V))) main_v22 = addf ((after hostOps1_2 (after hostOps1_1 (after hostOps1 V))) main_v16_0) (halfL ((after hostOps1_2 (after hostOps1_1 (after hostOps1 V))) main_v20)) by after_results_simp_entrywise; rfl,
    e2, after_of_writes_sub hostOps1_2 _ hostOps1_2_writes (by decide), after_of_writes_sub hostOps1_1 _ hostOps1_1_writes (by decide), after_of_writes_sub hostOps1 _ hostOps1_writes (by decide)]

theorem hostOps1_right (c : Dev nD) (h4 : V main_v4 = ix c) :
    (after hostOps1_6 (after hostOps1_5 (after hostOps1_4 (after hostOps1_3 (after hostOps1_2 (after hostOps1_1 (after hostOps1 V))))))) main_v29_1 = addf (V main_v16_1) (halfR (pick (V main_v7) (up c 2))) := by
  have e3 : (after hostOps1_3 (after hostOps1_2 (after hostOps1_1 (after hostOps1 V)))) main_v24 = addi (addi (ix c) (constantI S_ 32 2#32)) (constantI S_ 32 0#32) := by
    rw [show after hostOps1_3 (after hostOps1_2 (after hostOps1_1 (after hostOps1 V))) main_v24 = addi (addi ((after hostOps1_2 (after hostOps1_1 (after hostOps1 V))) main_v4) (constantI S_ 32 2#32)) (constantI S_ 32 0#32) by after_results_simp_entrywise,
      after_of_writes_sub hostOps1_2 _ hostOps1_2_writes (by decide), after_of_writes_sub hostOps1_1 _ hostOps1_1_writes (by decide), after_of_writes_sub hostOps1 _ hostOps1_writes (by decide), h4]
  have e3' : (after hostOps1_3 (after hostOps1_2 (after hostOps1_1 (after hostOps1 V)))) main_c_10 = constantI S_ 32 4#32 := by after_results_simp_entrywise
  have e4 : (after hostOps1_4 (after hostOps1_3 (after hostOps1_2 (after hostOps1_1 (after hostOps1 V))))) main_v25 = ix (up c 2) := by rw [hostOps1_4_rem, e3, e3', rem_add2_0]
  have e5 : (after hostOps1_5 (after hostOps1_4 (after hostOps1_3 (after hostOps1_2 (after hostOps1_1 (after hostOps1 V)))))) main_v26 = pick (V main_v7) (up c 2) := by
    rw [hostOps1_5_dyn, e4, after_of_writes_sub hostOps1_4 _ hostOps1_4_writes (by decide), after_of_writes_sub hostOps1_3 _ hostOps1_3_writes (by decide), after_of_writes_sub hostOps1_2 _ hostOps1_2_writes (by decide), after_of_writes_sub hostOps1_1 _ hostOps1_1_writes (by decide), after_of_writes_sub hostOps1 _ hostOps1_writes (by decide)]; rfl
  rw [show after hostOps1_6 (after hostOps1_5 (after hostOps1_4 (after hostOps1_3 (after hostOps1_2 (after hostOps1_1 (after hostOps1 V)))))) main_v29_1 = addf ((after hostOps1_5 (after hostOps1_4 (after hostOps1_3 (after hostOps1_2 (after hostOps1_1 (after hostOps1 V)))))) main_v16_1) (halfR ((after hostOps1_5 (after hostOps1_4 (after hostOps1_3 (after hostOps1_2 (after hostOps1_1 (after hostOps1 V)))))) main_v26)) by after_results_simp_entrywise; rfl,
    e5, after_of_writes_sub hostOps1_5 _ hostOps1_5_writes (by decide), after_of_writes_sub hostOps1_4 _ hostOps1_4_writes (by decide), after_of_writes_sub hostOps1_3 _ hostOps1_3_writes (by decide), after_of_writes_sub hostOps1_2 _ hostOps1_2_writes (by decide), after_of_writes_sub hostOps1_1 _ hostOps1_1_writes (by decide), after_of_writes_sub hostOps1 _ hostOps1_writes (by decide)]

theorem hostOps3_keep_main_v4 : (after hostOps3_6 (after hostOps3_5 (after hostOps3_4 (after hostOps3_3 (after hostOps3_2 (after hostOps3_1 (after hostOps3 V))))))) main_v4 = V main_v4 :=
  (after_of_writes_sub hostOps3_6 _ hostOps3_6_writes (by decide)).trans <| (after_of_writes_sub hostOps3_5 _ hostOps3_5_writes (by decide)).trans <| (after_of_writes_sub hostOps3_4 _ hostOps3_4_writes (by decide)).trans <| (after_of_writes_sub hostOps3_3 _ hostOps3_3_writes (by decide)).trans <| (after_of_writes_sub hostOps3_2 _ hostOps3_2_writes (by decide)).trans <| (after_of_writes_sub hostOps3_1 _ hostOps3_1_writes (by decide)).trans <| after_of_writes_sub hostOps3 _ hostOps3_writes (by decide)

theorem hostOps3_keep_main_v7 : (after hostOps3_6 (after hostOps3_5 (after hostOps3_4 (after hostOps3_3 (after hostOps3_2 (after hostOps3_1 (after hostOps3 V))))))) main_v7 = V main_v7 :=
  (after_of_writes_sub hostOps3_6 _ hostOps3_6_writes (by decide)).trans <| (after_of_writes_sub hostOps3_5 _ hostOps3_5_writes (by decide)).trans <| (after_of_writes_sub hostOps3_4 _ hostOps3_4_writes (by decide)).trans <| (after_of_writes_sub hostOps3_3 _ hostOps3_3_writes (by decide)).trans <| (after_of_writes_sub hostOps3_2 _ hostOps3_2_writes (by decide)).trans <| (after_of_writes_sub hostOps3_1 _ hostOps3_1_writes (by decide)).trans <| after_of_writes_sub hostOps3 _ hostOps3_writes (by decide)

theorem hostOps3_left (c : Dev nD) (h4 : V main_v4 = ix c) :
    (after hostOps3_6 (after hostOps3_5 (after hostOps3_4 (after hostOps3_3 (after hostOps3_2 (after hostOps3_1 (after hostOps3 V))))))) main_v43_0 = addf (V main_v30_0) (halfL (pick (V main_v7) (up c 1))) := by
  have e0 : (after hostOps3 V) main_v32 = subi (subi (ix c) (constantI S_ 32 2#32)) (constantI S_ 32 1#32) := by
    rw [show after hostOps3 V main_v32 = subi (subi (V main_v4) (constantI S_ 32 2#32)) (constantI S_ 32 1#32) by after_results_simp_entrywise, h4]
  have e0' : (after hostOps3 V) main_c_13 = constantI S_ 32 4#32 := by after_results_simp_entrywise
  have e1 : (after hostOps3_1 (after hostOps3 V)) main_v33 = ix (up c 1) := by rw [hostOps3_1_rem, e0, e0', rem_sub2_1]
  have e2 : (after hostOps3_2 (after hostOps3_1 (after hostOps3 V))) main_v34 = pick (V main_v7) (up c 1) := by
    rw [hostOps3_2_dyn, e1, after_of_writes_sub hostOps3_1 _ hostOps3_1_writes (by decide), after_of_writes_sub hostOps3 _ hostOps3_writes (by decide)]; rfl
  rw [show after hostOps3_6 (after hostOps3_5 (after hostOps3_4 (after hostOps3_3 (after hostOps3_2 (after hostOps3_1 (after hostOps3 V)))))) main_v43_0 = (after hostOps3_5 (after hostOps3_4 (after hostOps3_3 (after hostOps3_2 (after hostOps3_1 (after hostOps3 V)))))) main_v36 by after_results_simp_entrywise; rfl,
    after_of_writes_sub hostOps3_5 _ hostOps3_5_writes (by decide), after_of_writes_sub hostOps3_4 _ hostOps3_4_writes (by decide),
    show after hostOps3_3 (after hostOps3_2 (after hostOps3_1 (after hostOps3 V))) main_v36 = addf ((after hostOps3_2 (after hostOps3_1 (after hostOps3 V))) main_v30_0) (halfL ((after hostOps3_2 (after hostOps3_1 (after hostOps3 V))) main_v34)) by after_results_simp_entrywise; rfl,
    e2, after_of_writes_sub hostOps3_2 _ hostOps3_2_writes (by decide), after_of_writes_sub hostOps3_1 _ hostOps3_1_writes (by decide), after_of_writes_sub hostOps3 _ hostOps3_writes (by decide)]

theorem hostOps3_right (c : Dev nD) (h4 : V main_v4 = ix c) :
    (after hostOps3_6 (after hostOps3_5 (after hostOps3_4 (after hostOps3_3 (after hostOps3_2 (after hostOps3_1 (after hostOps3 V))))))) main_v43_1 = addf (V main_v30_1) (halfR (pick (V main_v7) (up c 3))) := by
  have e3 : (after hostOps3_3 (after hostOps3_2 (after hostOps3_1 (after hostOps3 V)))) main_v38 = addi (addi (ix c) (constantI S_ 32 2#32)) (constantI S_ 32 1#32) := by
    rw [show after hostOps3_3 (after hostOps3_2 (after hostOps3_1 (after hostOps3 V))) main_v38 = addi (addi ((after hostOps3_2 (after hostOps3_1 (after hostOps3 V))) main_v4) (constantI S_ 32 2#32)) (constantI S_ 32 1#32) by after_results_simp_entrywise,
      after_of_writes_sub hostOps3_2 _ hostOps3_2_writes (by decide), after_of_writes_sub hostOps3_1 _ hostOps3_1_writes (by decide), after_of_writes_sub hostOps3 _ hostOps3_writes (by decide), h4]
  have e3' : (after hostOps3_3 (after hostOps3_2 (after hostOps3_1 (after hostOps3 V)))) main_c_16 = constantI S_ 32 4#32 := by after_results_simp_entrywise
  have e4 : (after hostOps3_4 (after hostOps3_3 (after hostOps3_2 (after hostOps3_1 (after hostOps3 V))))) main_v39 = ix (up c 3) := by rw [hostOps3_4_rem, e3, e3', rem_add2_1]
  have e5 : (after hostOps3_5 (after hostOps3_4 (after hostOps3_3 (after hostOps3_2 (after hostOps3_1 (after hostOps3 V)))))) main_v40 = pick (V main_v7) (up c 3) := by
    rw [hostOps3_5_dyn, e4, after_of_writes_sub hostOps3_4 _ hostOps3_4_writes (by decide), after_of_writes_sub hostOps3_3 _ hostOps3_3_writes (by decide), after_of_writes_sub hostOps3_2 _ hostOps3_2_writes (by decide), after_of_writes_sub hostOps3_1 _ hostOps3_1_writes (by decide), after_of_writes_sub hostOps3 _ hostOps3_writes (by decide)]; rfl
  rw [show after hostOps3_6 (after hostOps3_5 (after hostOps3_4 (after hostOps3_3 (after hostOps3_2 (after hostOps3_1 (after hostOps3 V)))))) main_v43_1 = addf ((after hostOps3_5 (after hostOps3_4 (after hostOps3_3 (after hostOps3_2 (after hostOps3_1 (after hostOps3 V)))))) main_v30_1) (halfR ((after hostOps3_5 (after hostOps3_4 (after hostOps3_3 (after hostOps3_2 (after hostOps3_1 (after hostOps3 V)))))) main_v40)) by after_results_simp_entrywise; rfl,
    e5, after_of_writes_sub hostOps3_5 _ hostOps3_5_writes (by decide), after_of_writes_sub hostOps3_4 _ hostOps3_4_writes (by decide), after_of_writes_sub hostOps3_3 _ hostOps3_3_writes (by decide), after_of_writes_sub hostOps3_2 _ hostOps3_2_writes (by decide), after_of_writes_sub hostOps3_1 _ hostOps3_1_writes (by decide), after_of_writes_sub hostOps3 _ hostOps3_writes (by decide)]

theorem hostOps5_keep_main_v4 : (after hostOps5_6 (after hostOps5_5 (after hostOps5_4 (after hostOps5_3 (after hostOps5_2 (after hostOps5_1 (after hostOps5 V))))))) main_v4 = V main_v4 :=
  (after_of_writes_sub hostOps5_6 _ hostOps5_6_writes (by decide)).trans <| (after_of_writes_sub hostOps5_5 _ hostOps5_5_writes (by decide)).trans <| (after_of_writes_sub hostOps5_4 _ hostOps5_4_writes (by decide)).trans <| (after_of_writes_sub hostOps5_3 _ hostOps5_3_writes (by decide)).trans <| (after_of_writes_sub hostOps5_2 _ hostOps5_2_writes (by decide)).trans <| (after_of_writes_sub hostOps5_1 _ hostOps5_1_writes (by decide)).trans <| after_of_writes_sub hostOps5 _ hostOps5_writes (by decide)

theorem hostOps5_keep_main_v7 : (after hostOps5_6 (after hostOps5_5 (after hostOps5_4 (after hostOps5_3 (after hostOps5_2 (after hostOps5_1 (after hostOps5 V))))))) main_v7 = V main_v7 :=
  (after_of_writes_sub hostOps5_6 _ hostOps5_6_writes (by decide)).trans <| (after_of_writes_sub hostOps5_5 _ hostOps5_5_writes (by decide)).trans <| (after_of_writes_sub hostOps5_4 _ hostOps5_4_writes (by decide)).trans <| (after_of_writes_sub hostOps5_3 _ hostOps5_3_writes (by decide)).trans <| (after_of_writes_sub hostOps5_2 _ hostOps5_2_writes (by decide)).trans <| (after_of_writes_sub hostOps5_1 _ hostOps5_1_writes (by decide)).trans <| after_of_writes_sub hostOps5 _ hostOps5_writes (by decide)

theorem hostOps5_left (c : Dev nD) (h4 : V main_v4 = ix c) :
    (after hostOps5_6 (after hostOps5_5 (after hostOps5_4 (after hostOps5_3 (after hostOps5_2 (after hostOps5_1 (after hostOps5 V))))))) main_v57_0 = addf (V main_v44_0) (halfL (pick (V main_v7) (up c 4))) := by
  have e0 : (after hostOps5 V) main_v46 = subi (subi (ix c) (constantI S_ 32 2#32)) (constantI S_ 32 2#32) := by
    rw [show after hostOps5 V main_v46 = subi (subi (V main_v4) (constantI S_ 32 2#32)) (constantI S_ 32 2#32) by after_results_simp_entrywise, h4]
  have e0' : (after hostOps5 V) main_c_19 = constantI S_ 32 4#32 := by after_results_simp_entrywise
  have e1 : (after hostOps5_1 (after hostOps5 V)) main_v47 = ix (up c 4) := by rw [hostOps5_1_rem, e0, e0', rem_sub2_2]
  have e2 : (after hostOps5_2 (after hostOps5_1 (after hostOps5 V))) main_v48 = pick (V main_v7) (up c 4) := by
    rw [hostOps5_2_dyn, e1, after_of_writes_sub hostOps5_1 _ hostOps5_1_writes (by decide), after_of_writes_sub hostOps5 _ hostOps5_writes (by decide)]; rfl
  rw [show after hostOps5_6 (after hostOps5_5 (after hostOps5_4 (after hostOps5_3 (after hostOps5_2 (after hostOps5_1 (after hostOps5 V)))))) main_v57_0 = (after hostOps5_5 (after hostOps5_4 (after hostOps5_3 (after hostOps5_2 (after hostOps5_1 (after hostOps5 V)))))) main_v50 by after_results_simp_entrywise; rfl,
    after_of_writes_sub hostOps5_5 _ hostOps5_5_writes (by decide), after_of_writes_sub hostOps5_4 _ hostOps5_4_writes (by decide),
    show after hostOps5_3 (after hostOps5_2 (after hostOps5_1 (after hostOps5 V))) main_v50 = addf ((after hostOps5_2 (after hostOps5_1 (after hostOps5 V))) main_v44_0) (halfL ((after hostOps5_2 (after hostOps5_1 (after hostOps5 V))) main_v48)) by after_results_simp_entrywise; rfl,
    e2, after_of_writes_sub hostOps5_2 _ hostOps5_2_writes (by decide), after_of_writes_sub hostOps5_1 _ hostOps5_1_writes (by decide), after_of_writes_sub hostOps5 _ hostOps5_writes (by decide)]

theorem hostOps5_right (c : Dev nD) (h4 : V main_v4 = ix c) :
    (after hostOps5_6 (after hostOps5_5 (after hostOps5_4 (after hostOps5_3 (after hostOps5_2 (after hostOps5_1 (after hostOps5 V))))))) main_v57_1 = addf (V main_v44_1) (halfR (pick (V main_v7) (up c 4))) := by
  have e3 : (after hostOps5_3 (after hostOps5_2 (after hostOps5_1 (after hostOps5 V)))) main_v52 = addi (addi (ix c) (constantI S_ 32 2#32)) (constantI S_ 32 2#32) := by
    rw [show after hostOps5_3 (after hostOps5_2 (after hostOps5_1 (after hostOps5 V))) main_v52 = addi (addi ((after hostOps5_2 (after hostOps5_1 (after hostOps5 V))) main_v4) (constantI S_ 32 2#32)) (constantI S_ 32 2#32) by after_results_simp_entrywise,
      after_of_writes_sub hostOps5_2 _ hostOps5_2_writes (by decide), after_of_writes_sub hostOps5_1 _ hostOps5_1_writes (by decide), after_of_writes_sub hostOps5 _ hostOps5_writes (by decide), h4]
  have e3' : (after hostOps5_3 (after hostOps5_2 (after hostOps5_1 (after hostOps5 V)))) main_c_22 = constantI S_ 32 4#32 := by after_results_simp_entrywise
  have e4 : (after hostOps5_4 (after hostOps5_3 (after hostOps5_2 (after hostOps5_1 (after hostOps5 V))))) main_v53 = ix (up c 4) := by rw [hostOps5_4_rem, e3, e3', rem_add2_2]
  have e5 : (after hostOps5_5 (after hostOps5_4 (after hostOps5_3 (after hostOps5_2 (after hostOps5_1 (after hostOps5 V)))))) main_v54 = pick (V main_v7) (up c 4) := by
    rw [hostOps5_5_dyn, e4, after_of_writes_sub hostOps5_4 _ hostOps5_4_writes (by decide), after_of_writes_sub hostOps5_3 _ hostOps5_3_writes (by decide), after_of_writes_sub hostOps5_2 _ hostOps5_2_writes (by decide), after_of_writes_sub hostOps5_1 _ hostOps5_1_writes (by decide), after_of_writes_sub hostOps5 _ hostOps5_writes (by decide)]; rfl
  rw [show after hostOps5_6 (after hostOps5_5 (after hostOps5_4 (after hostOps5_3 (after hostOps5_2 (after hostOps5_1 (after hostOps5 V)))))) main_v57_1 = addf ((after hostOps5_5 (after hostOps5_4 (after hostOps5_3 (after hostOps5_2 (after hostOps5_1 (after hostOps5 V)))))) main_v44_1) (halfR ((after hostOps5_5 (after hostOps5_4 (after hostOps5_3 (after hostOps5_2 (after hostOps5_1 (after hostOps5 V)))))) main_v54)) by after_results_simp_entrywise; rfl,
    e5, after_of_writes_sub hostOps5_5 _ hostOps5_5_writes (by decide), after_of_writes_sub hostOps5_4 _ hostOps5_4_writes (by decide), after_of_writes_sub hostOps5_3 _ hostOps5_3_writes (by decide), after_of_writes_sub hostOps5_2 _ hostOps5_2_writes (by decide), after_of_writes_sub hostOps5_1 _ hostOps5_1_writes (by decide), after_of_writes_sub hostOps5 _ hostOps5_writes (by decide)]

end Cert.KernelIdeal.Talk
-- ==== Proof.KernelIdeal.Sums.lean ====
/-
  What the program leaves in its result: the sums around the ring, the relu, the maxima, the quotients, step by step from
  the arguments.
-/
module

public import proofs.«01_k».proof.Proof.KernelIdeal.Reads

@[expose] public section

set_option Elab.async false
set_option maxRecDepth 4000

noncomputable section

namespace Cert.KernelIdeal.Talk

open Idealize.ShloMosaic
open Idealize.ShloMosaic.TcCoe
open Idealize.SL.Sem
open Idealize.ShloMosaic.StableHlo
open Cert.KernelIdeal Cert.KernelIdeal.Gen
open Cert.Hop (rt lt lt_rt rt_lt)

variable {F : FTy → Type} [FloatOps F]

variable (m : (ℓ : Loc nD τ sig) → Buf (Elt F) ℓ)

/-- A device's local product in four chunks of rows. -/
def part (c : Dev nD) : Vec F S4x1024x8192 .bf16 :=
  truncf .bf16 (shapeCast S4x1024x8192 (Host.dotGeneral dot_S4096x1024_S1024x8192_S4096x8192_1_0_0_1_n_n none (m ((c.tc : Thread nD τ).loc main_arg0)) (m ((c.tc : Thread nD τ).loc main_arg1)) : Vec F S4096x8192 .f32) shapeCasts_S4096x8192_S4x1024x8192) bitsLt_bf16_f32

theorem V1_v7 (c : Dev nD) : V1 m c main_v7 = part m c := by
  after_results_simp_entrywise
  rfl

theorem word_ix (c : Dev nD) : (Host.remui (Host.divui (constantI S_ 32 (Dev.word c)) (constantI S_ 32 1#32)) (constantI S_ 32 4#32) : IVec S_ 32) = ix c := funext fun _ =>
  (by decide +kernel : ∀ c : Dev nD, IntOp.remui .host (IntOp.divui .host (Dev.word c) 1#32) 4#32 = BitVec.ofNat 32 c.val) c

theorem V1_v4 (c : Dev nD) : V1 m c main_v4 = ix c := by
  after_results_simp_entrywise
  exact word_ix c

theorem V1_v8 (c : Dev nD) : V1 m c main_v8 = subi (V1 m c main_v4) (constantI S_ 32 1#32) := by
  after_results_simp_entrywise

theorem V1_c_2 (c : Dev nD) : V1 m c main_c_2 = constantI S_ 32 4#32 := by
  after_results_simp_entrywise

theorem V7_v4 (c : Dev nD) : V7 m c main_v4 = ix c := (hostOps0_keep_main_v4 (V1 m c)).trans (V1_v4 m c)

theorem V7_v7 (c : Dev nD) : V7 m c main_v7 = part m c := (hostOps0_keep_main_v7 (V1 m c)).trans (V1_v7 m c)

/-! ## The running sums -/

/-- What a device sends to its right at first. -/
def sumL0 (c : Dev nD) : Vec F S1024x4096 .bf16 := halfL (pick (part m c) (up c 3))

/-- What it has summed after hop 0. -/
def sumL1 (c : Dev nD) : Vec F S1024x4096 .bf16 := addf (sumL0 m (lt c)) (halfL (pick (part m c) (up c 2)))

/-- What it has summed after hop 1. -/
def sumL2 (c : Dev nD) : Vec F S1024x4096 .bf16 := addf (sumL1 m (lt c)) (halfL (pick (part m c) (up c 1)))

/-- What it has summed after hop 2. -/
def sumL3 (c : Dev nD) : Vec F S1024x4096 .bf16 := addf (sumL2 m (lt c)) (halfL (pick (part m c) (up c 4)))

/-- What a device sends to its left at first. -/
def sumR0 (c : Dev nD) : Vec F S1024x4096 .bf16 := halfR (pick (part m c) (up c 1))

/-- What it has summed after hop 0. -/
def sumR1 (c : Dev nD) : Vec F S1024x4096 .bf16 := addf (sumR0 m (rt c)) (halfR (pick (part m c) (up c 2)))

/-- What it has summed after hop 1. -/
def sumR2 (c : Dev nD) : Vec F S1024x4096 .bf16 := addf (sumR1 m (rt c)) (halfR (pick (part m c) (up c 3)))

/-- What it has summed after hop 2. -/
def sumR3 (c : Dev nD) : Vec F S1024x4096 .bf16 := addf (sumR2 m (rt c)) (halfR (pick (part m c) (up c 4)))

theorem V7_v11 (c : Dev nD) : V7 m c main_v11 = sumL0 m c :=
  (hostOps0_left (V1 m c) c (V1_v4 m c) (V1_v8 m c) (V1_c_2 m c)).trans (by rw [V1_v7]; rfl)

theorem V7_v15 (c : Dev nD) : V7 m c main_v15 = sumR0 m c :=
  (hostOps0_right (V1 m c) c (V1_v4 m c)).trans (by rw [V1_v7]; rfl)

theorem T8_v4 (c : Dev nD) : T8 m c main_v4 = ix c := by
  rw [T8, Function.update_of_ne (ne_of (by decide)), Function.update_of_ne (ne_of (by decide))]
  exact V7_v4 m c

theorem T8_v7 (c : Dev nD) : T8 m c main_v7 = part m c := by
  rw [T8, Function.update_of_ne (ne_of (by decide)), Function.update_of_ne (ne_of (by decide))]
  exact V7_v7 m c

theorem T8_left (c : Dev nD) : T8 m c main_v16_0 = sumL0 m (lt c) := by
  rw [T8, Function.update_of_ne (ne_of (by decide)), Function.update_self]
  exact V7_v11 m (lt c)

theorem T8_right (c : Dev nD) : T8 m c main_v16_1 = sumR0 m (rt c) := by
  rw [T8, Function.update_self]
  exact V7_v15 m (rt c)

theorem T15_v4 (c : Dev nD) : T15 m c main_v4 = ix c := (hostOps1_keep_main_v4 (T8 m c)).trans (T8_v4 m c)

theorem T15_v7 (c : Dev nD) : T15 m c main_v7 = part m c := (hostOps1_keep_main_v7 (T8 m c)).trans (T8_v7 m c)

theorem T15_v29_0 (c : Dev nD) : T15 m c main_v29_0 = sumL1 m c :=
  (hostOps1_left (T8 m c) c (T8_v4 m c)).trans (by rw [T8_v7, T8_left]; rfl)

theorem T15_v29_1 (c : Dev nD) : T15 m c main_v29_1 = sumR1 m c :=
  (hostOps1_right (T8 m c) c (T8_v4 m c)).trans (by rw [T8_v7, T8_right]; rfl)

theorem T17_v4 (c : Dev nD) : T17 m c main_v4 = ix c := by
  rw [T17, Function.update_of_ne (ne_of (by decide)), Function.update_of_ne (ne_of (by decide))]
  exact T15_v4 m c

theorem T17_v7 (c : Dev nD) : T17 m c main_v7 = part m c := by
  rw [T17, Function.update_of_ne (ne_of (by decide)), Function.update_of_ne (ne_of (by decide))]
  exact T15_v7 m c

theorem T17_left (c : Dev nD) : T17 m c main_v30_0 = sumL1 m (lt c) := by
  rw [T17, Function.update_of_ne (ne_of (by decide)), Function.update_self]
  exact T15_v29_0 m (lt c)

theorem T17_right (c : Dev nD) : T17 m c main_v30_1 = sumR1 m (rt c) := by
  rw [T17, Function.update_self]
  exact T15_v29_1 m (rt c)

theorem T24_v4 (c : Dev nD) : T24 m c main_v4 = ix c := (hostOps3_keep_main_v4 (T17 m c)).trans (T17_v4 m c)

theorem T24_v7 (c : Dev nD) : T24 m c main_v7 = part m c := (hostOps3_keep_main_v7 (T17 m c)).trans (T17_v7 m c)

theorem T24_v43_0 (c : Dev nD) : T24 m c main_v43_0 = sumL2 m c :=
  (hostOps3_left (T17 m c) c (T17_v4 m c)).trans (by rw [T17_v7, T17_left]; rfl)

theorem T24_v43_1 (c : Dev nD) : T24 m c main_v43_1 = sumR2 m c :=
  (hostOps3_right (T17 m c) c (T17_v4 m c)).trans (by rw [T17_v7, T17_right]; rfl)

theorem T26_v4 (c : Dev nD) : T26 m c main_v4 = ix c := by
  rw [T26, Function.update_of_ne (ne_of (by decide)), Function.update_of_ne (ne_of (by decide))]
  exact T24_v4 m c

theorem T26_v7 (c : Dev nD) : T26 m c main_v7 = part m c := by
  rw [T26, Function.update_of_ne (ne_of (by decide)), Function.update_of_ne (ne_of (by decide))]
  exact T24_v7 m c

theorem T26_left (c : Dev nD) : T26 m c main_v44_0 = sumL2 m (lt c) := by
  rw [T26, Function.update_of_ne (ne_of (by decide)), Function.update_self]
  exact T24_v43_0 m (lt c)

theorem T26_right (c : Dev nD) : T26 m c main_v44_1 = sumR2 m (rt c) := by
  rw [T26, Function.update_self]
  exact T24_v43_1 m (rt c)

theorem T33_v4 (c : Dev nD) : T33 m c main_v4 = ix c := (hostOps5_keep_main_v4 (T26 m c)).trans (T26_v4 m c)

theorem T33_v7 (c : Dev nD) : T33 m c main_v7 = part m c := (hostOps5_keep_main_v7 (T26 m c)).trans (T26_v7 m c)

theorem T33_v57_0 (c : Dev nD) : T33 m c main_v57_0 = sumL3 m c :=
  (hostOps5_left (T26 m c) c (T26_v4 m c)).trans (by rw [T26_v7, T26_left]; rfl)

theorem T33_v57_1 (c : Dev nD) : T33 m c main_v57_1 = sumR3 m c :=
  (hostOps5_right (T26 m c) c (T26_v4 m c)).trans (by rw [T26_v7, T26_right]; rfl)

/-! ## The relu, the maxima and the quotients -/

/-- A device's chunk of the product, after the relu. -/
def chunk (c : Dev nD) : Vec F S1024x8192 .f32 :=
  maximumf (extf .f32 (concatenate S1024x8192 1 [⟨S1024x4096, sumL3 m c⟩, ⟨S1024x4096, sumR3 m c⟩] concatenates_S1024x4096_S1024x4096_S1024x8192_d1 : Vec F S1024x8192 .bf16) bitsLt_bf16_f32)
    (broadcastInDim S1024x8192 ![] bcast_S_S1024x8192 (constant S_ .f32 0x00000000#32))

/-- The tile that a device fills with its chunk's maximum. -/
def tile (c : Dev nD) : Vec F S8x128 .f32 :=
  broadcastInDim S8x128 ![] bcast_S_S8x128 (Host.reduce FloatOps.maximumf (chunk m c) (constant S_ .f32 0xFF800000#32) reducesTo_S1024x8192_S_d0_1 h_S_)

theorem T35_v61 (c : Dev nD) : T35 m c main_v61 = chunk m c := by
  rw [T35]
  after_results_simp_entrywise
  rw [T33_v57_0, T33_v57_1]
  rfl

theorem T35_v64 (c : Dev nD) : T35 m c main_v64 = tile m c := by
  rw [T35]
  after_results_simp_entrywise
  rw [T33_v57_0, T33_v57_1, id_eq, tile, chunk]

theorem src7_tile : src7 m = tile m := funext fun d => T35_v64 m d

/-- The scale that every device computes. -/
def scale : Vec F S_ .f32 :=
  Host.divf (Host.reduce FloatOps.maximumf (Rows.stack (tile m) : Vec F S4x8x128 .f32) (constant S_ .f32 0xFF800000#32) reducesTo_S4x8x128_S_d0_1_2 h_S_) (constant S_ .f32 0x43E00000#32)

theorem T38_v61 (c : Dev nD) : T38 m c main_v61 = chunk m c := by
  rw [T38, Function.update_of_ne (ne_of (by decide)), T37, Function.update_of_ne (ne_of (by decide)), T35_v61]

theorem T38_v66 (c : Dev nD) : T38 m c main_v66 = (Rows.stack (tile m) : Vec F S4x8x128 .f32) := by
  rw [T38, Function.update_self, src7_tile]

theorem T39_v68 (c : Dev nD) : T39 m c main_v68 = scale m := by
  rw [T39]
  after_results_simp_entrywise
  rw [T38_v66]
  rfl

/-- A device's chunk of quotients. -/
def quot (c : Dev nD) : Vec F S1024x8192 .fp8e4m3 :=
  Host.convertf .fp8e4m3 (Host.divf (chunk m c) (broadcastInDim S1024x8192 ![] bcast_S_S1024x8192 (scale m)))

theorem T39_v72 (c : Dev nD) : T39 m c main_v72 = quot m c := by
  rw [T39]
  after_results_simp_entrywise
  rw [T38_v66, T38_v61]
  rfl

theorem src10_quot : src10 m = quot m := funext fun d => T39_v72 m d

theorem T42_v74 (c : Dev nD) : T42 m c main_v74 = (shapeCast S4096x8192 (Rows.stack (quot m) : Vec F S4x1024x8192 .fp8e4m3) shapeCasts_S4x1024x8192_S4096x8192 : Vec F S4096x8192 .fp8e4m3) := by
  rw [T42]
  after_results_simp_entrywise
  rw [T41, Function.update_self, src10_quot]
  rfl

theorem T43_v68 (c : Dev nD) : T43 m c main_v68 = scale m := by
  rw [T43, Function.update_of_ne (ne_of (by decide)), T42]
  after_results_simp_entrywise
  rw [T41, Function.update_of_ne (ne_of (by decide)), T39_v68]

/-- The result of every device. -/
def result : Vec F S4096x8192 .f32 :=
  mulf (extf .f32 (shapeCast S4096x8192 (Rows.stack (quot m) : Vec F S4x1024x8192 .fp8e4m3) shapeCasts_S4x1024x8192_S4096x8192 : Vec F S4096x8192 .fp8e4m3) bitsLt_fp8e4m3_f32)
    (broadcastInDim S4096x8192 ![] bcast_S_S4096x8192 (scale m))

theorem T44_v77 (c : Dev nD) : T44 m c main_v77 = result m := by
  rw [T44]
  after_results_simp_entrywise
  rw [T43_v68, T43, Function.update_self, T42_v74]
  rfl

end Cert.KernelIdeal.Talk
-- ==== Proof.Whole.lean ====
/-
  Arithmetic over the extended reals: a maximum over a whole array, a sum cut in four, and the quotient by a scale that
  the array's own maximum gives, which never exceeds 448.
-/
module

public import Idealize.ShloMosaic.PureOps.Ideal.Laws
public import Idealize.ShloMosaic.PureOps.Reduce
public import Idealize.ShloMosaic.Lib.StackMember

@[expose] public section

set_option Elab.async false

noncomputable section

namespace Cert.Whole

open Idealize.ShloMosaic
open Idealize.ShloMosaic.ValueIdx

/-- The greatest entry of an array. -/
def top {s : Shape} (x : s.Idx → EReal) : EReal := Finset.univ.sup x

/-- A reduction over every axis by maximum, from minus infinity, is the greatest entry. -/
theorem reduce_top {φ : FTy} {s u : Shape} {axes : List (Fin s.rank)} (x : s.Idx → EReal) (init : u.Idx → EReal)
    (h : s.ReducesTo axes ⟨0, ![]⟩) (hu : 0 < u.numel) (hi : init (Shape.Idx.first hu) = ⊥) (j : (⟨0, ![]⟩ : Shape).Idx) :
    Host.reduce (FloatOps.maximumf : Ideal φ → Ideal φ → Ideal φ) x init h hu j = top x := by
  show Host.reduce (max : EReal → EReal → EReal) x init h hu j = top x
  rw [Host.reduce_eq_fold, hi, Finset.filter_true_of_mem (fun i _ => funext fun a => a.elim0)]
  rfl

theorem le_top {s : Shape} (x : s.Idx → EReal) (i : s.Idx) : x i ≤ top x := Finset.le_sup (f := x) (Finset.mem_univ i)

theorem top_le {s : Shape} (x : s.Idx → EReal) (b : EReal) (h : ∀ i, x i ≤ b) : top x ≤ b := Finset.sup_le fun i _ => h i

/-- The word of minus infinity. -/
theorem negInf : Ideal.ofBits .f32 0xFF800000#32 = ⊥ := by
  simp [Ideal.ofBits, Ideal.ieee]

/-- The word of 448. -/
theorem word448 : Ideal.ofBits .f32 0x43E00000#32 = ((448 : ℝ) : EReal) := by
  simp [Ideal.ofBits, Ideal.ieee, -EReal.coe_mul]
  norm_num

/-- The word of zero. -/
theorem word0 : Ideal.ofBits .f32 0x00000000#32 = 0 := by
  simp [Ideal.ofBits, Ideal.ieee]

/-- An entry between zero and `A`, over `A` over 448, is at most 448. -/
theorem quotient_le (y A : EReal) (h0 : 0 ≤ y) (hA : y ≤ A) :
    Ideal.div y (Ideal.div A ((448 : ℝ) : EReal)) ≤ ((448 : ℝ) : EReal) := by
  have h448 : (0 : EReal) ≤ ((448 : ℝ) : EReal) := by exact_mod_cast (by norm_num : (0 : ℝ) ≤ 448)
  rw [Ideal.div_coe (by norm_num : (448 : ℝ) ≠ 0) A]
  induction A with
  | bot => exact absurd (h0.trans hA) (by simp)
  | top =>
    rw [EReal.top_mul_coe_of_pos (by norm_num : (0 : ℝ) < 1 / 448), Ideal.div, if_neg (by simp)]
    simpa using h448
  | coe A =>
    induction y with
    | bot => exact absurd h0 (by simp)
    | top => exact absurd hA (by simp)
    | coe y =>
      have h0' : 0 ≤ y := by exact_mod_cast h0
      have hA' : y ≤ A := by exact_mod_cast hA
      rw [← EReal.coe_mul]
      by_cases hz : A = 0
      · have hy : y = 0 := le_antisymm (hz ▸ hA') h0'
        subst hz hy
        simp [Ideal.div]
      · have hp : 0 < A := lt_of_le_of_ne (h0'.trans hA') (Ne.symm hz)
        rw [Ideal.div_coe (by positivity : A * (1 / 448) ≠ 0), ← EReal.coe_mul]
        have : y * (1 / (A * (1 / 448))) ≤ 448 := by
          rw [mul_one_div, div_le_iff₀ (by positivity)]
          linarith
        exact_mod_cast this

/-- A sum over 4096 places is four sums over 1024. -/
theorem sum_cut (f : Fin 4096 → EReal) :
    ∑ q : Fin 4096, f q = ∑ d : Fin 4, ∑ q : Fin 1024, f ⟨d.val * 1024 + q.val, by omega⟩ := by
  rw [← Fintype.sum_prod_type' (f := fun (d : Fin 4) (q : Fin 1024) => f ⟨d.val * 1024 + q.val, by omega⟩)]
  refine (Fintype.sum_equiv (finProdFinEquiv (m := 4) (n := 1024)) _ _ fun p => ?_).symm
  exact congrArg f (Fin.ext (by simp [finProdFinEquiv]; omega))

/-- Row `r` of chunk `k` of the rows. -/
def row (k : Fin 4) (r : Fin 1024) : Fin 4096 := ⟨k.val * 1024 + r.val, by omega⟩

/-- Every row is some row of some chunk. -/
theorem row_surj (x : Fin 4096) : ∃ k r, row k r = x :=
  ⟨⟨x.val / 1024, by omega⟩, ⟨x.val % 1024, by omega⟩, Fin.ext (by show x.val / 1024 * 1024 + x.val % 1024 = x.val; omega)⟩

/-- The relu of the whole product, at a row and a column. -/
def full (A : (⟨2, ![4096, 4096]⟩ : Shape).Idx → EReal) (B : (⟨2, ![4096, 8192]⟩ : Shape).Idx → EReal) (i : (⟨2, ![4096, 8192]⟩ : Shape).Idx) : EReal :=
  max (∑ q : Fin 4096, A (ix2 (i 0) q) * B (ix2 q (i 1))) 0

/-- The greatest entry of the relu of the whole product, over 448. -/
def scaleOf (A : (⟨2, ![4096, 4096]⟩ : Shape).Idx → EReal) (B : (⟨2, ![4096, 8192]⟩ : Shape).Idx → EReal) : EReal :=
  Ideal.div (top (full A B)) ((448 : ℝ) : EReal)

/-- An entry of the relu of the whole product over the scale, times the scale. -/
def spec (A : (⟨2, ![4096, 4096]⟩ : Shape).Idx → EReal) (B : (⟨2, ![4096, 8192]⟩ : Shape).Idx → EReal) (i : (⟨2, ![4096, 8192]⟩ : Shape).Idx) : EReal :=
  Ideal.div (full A B i) (scaleOf A B) * scaleOf A B

theorem full_nonneg (A : (⟨2, ![4096, 4096]⟩ : Shape).Idx → EReal) (B : (⟨2, ![4096, 8192]⟩ : Shape).Idx → EReal) (i : (⟨2, ![4096, 8192]⟩ : Shape).Idx) : 0 ≤ full A B i :=
  le_max_right _ _

/-- A number from zero to 448 is its sign times its absolute value clipped at 448. -/
theorem signed_clip (x : EReal) (h0 : 0 ≤ x) (hx : x ≤ ((448 : ℝ) : EReal)) : Ideal.sign x * min (max x (-x)) ((448 : ℝ) : EReal) = x := by
  have hn : -x ≤ x := le_trans (by simpa using h0) h0
  rw [max_eq_left hn, min_eq_left hx]
  induction x with
  | bot => exact absurd h0 (by simp)
  | top => exact absurd hx (by simp)
  | coe r =>
    have hr : 0 ≤ r := by exact_mod_cast h0
    rcases hr.eq_or_lt with rfl | hp
    · simp
    · rw [Ideal.sign_coe, sign_pos hp]
      simp

/-- The sign of a quotient times its clipped absolute value, times the scale, is the quotient times the scale. -/
theorem signed_quotient (A : (⟨2, ![4096, 4096]⟩ : Shape).Idx → EReal) (B : (⟨2, ![4096, 8192]⟩ : Shape).Idx → EReal) (i : (⟨2, ![4096, 8192]⟩ : Shape).Idx) :
    Ideal.sign (Ideal.div (full A B i) (scaleOf A B))
      * min (max (Ideal.div (full A B i) (scaleOf A B)) (-Ideal.div (full A B i) (scaleOf A B))) ((448 : ℝ) : EReal) * scaleOf A B = spec A B i := by
  unfold spec
  by_cases hs : scaleOf A B = 0
  · rw [hs, mul_zero, mul_zero]
  · have h448 : (0 : EReal) ≤ ((1 / 448 : ℝ) : EReal) := by exact_mod_cast (by norm_num : (0 : ℝ) ≤ 1 / 448)
    have hp : 0 ≤ scaleOf A B := by
      unfold scaleOf
      rw [Ideal.div_coe (by norm_num : (448 : ℝ) ≠ 0)]
      exact mul_nonneg ((full_nonneg A B i).trans (le_top _ i)) h448
    have hq : Ideal.div (full A B i) (scaleOf A B) ≤ ((448 : ℝ) : EReal) := quotient_le _ _ (full_nonneg A B i) (le_top _ i)
    rw [signed_clip _ ?_ hq]
    rw [Ideal.div, if_neg hs]
    exact mul_nonneg (full_nonneg A B i) (EReal.inv_nonneg_of_nonneg hp)

/-- The absolute value of an entry of the relu is the entry. -/
theorem abs_full (A : (⟨2, ![4096, 4096]⟩ : Shape).Idx → EReal) (B : (⟨2, ![4096, 8192]⟩ : Shape).Idx → EReal) (i : (⟨2, ![4096, 8192]⟩ : Shape).Idx) :
    max (full A B i) (-full A B i) = full A B i := by
  refine max_eq_left (le_trans ?_ (full_nonneg A B i))
  simpa using full_nonneg A B i

end Cert.Whole
-- ==== Proof.KernelIdeal.Entry.lean ====
/-
  The ring's sums read at an index, over the extended reals: a device's chunk is the relu of its rows of the sum of the
  four local products.
-/
module

public import proofs.«01_k».proof.Proof.KernelIdeal.Sums
public import proofs.«01_k».proof.Proof.Whole
public import Idealize.ShloMosaic.Lib.StackMember
public import Idealize.ShloMosaic.Lib.WordCmp
public import Idealize.ShloMosaic.Lib.Pipeline.Value

@[expose] public section

set_option Elab.async false
set_option maxRecDepth 4000

noncomputable section

namespace Cert.KernelIdeal.Talk

open Idealize.ShloMosaic hiding ix0 ix2 ix3
open Idealize.ShloMosaic.TcCoe
open Idealize.ShloMosaic.ValueIdx
open Idealize.ShloMosaic.StackMember (dotGeneral_plain_apply)
open Idealize.ShloMosaic.WordCmp (dynamicSlice_eq_extract)
open Idealize.SL.Sem
open Idealize.ShloMosaic.StableHlo
open Cert.KernelIdeal Cert.KernelIdeal.Gen
open Cert.Hop (rt lt lt_rt rt_lt)
open Cert.Whole

variable (m : (ℓ : Loc nD τ sig) → Buf (Elt Ideal) ℓ)

/-- The chunk that is picked, at an index. -/
theorem pick_apply (p : Vec Ideal S4x1024x8192 .bf16) (k : Fin 4) (r : Fin 1024) (j : Fin 8192) :
    pick p k (ix2 r j) = p (ix3 k r j) := by
  have hs : S4x1024x8192.Slices ![k.val, 0, 0] S1x1024x8192 := by revert k; decide
  unfold pick dynV
  rw [dynamicSlice_eq_extract S1x1024x8192 p _ _ ![k.val, 0, 0] hs ?_]
  · rw [shapeCast_apply _ _ _ (ix3 (0 : Fin 1) r j) ?_]
    · refine extractStridedSlice_apply _ _ _ _ _ fun a => ?_
      match a with
      | ⟨0, _⟩ => simp
      | ⟨1, _⟩ => simp
      | ⟨2, _⟩ => simp
    · rw [Shape.rowMajor_val_three, Shape.rowMajor_val_two]
      simp
  · intro a
    match a with
    | ⟨0, _⟩ =>
      show (Scalar.select (IntOp.cmpi .slt (BitVec.ofNat 32 k.val) 0#32) (IntOp.addi (BitVec.ofNat 32 k.val) 4#32) (BitVec.ofNat 32 k.val)).toInt = (k.val : Int)
      revert k; decide
    | ⟨1, _⟩ => rfl
    | ⟨2, _⟩ => rfl

/-- A device's columns of the left factor. -/
def lhs (d : Dev nD) : S4096x1024.Idx → EReal := m ((d.tc : Thread nD τ).loc main_arg0)

/-- A device's rows of the right factor. -/
def rhs (d : Dev nD) : S1024x8192.Idx → EReal := m ((d.tc : Thread nD τ).loc main_arg1)

/-- An entry of a device's local product. -/
theorem part_apply (d : Dev nD) (k : Fin 4) (r : Fin 1024) (j : Fin 8192) :
    part m d (ix3 k r j) = ∑ q : Fin 1024, lhs m d (ix2 (row k r) q) * rhs m d (ix2 q j) := by
  refine (shapeCast_apply (α := EReal) (Host.dotGeneral (F := Ideal) (φ₁ := .f32) (φ₂ := .f32) dot_S4096x1024_S1024x8192_S4096x8192_1_0_0_1_n_n none (lhs m d) (rhs m d))
    shapeCasts_S4096x8192_S4x1024x8192 (ix3 k r j) (ix2 (row k r) j) ?_).trans ?_
  · rw [Shape.rowMajor_val_three, Shape.rowMajor_val_two]
    rfl
  · exact dotGeneral_plain_apply (φ₁ := .f32) (φ₂ := .f32) none (lhs m d) (rhs m d) (row k r) j

/-- Column `j` of the left half. -/
def colL (j : Fin 4096) : Fin 8192 := ⟨j.val, by omega⟩

/-- Column `j` of the right half. -/
def colR (j : Fin 4096) : Fin 8192 := ⟨4096 + j.val, by omega⟩

theorem halfL_apply (a : Vec Ideal S1024x8192 .bf16) (r : Fin 1024) (j : Fin 4096) : halfL a (ix2 r j) = a (ix2 r (colL j)) := by
  refine extractStridedSlice_apply _ _ _ _ _ fun x => ?_
  match x with
  | ⟨0, _⟩ => simp
  | ⟨1, _⟩ => simp [colL]

theorem halfR_apply (a : Vec Ideal S1024x8192 .bf16) (r : Fin 1024) (j : Fin 4096) : halfR a (ix2 r j) = a (ix2 r (colR j)) := by
  refine extractStridedSlice_apply _ _ _ _ _ fun x => ?_
  match x with
  | ⟨0, _⟩ => simp
  | ⟨1, _⟩ => simp [colR]

/-- The sum over the devices, taken rightwards around the ring from any of them. -/
theorem ring_left (f : Fin 4 → EReal) (c : Fin 4) : ((f (lt (lt (lt c))) + f (lt (lt c))) + f (lt c)) + f c = ∑ d : Fin 4, f d := by
  rw [Fin.sum_univ_four]
  have h : ∀ c : Fin 4, c = 0 ∨ c = 1 ∨ c = 2 ∨ c = 3 := by decide
  rcases h c with rfl | rfl | rfl | rfl
  · show f 1 + f 2 + f 3 + f 0 = _; ac_rfl
  · show f 2 + f 3 + f 0 + f 1 = _; ac_rfl
  · show f 3 + f 0 + f 1 + f 2 = _; ac_rfl
  · rfl

/-- The sum over the devices, taken leftwards around the ring from any of them. -/
theorem ring_right (f : Fin 4 → EReal) (c : Fin 4) : ((f (rt (rt (rt c))) + f (rt (rt c))) + f (rt c)) + f c = ∑ d : Fin 4, f d := by
  rw [Fin.sum_univ_four]
  have h : ∀ c : Fin 4, c = 0 ∨ c = 1 ∨ c = 2 ∨ c = 3 := by decide
  rcases h c with rfl | rfl | rfl | rfl
  · show f 3 + f 2 + f 1 + f 0 = _; ac_rfl
  · show f 0 + f 3 + f 2 + f 1 = _; ac_rfl
  · show f 1 + f 0 + f 3 + f 2 = _; ac_rfl
  · show f 2 + f 1 + f 0 + f 3 = _; ac_rfl

theorem upL (c : Dev nD) : up (lt (lt (lt c))) 3 = c ∧ up (lt (lt c)) 2 = c ∧ up (lt c) 1 = c ∧ up c 4 = c := by
  revert c; decide

theorem upR (c : Dev nD) : up (rt (rt (rt c))) 1 = c ∧ up (rt (rt c)) 2 = c ∧ up (rt c) 3 = c ∧ up c 4 = c := by
  revert c; decide

/-- What a device has summed of the left half, at an index. -/
theorem sumL3_apply (c : Dev nD) (r : Fin 1024) (j : Fin 4096) :
    sumL3 m c (ix2 r j) = ∑ d : Fin 4, (part m d (ix3 (c : Fin 4) r (colL j)) : EReal) := by
  obtain ⟨h0, h1, h2, h3⟩ := upL c
  show ((halfL (pick (part m (lt (lt (lt c)))) (up (lt (lt (lt c))) 3)) (ix2 r j) + halfL (pick (part m (lt (lt c))) (up (lt (lt c)) 2)) (ix2 r j))
    + halfL (pick (part m (lt c)) (up (lt c) 1)) (ix2 r j) : EReal) + halfL (pick (part m c) (up c 4)) (ix2 r j) = _
  rw [h0, h1, h2, h3]
  simp only [halfL_apply, pick_apply]
  exact ring_left (fun d => part m d (ix3 (c : Fin 4) r (colL j))) c

/-- What a device has summed of the right half, at an index. -/
theorem sumR3_apply (c : Dev nD) (r : Fin 1024) (j : Fin 4096) :
    sumR3 m c (ix2 r j) = ∑ d : Fin 4, (part m d (ix3 (c : Fin 4) r (colR j)) : EReal) := by
  obtain ⟨h0, h1, h2, h3⟩ := upR c
  show ((halfR (pick (part m (rt (rt (rt c)))) (up (rt (rt (rt c))) 1)) (ix2 r j) + halfR (pick (part m (rt (rt c))) (up (rt (rt c)) 2)) (ix2 r j))
    + halfR (pick (part m (rt c)) (up (rt c) 3)) (ix2 r j) : EReal) + halfR (pick (part m c) (up c 4)) (ix2 r j) = _
  rw [h0, h1, h2, h3]
  simp only [halfR_apply, pick_apply]
  exact ring_right (fun d => part m d (ix3 (c : Fin 4) r (colR j))) c

/-- A device's chunk at an index. -/
theorem chunk_apply (c : Dev nD) (r : Fin 1024) (j : Fin 8192) :
    chunk m c (ix2 r j) = max (∑ d : Fin 4, (part m d (ix3 (c : Fin 4) r j) : EReal)) 0 := by
  show max (concatenate S1024x8192 1 [⟨S1024x4096, sumL3 m c⟩, ⟨S1024x4096, sumR3 m c⟩] concatenates_S1024x4096_S1024x4096_S1024x8192_d1 (ix2 r j) : EReal)
    (Ideal.ofBits .f32 0x00000000#32) = _
  rw [word0]
  congr 1
  by_cases hj : j.val < 4096
  · rw [concatenate_pair_apply_left (s₁ := S1024x4096) (s₂ := S1024x4096) (1 : Fin S1024x8192.rank) _ _ _ _ rfl (ix2 (n1 := 4096) r ⟨j.val, hj⟩) (fun b => by
      match b with
      | ⟨0, _⟩ => rfl
      | ⟨1, _⟩ => rfl)]
    exact sumL3_apply m c r ⟨j.val, hj⟩
  · rw [concatenate_pair_apply_right (s₁ := S1024x4096) (s₂ := S1024x4096) (1 : Fin S1024x8192.rank) _ _ _ _ rfl rfl (ix2 (n1 := 4096) r ⟨j.val - 4096, by omega⟩) (fun b hb => by
      match b with
      | ⟨0, _⟩ => rfl
      | ⟨1, _⟩ => exact absurd rfl hb) (by show j.val - 4096 + 4096 = j.val; omega)]
    rw [sumR3_apply]
    have : colR ⟨j.val - 4096, by omega⟩ = j := Fin.ext (by show 4096 + (j.val - 4096) = j.val; omega)
    rw [this]

end Cert.KernelIdeal.Talk
-- ==== Proof.KernelIdeal.Result.lean ====
/-
  The kernel's result over the extended reals: on every device, each entry of the relu of the whole product over the scale,
  times the scale.
-/
module

public import proofs.«01_k».proof.Proof.KernelIdeal.Entry
public import Idealize.ShloMosaic.Lib.Layout

@[expose] public section

set_option Elab.async false
set_option maxRecDepth 4000

noncomputable section

namespace Cert.KernelIdeal.Talk

open Idealize.ShloMosaic hiding ix0 ix2 ix3 eq_ix2 eq_ix3
open Idealize.ShloMosaic.TcCoe
open Idealize.ShloMosaic.ValueIdx
open Idealize.SL.Sem
open Idealize.ShloMosaic.StableHlo
open Cert.KernelIdeal Cert.KernelIdeal.Gen
open Cert.Whole

variable (m : (ℓ : Loc nD τ sig) → Buf (Elt Ideal) ℓ)
variable (A : (⟨2, ![4096, 4096]⟩ : Shape).Idx → EReal) (B : (⟨2, ![4096, 8192]⟩ : Shape).Idx → EReal)

/-- Every device holds its columns of the one factor and its rows of the other. -/
def Cut : Prop := ∀ d : Dev nD, lhs m d = Layout.block ⟨2, ![4096, 1024]⟩ ⟨2, ![4096, 4096]⟩ 1 4 d A
  ∧ rhs m d = Layout.block ⟨2, ![1024, 8192]⟩ ⟨2, ![4096, 8192]⟩ 0 4 d B

variable {m A B} (h : Cut m A B)
include h

theorem lhs_apply (d : Dev nD) (r : Fin 4096) (q : Fin 1024) : lhs m d (ix2 r q) = A (ix2 r (row d q)) := by
  rw [(h d).1]
  refine congrArg A (funext fun a => Fin.ext ?_)
  match a with
  | ⟨0, _⟩ => rfl
  | ⟨1, _⟩ => rfl

theorem rhs_apply (d : Dev nD) (q : Fin 1024) (j : Fin 8192) : rhs m d (ix2 q j) = B (ix2 (row d q) j) := by
  rw [(h d).2]
  refine congrArg B (funext fun a => Fin.ext ?_)
  match a with
  | ⟨0, _⟩ => rfl
  | ⟨1, _⟩ => rfl

/-- A device's chunk is its rows of the relu of the whole product. -/
theorem chunk_full (c : Dev nD) (r : Fin 1024) (j : Fin 8192) : chunk m c (ix2 r j) = full A B (ix2 (row c r) j) := by
  rw [chunk_apply]
  refine congrArg (fun x : EReal => max x 0) ?_
  refine Eq.trans ?_ (sum_cut _).symm
  refine Finset.sum_congr rfl fun d _ => ?_
  rw [part_apply]
  refine Finset.sum_congr rfl fun q _ => ?_
  rw [lhs_apply h, rhs_apply h]
  rfl

omit h in
/-- Every entry of a device's tile is the greatest entry of its chunk. -/
theorem tile_apply (c : Dev nD) (i : S8x128.Idx) : tile m c i = top (chunk m c : S1024x8192.Idx → EReal) := by
  unfold tile
  rw [broadcastInDim_apply _ _ _ _ ix0 (fun a => a.elim0)]
  exact reduce_top (φ := .f32) _ _ _ _ negInf _

/-- The greatest entry of the four tiles is the greatest entry of the relu of the whole product. -/
theorem top_tiles : top (Rows.stack (tile m) : S4x8x128.Idx → EReal) = top (full A B) := by
  refine le_antisymm (top_le _ _ fun i => ?_) (top_le _ _ fun i => ?_)
  · obtain ⟨c, a, b, rfl⟩ : ∃ (c : Fin 4) (a : Fin 8) (b : Fin 128), i = ix3 c a b := ⟨i 0, i 1, i 2, eq_ix3 i⟩
    refine (le_of_eq (tile_apply (m := m) c (ix2 a b))).trans (top_le _ _ fun k => ?_)
    obtain ⟨r, j, rfl⟩ : ∃ (r : Fin 1024) (j : Fin 8192), k = ix2 r j := ⟨k 0, k 1, eq_ix2 k⟩
    rw [chunk_full h]
    exact le_top _ _
  · obtain ⟨x, j, rfl⟩ : ∃ (x : Fin 4096) (j : Fin 8192), i = ix2 x j := ⟨i 0, i 1, eq_ix2 i⟩
    obtain ⟨c, r, rfl⟩ := row_surj x
    rw [← chunk_full h c r j]
    refine (le_top (chunk m c : S1024x8192.Idx → EReal) (ix2 r j)).trans ?_
    rw [← tile_apply c (ix2 0 0)]
    exact le_top (Rows.stack (tile m) : S4x8x128.Idx → EReal) (ix3 c 0 0)

theorem scale_apply (j : S_.Idx) : scale m j = scaleOf A B := by
  show Ideal.div (Host.reduce _ (Rows.stack (tile m)) _ _ _ j) (Ideal.ofBits .f32 0x43E00000#32) = _
  rw [reduce_top (φ := .f32) _ _ _ _ negInf, top_tiles h, word448]
  rfl

theorem quot_apply (c : Dev nD) (r : Fin 1024) (j : Fin 8192) :
    quot m c (ix2 r j) = Ideal.div (full A B (ix2 (row c r) j)) (scaleOf A B) := by
  show Ideal.div (chunk m c (ix2 r j)) (broadcastInDim S1024x8192 ![] bcast_S_S1024x8192 (scale m) (ix2 r j)) = _
  rw [broadcastInDim_apply _ _ _ _ ix0 (fun a => a.elim0), scale_apply h, chunk_full h]

/-- The kernel's result. -/
theorem result_spec : (result m : S4096x8192.Idx → EReal) = spec A B := by
  funext i
  obtain ⟨x, j, rfl⟩ : ∃ (x : Fin 4096) (j : Fin 8192), i = ix2 x j := ⟨i 0, i 1, eq_ix2 i⟩
  obtain ⟨c, r, rfl⟩ := row_surj x
  show (shapeCast S4096x8192 (Rows.stack (quot m)) shapeCasts_S4x1024x8192_S4096x8192 (ix2 (row c r) j) : EReal)
    * broadcastInDim S4096x8192 ![] bcast_S_S4096x8192 (scale m) (ix2 (row c r) j) = _
  rw [broadcastInDim_apply _ _ _ _ ix0 (fun a => a.elim0), scale_apply h]
  refine congrArg (· * scaleOf A B) ?_
  refine (shapeCast_apply _ _ _ (ix3 c r j) ?_).trans (quot_apply h c r j)
  rw [Shape.rowMajor_val_three, Shape.rowMajor_val_two]
  rfl

end Cert.KernelIdeal.Talk
-- ==== Proof.Snap.lean ====
/-
  The reference's result over the extended reals: each entry of the relu of the whole product over the scale, times the
  scale.
-/
module

public import proofs.«01_k».proof.Proof.Gen.ReferenceIdeal.Run
public import proofs.«01_k».proof.Proof.Whole
public import Idealize.ShloMosaic.Lib.Pipeline.Value
public import Idealize.ShloMosaic.Lib.Pipeline.ValueKit
public import Idealize.ShloMosaic.Lib.StableHlo.RunClose

@[expose] public section

set_option Elab.async false
set_option maxRecDepth 4000

noncomputable section

namespace Cert.ReferenceIdeal.Value

open Idealize.ShloMosaic hiding ix0 ix2 ix3 eq_ix2
open Idealize.ShloMosaic.TcCoe
open Idealize.ShloMosaic.ValueIdx
open Idealize.SL.Sem
open Idealize.ShloMosaic.StableHlo
open Cert.ReferenceIdeal Cert.ReferenceIdeal.Gen
open Cert.Whole

section Host

variable {F : FTy → Type} [FloatOps F]

variable (m : (ℓ : Loc nD τ sig) → Buf (Elt F) ℓ)

/-- The relu of the product, as the host computes it. -/
def relu (c : Dev nD) : Vec F S4096x8192 .f32 :=
  maximumf (Host.dotGeneral dot_S4096x4096_S4096x8192_S4096x8192_1_0_0_1_n_n none (m ((c.tc : Thread nD τ).loc main_arg0)) (m ((c.tc : Thread nD τ).loc main_arg1)))
    (broadcastInDim S4096x8192 ![] bcast_S_S4096x8192 (constant S_ .f32 0x00000000#32))

/-- The scale, as the host computes it. -/
def scale (c : Dev nD) : Vec F S_ .f32 :=
  Host.divf (Host.reduce FloatOps.maximumf (Host.absf (relu m c)) (constant S_ .f32 0xFF800000#32) reducesTo_S4096x8192_S_d0_1 h_S_)
    (constant S_ .f32 0x43E00000#32)

/-- The quotient by the scale, as the host computes it. -/
def quotient (c : Dev nD) : Vec F S4096x8192 .f32 :=
  Host.divf (relu m c) (broadcastInDim S4096x8192 ![] bcast_S_S4096x8192 (scale m c))

/-- The clipped absolute value of the quotient, as the host computes it. -/
def clipped (c : Dev nD) : Vec F S4096x8192 .f32 :=
  minimumf (Host.absf (quotient m c)) (broadcastInDim S4096x8192 ![] bcast_S_S4096x8192 (constant S_ .f32 0x43E00000#32))

/-- What the region reads. -/
theorem V0_v10 (c : Dev nD) : Gen.V0 m c main_v10 = clipped m c := by
  unfold Gen.V0
  simp only [Gen.hostOps0, List.flatten_cons, List.flatten_nil, List.append_nil, List.cons_append, List.nil_append]
  after_results_simp_entrywise
  rfl

/-- What the region leaves: the clipped absolute value rounded to eight bits and widened back. -/
theorem reg_eq (c : Dev nD) : reg_main_v11 m c
    = extf .f32 (truncf .fp8e4m3 (clipped m c : FVec F S4096x8192 .f32) bitsLt_fp8e4m3_f32) bitsLt_fp8e4m3_f32 := by
  rw [← V0_v10]
  refine (Gen.dats m 0 c).arrAt_eq_of_covers 1 _ (by decide +kernel) fun t hf y => ?_
  blk_simp
  rw [Gen.after0_1]
  unfold Gen.out0_1 Gen.k0_pay1
  have hz : (![0, 0] : Fin 2 → ℕ) = fun _ => 0 := by decide
  rw [View.canon_unit_zero hz, View.ld_unit_zero hz, shapeCast_self]
  unfold Gen.iblk
  rfl

end Host

variable (m : (ℓ : Loc nD τ sig) → Buf (Elt Ideal) ℓ)

/-- The left factor. -/
def lhs (c : Dev nD) : S4096x4096.Idx → EReal := m ((c.tc : Thread nD τ).loc main_arg0)

/-- The right factor. -/
def rhs (c : Dev nD) : S4096x8192.Idx → EReal := m ((c.tc : Thread nD τ).loc main_arg1)

theorem relu_full (c : Dev nD) : (relu m c : S4096x8192.Idx → EReal) = full (lhs m c) (rhs m c) := by
  funext i
  obtain ⟨x, j, rfl⟩ : ∃ (x : Fin 4096) (j : Fin 8192), i = ix2 x j := ⟨i 0, i 1, eq_ix2 i⟩
  show max (Host.dotGeneral (F := Ideal) (φ₁ := .f32) (φ₂ := .f32) dot_S4096x4096_S4096x8192_S4096x8192_1_0_0_1_n_n none (lhs m c) (rhs m c) (ix2 x j) : EReal)
    (Ideal.ofBits .f32 0x00000000#32) = _
  rw [word0]
  exact congrArg (fun x : EReal => max x 0) (StackMember.dotGeneral_plain_apply (φ₁ := .f32) (φ₂ := .f32) none (lhs m c) (rhs m c) x j)

theorem scale_apply (c : Dev nD) (j : S_.Idx) : scale m c j = scaleOf (lhs m c) (rhs m c) := by
  show Ideal.div (Host.reduce _ (Host.absf (relu m c)) _ _ _ j) (Ideal.ofBits .f32 0x43E00000#32) = _
  have ha : (Host.absf (relu m c) : S4096x8192.Idx → EReal) = full (lhs m c) (rhs m c) := by
    funext i
    show max (relu m c i : EReal) (-(relu m c i : EReal)) = _
    rw [relu_full]
    exact abs_full _ _ i
  rw [reduce_top (φ := .f32) _ _ _ _ negInf, ha, word448]
  rfl

theorem quotient_apply (c : Dev nD) (i : S4096x8192.Idx) :
    quotient m c i = Ideal.div (full (lhs m c) (rhs m c) i) (scaleOf (lhs m c) (rhs m c)) := by
  show Ideal.div (relu m c i) (broadcastInDim S4096x8192 ![] bcast_S_S4096x8192 (scale m c) i) = _
  rw [broadcastInDim_apply _ _ _ _ ix0 (fun a => a.elim0), scale_apply, relu_full]

/-- The reference's result. -/
theorem result_spec (c : Dev nD) :
    (mulf (mulf (Host.sign (quotient m c : FVec Ideal S4096x8192 .f32)) (reg_main_v11 m c : FVec Ideal S4096x8192 .f32))
      (broadcastInDim S4096x8192 ![] bcast_S_S4096x8192 (scale m c)) : FVec Ideal S4096x8192 .f32) = spec (lhs m c) (rhs m c) := by
  funext i
  rw [reg_eq]
  show Ideal.sign (quotient m c i) * min (max (quotient m c i : EReal) (-(quotient m c i : EReal))) (Ideal.ofBits .f32 0x43E00000#32)
    * broadcastInDim S4096x8192 ![] bcast_S_S4096x8192 (scale m c) i = _
  rw [broadcastInDim_apply _ _ _ _ ix0 (fun a => a.elim0), scale_apply, quotient_apply, word448]
  exact signed_quotient _ _ i

end Cert.ReferenceIdeal.Value
-- ==== Proof.lean ====
module

public import proofs.«01_k».proof.Defs
public import proofs.«01_k».proof.Proof.Kernel.Run
public import proofs.«01_k».proof.Proof.KernelIdeal.Run
public import proofs.«01_k».proof.Proof.KernelIdeal.Result
public import proofs.«01_k».proof.Proof.Gen.ReferenceIdeal.Frame
public import proofs.«01_k».proof.Proof.Gen.ReferenceIdeal.Run
public import proofs.«01_k».proof.Proof.Snap

@[expose] public section

noncomputable section

namespace Cert.Proof

open Idealize.ShloMosaic Idealize.SL.Sem

/-- Over the extended reals both programs leave each entry of the relu of the whole product over the scale, times the
    scale. -/
theorem algebraic : @Cert.algebraic_KernelIdeal_ReferenceIdeal Cert.KernelIdeal.Gen.facts Cert.ReferenceIdeal.Gen.facts := by
  intro m g m' g' _ h
  refine ⟨Cert.Whole.spec (Cert.ReferenceIdeal.Value.lhs m' 0) (Cert.ReferenceIdeal.Value.rhs m' 0), ?_, ?_⟩
  · refine (θ_run _ _ _).mono (fun _ hr c => ⟨?_, (hr.1 c).2⟩) (Cert.KernelIdeal.Talk.run m g)
    refine (hr.1 c).1.trans ((congrFun (Cert.KernelIdeal.Talk.eq44 m c) _).trans ((Cert.KernelIdeal.Talk.T44_v77 m c).trans ?_))
    exact Cert.KernelIdeal.Talk.result_spec (fun d => h d)
  · refine (θ_run _ _ _).mono (fun _ hr => ⟨?_, (hr 0).2⟩) (Cert.ReferenceIdeal.Value.run m' g')
    exact (hr 0).1.trans (Cert.ReferenceIdeal.Value.result_spec m' 0)

theorem claim : Cert.Claim :=
  ⟨Cert.Kernel.Gen.facts, Cert.KernelIdeal.Gen.facts, Cert.ReferenceIdeal.Gen.facts,
    fun m g _ => (θ_run _ _ _).mono (fun _ h => ⟨fun c => (h.1 c).2, h.2⟩) (Cert.Kernel.Talk.run m g),
    fun m g _ => (θ_run _ _ _).mono (fun _ h => ⟨fun c => (h.1 c).2, h.2⟩) (Cert.KernelIdeal.Talk.run m g),
    fun m g _ => Cert.ReferenceIdeal.Gen.frame m g, trivial, algebraic⟩

end Cert.Proof
